-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Down [hPre_ranges_down : Cert.Pre_ranges_down.Facts] (m : (ℓ : Loc Cert.Down.nD Cert.Down.τ Cert.Down.sig) → Buf (Elt Bits) ℓ) : Prop :=
  ∀ c : Dev Cert.Down.nD,
    (Cert.Pre_ranges_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))) = (fun _ => 1#1)

def Pre_DownIdeal [hPre_ranges_down : Cert.Pre_ranges_down.Facts] (m : (ℓ : Loc Cert.DownIdeal.nD Cert.DownIdeal.τ Cert.DownIdeal.sig) → Buf (Elt Ideal) ℓ) : Prop :=
  ∀ c : Dev Cert.DownIdeal.nD,
    (Cert.Pre_ranges_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownRefIdeal [hPre_ranges_down : Cert.Pre_ranges_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_ranges_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))) = (fun _ => 1#1)

def Pre_Up [hPre_ranges_up : Cert.Pre_ranges_up.Facts] (m : (ℓ : Loc Cert.Up.nD Cert.Up.τ Cert.Up.sig) → Buf (Elt Bits) ℓ) : Prop :=
  ∀ c : Dev Cert.Up.nD,
    (Cert.Pre_ranges_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5))) = (fun _ => 1#1)

def Pre_UpIdeal [hPre_ranges_up : Cert.Pre_ranges_up.Facts] (m : (ℓ : Loc Cert.UpIdeal.nD Cert.UpIdeal.τ Cert.UpIdeal.sig) → Buf (Elt Ideal) ℓ) : Prop :=
  ∀ c : Dev Cert.UpIdeal.nD,
    (Cert.Pre_ranges_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpRefIdeal [hPre_ranges_up : Cert.Pre_ranges_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_ranges_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))) = (fun _ => 1#1)

def Pre_Cs (m : (ℓ : Loc Cert.Cs.nD Cert.Cs.τ Cert.Cs.sig) → Buf (Elt Bits) ℓ) : Prop :=
  True

def Pre_CsIdeal (m : (ℓ : Loc Cert.CsIdeal.nD Cert.CsIdeal.τ Cert.CsIdeal.sig) → Buf (Elt Ideal) ℓ) : Prop :=
  True

def Pre_CsRefIdeal (m : (ℓ : Loc Cert.CsRefIdeal.nD Cert.CsRefIdeal.τ Cert.CsRefIdeal.sig) → Buf (Elt Ideal) ℓ) : Prop :=
  True

def Pre_Cp (m : (ℓ : Loc Cert.Cp.nD Cert.Cp.τ Cert.Cp.sig) → Buf (Elt Bits) ℓ) : Prop :=
  True

def Pre_CpIdeal (m : (ℓ : Loc Cert.CpIdeal.nD Cert.CpIdeal.τ Cert.CpIdeal.sig) → Buf (Elt Ideal) ℓ) : Prop :=
  True

def Pre_CpRefIdeal (m : (ℓ : Loc Cert.CpRefIdeal.nD Cert.CpRefIdeal.τ Cert.CpRefIdeal.sig) → Buf (Elt Ideal) ℓ) : Prop :=
  True

def Pre_Ma (m : (ℓ : Loc Cert.Ma.nD Cert.Ma.τ Cert.Ma.sig) → Buf (Elt Bits) ℓ) : Prop :=
  True

def Pre_MaIdeal (m : (ℓ : Loc Cert.MaIdeal.nD Cert.MaIdeal.τ Cert.MaIdeal.sig) → Buf (Elt Ideal) ℓ) : Prop :=
  True

def Pre_MaIdeal_finite_ma [hPre_finite_ma : Cert.Pre_finite_ma.Facts] (m : (ℓ : Loc Cert.MaIdeal.nD Cert.MaIdeal.τ Cert.MaIdeal.sig) → Buf (Elt Ideal) ℓ) : Prop :=
  ∀ c : Dev Cert.MaIdeal.nD,
    (Cert.Pre_finite_ma.fn (F := Ideal) (m ((c.tc : Thread Cert.MaIdeal.nD Cert.MaIdeal.τ).loc Cert.MaIdeal.main_arg0)) (m ((c.tc : Thread Cert.MaIdeal.nD Cert.MaIdeal.τ).loc Cert.MaIdeal.main_arg1))) = (fun _ => 1#1)

def Pre_MaRefIdeal (m : (ℓ : Loc Cert.MaRefIdeal.nD Cert.MaRefIdeal.τ Cert.MaRefIdeal.sig) → Buf (Elt Ideal) ℓ) : Prop :=
  True

def Pre_MaRefIdeal_finite_ma [hPre_finite_ma : Cert.Pre_finite_ma.Facts] (m : (ℓ : Loc Cert.MaRefIdeal.nD Cert.MaRefIdeal.τ Cert.MaRefIdeal.sig) → Buf (Elt Ideal) ℓ) : Prop :=
  ∀ c : Dev Cert.MaRefIdeal.nD,
    (Cert.Pre_finite_ma.fn (F := Ideal) (m ((c.tc : Thread Cert.MaRefIdeal.nD Cert.MaRefIdeal.τ).loc Cert.MaRefIdeal.main_arg0)) (m ((c.tc : Thread Cert.MaRefIdeal.nD Cert.MaRefIdeal.τ).loc Cert.MaRefIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Down [hDown : Cert.Down.Facts] [hPre_ranges_down : Cert.Pre_ranges_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] [hPre_ranges_down : Cert.Pre_ranges_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] [hPre_ranges_down : Cert.Pre_ranges_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Up [hUp : Cert.Up.Facts] [hPre_ranges_up : Cert.Pre_ranges_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] [hPre_ranges_up : Cert.Pre_ranges_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] [hPre_ranges_up : Cert.Pre_ranges_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_Cs [hCs : Cert.Cs.Facts] : Prop :=
  ∀ (m : (ℓ : Loc Cert.Cs.nD Cert.Cs.τ Cert.Cs.sig) → Buf (Elt Bits) ℓ) (g : Dev Cert.Cs.nD → PrngReg), Pre_Cs m →
    θ_run (Cert.Cs.defs (F := Bits)) (onTc (τ := Cert.Cs.τ) (Cert.Cs.main (F := Bits))) ⟨m, fun _ => 0, g⟩ (fun r => (∀ c : Dev Cert.Cs.nD,
      r.2.mem ((c.tc : Thread Cert.Cs.nD Cert.Cs.τ).loc Cert.Cs.main_arg0) = m ((c.tc : Thread Cert.Cs.nD Cert.Cs.τ).loc Cert.Cs.main_arg0)
      ∧ r.2.mem ((c.tc : Thread Cert.Cs.nD Cert.Cs.τ).loc Cert.Cs.main_arg1) = m ((c.tc : Thread Cert.Cs.nD Cert.Cs.τ).loc Cert.Cs.main_arg1)
      ∧ r.2.mem ((c.tc : Thread Cert.Cs.nD Cert.Cs.τ).loc Cert.Cs.main_arg2) = m ((c.tc : Thread Cert.Cs.nD Cert.Cs.τ).loc Cert.Cs.main_arg2)
      ∧ r.2.mem ((c.tc : Thread Cert.Cs.nD Cert.Cs.τ).loc Cert.Cs.main_arg3) = m ((c.tc : Thread Cert.Cs.nD Cert.Cs.τ).loc Cert.Cs.main_arg3)
      ∧ r.2.mem ((c.tc : Thread Cert.Cs.nD Cert.Cs.τ).loc Cert.Cs.main_arg4) = m ((c.tc : Thread Cert.Cs.nD Cert.Cs.τ).loc Cert.Cs.main_arg4)
      ∧ r.2.mem ((c.tc : Thread Cert.Cs.nD Cert.Cs.τ).loc Cert.Cs.main_arg5) = m ((c.tc : Thread Cert.Cs.nD Cert.Cs.τ).loc Cert.Cs.main_arg5)
      ∧ r.2.mem ((c.tc : Thread Cert.Cs.nD Cert.Cs.τ).loc Cert.Cs.main_arg6) = m ((c.tc : Thread Cert.Cs.nD Cert.Cs.τ).loc Cert.Cs.main_arg6))
      ∧ r.2.sem = fun _ => 0)

def quiescent_CsIdeal [hCsIdeal : Cert.CsIdeal.Facts] : Prop :=
  ∀ (m : (ℓ : Loc Cert.CsIdeal.nD Cert.CsIdeal.τ Cert.CsIdeal.sig) → Buf (Elt Ideal) ℓ) (g : Dev Cert.CsIdeal.nD → PrngReg), Pre_CsIdeal m →
    θ_run (Cert.CsIdeal.defs (F := Ideal)) (onTc (τ := Cert.CsIdeal.τ) (Cert.CsIdeal.main (F := Ideal))) ⟨m, fun _ => 0, g⟩ (fun r => (∀ c : Dev Cert.CsIdeal.nD,
      r.2.mem ((c.tc : Thread Cert.CsIdeal.nD Cert.CsIdeal.τ).loc Cert.CsIdeal.main_arg0) = m ((c.tc : Thread Cert.CsIdeal.nD Cert.CsIdeal.τ).loc Cert.CsIdeal.main_arg0)
      ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
      ∧ r.2.mem ((c.tc : Thread Cert.CsIdeal.nD Cert.CsIdeal.τ).loc Cert.CsIdeal.main_arg2) = m ((c.tc : Thread Cert.CsIdeal.nD Cert.CsIdeal.τ).loc Cert.CsIdeal.main_arg2)
      ∧ r.2.mem ((c.tc : Thread Cert.CsIdeal.nD Cert.CsIdeal.τ).loc Cert.CsIdeal.main_arg3) = m ((c.tc : Thread Cert.CsIdeal.nD Cert.CsIdeal.τ).loc Cert.CsIdeal.main_arg3)
      ∧ r.2.mem ((c.tc : Thread Cert.CsIdeal.nD Cert.CsIdeal.τ).loc Cert.CsIdeal.main_arg4) = m ((c.tc : Thread Cert.CsIdeal.nD Cert.CsIdeal.τ).loc Cert.CsIdeal.main_arg4)
      ∧ r.2.mem ((c.tc : Thread Cert.CsIdeal.nD Cert.CsIdeal.τ).loc Cert.CsIdeal.main_arg5) = m ((c.tc : Thread Cert.CsIdeal.nD Cert.CsIdeal.τ).loc Cert.CsIdeal.main_arg5)
      ∧ r.2.mem ((c.tc : Thread Cert.CsIdeal.nD Cert.CsIdeal.τ).loc Cert.CsIdeal.main_arg6) = m ((c.tc : Thread Cert.CsIdeal.nD Cert.CsIdeal.τ).loc Cert.CsIdeal.main_arg6))
      ∧ r.2.sem = fun _ => 0)

def quiescent_CsRefIdeal [hCsRefIdeal : Cert.CsRefIdeal.Facts] : Prop :=
  ∀ (m : (ℓ : Loc Cert.CsRefIdeal.nD Cert.CsRefIdeal.τ Cert.CsRefIdeal.sig) → Buf (Elt Ideal) ℓ) (g : Dev Cert.CsRefIdeal.nD → PrngReg), Pre_CsRefIdeal m →
    θ_run (Cert.CsRefIdeal.defs (F := Ideal)) (onTc (τ := Cert.CsRefIdeal.τ) (Cert.CsRefIdeal.main (F := Ideal))) ⟨m, fun _ => 0, g⟩ (fun r => (∀ c : Dev Cert.CsRefIdeal.nD,
      r.2.mem ((c.tc : Thread Cert.CsRefIdeal.nD Cert.CsRefIdeal.τ).loc Cert.CsRefIdeal.main_arg0) = m ((c.tc : Thread Cert.CsRefIdeal.nD Cert.CsRefIdeal.τ).loc Cert.CsRefIdeal.main_arg0)
      ∧ r.2.mem ((c.tc : Thread Cert.CsRefIdeal.nD Cert.CsRefIdeal.τ).loc Cert.CsRefIdeal.main_arg1) = m ((c.tc : Thread Cert.CsRefIdeal.nD Cert.CsRefIdeal.τ).loc Cert.CsRefIdeal.main_arg1)
      ∧ r.2.mem ((c.tc : Thread Cert.CsRefIdeal.nD Cert.CsRefIdeal.τ).loc Cert.CsRefIdeal.main_arg2) = m ((c.tc : Thread Cert.CsRefIdeal.nD Cert.CsRefIdeal.τ).loc Cert.CsRefIdeal.main_arg2)
      ∧ r.2.mem ((c.tc : Thread Cert.CsRefIdeal.nD Cert.CsRefIdeal.τ).loc Cert.CsRefIdeal.main_arg3) = m ((c.tc : Thread Cert.CsRefIdeal.nD Cert.CsRefIdeal.τ).loc Cert.CsRefIdeal.main_arg3)
      ∧ r.2.mem ((c.tc : Thread Cert.CsRefIdeal.nD Cert.CsRefIdeal.τ).loc Cert.CsRefIdeal.main_arg4) = m ((c.tc : Thread Cert.CsRefIdeal.nD Cert.CsRefIdeal.τ).loc Cert.CsRefIdeal.main_arg4)
      ∧ r.2.mem ((c.tc : Thread Cert.CsRefIdeal.nD Cert.CsRefIdeal.τ).loc Cert.CsRefIdeal.main_arg5) = m ((c.tc : Thread Cert.CsRefIdeal.nD Cert.CsRefIdeal.τ).loc Cert.CsRefIdeal.main_arg5)
      ∧ r.2.mem ((c.tc : Thread Cert.CsRefIdeal.nD Cert.CsRefIdeal.τ).loc Cert.CsRefIdeal.main_arg6) = m ((c.tc : Thread Cert.CsRefIdeal.nD Cert.CsRefIdeal.τ).loc Cert.CsRefIdeal.main_arg6))
      ∧ r.2.sem = fun _ => 0)

def quiescent_Cp [hCp : Cert.Cp.Facts] : Prop :=
  ∀ (m : (ℓ : Loc Cert.Cp.nD Cert.Cp.τ Cert.Cp.sig) → Buf (Elt Bits) ℓ) (g : Dev Cert.Cp.nD → PrngReg), Pre_Cp m →
    θ_run (Cert.Cp.defs (F := Bits)) (onTc (τ := Cert.Cp.τ) (Cert.Cp.main (F := Bits))) ⟨m, fun _ => 0, g⟩ (fun r => (∀ c : Dev Cert.Cp.nD,
      r.2.mem ((c.tc : Thread Cert.Cp.nD Cert.Cp.τ).loc Cert.Cp.main_arg0) = m ((c.tc : Thread Cert.Cp.nD Cert.Cp.τ).loc Cert.Cp.main_arg0)
      ∧ r.2.mem ((c.tc : Thread Cert.Cp.nD Cert.Cp.τ).loc Cert.Cp.main_arg1) = m ((c.tc : Thread Cert.Cp.nD Cert.Cp.τ).loc Cert.Cp.main_arg1)
      ∧ r.2.mem ((c.tc : Thread Cert.Cp.nD Cert.Cp.τ).loc Cert.Cp.main_arg2) = m ((c.tc : Thread Cert.Cp.nD Cert.Cp.τ).loc Cert.Cp.main_arg2)
      ∧ r.2.mem ((c.tc : Thread Cert.Cp.nD Cert.Cp.τ).loc Cert.Cp.main_arg3) = m ((c.tc : Thread Cert.Cp.nD Cert.Cp.τ).loc Cert.Cp.main_arg3)
      ∧ r.2.mem ((c.tc : Thread Cert.Cp.nD Cert.Cp.τ).loc Cert.Cp.main_arg4) = m ((c.tc : Thread Cert.Cp.nD Cert.Cp.τ).loc Cert.Cp.main_arg4)
      ∧ r.2.mem ((c.tc : Thread Cert.Cp.nD Cert.Cp.τ).loc Cert.Cp.main_arg5) = m ((c.tc : Thread Cert.Cp.nD Cert.Cp.τ).loc Cert.Cp.main_arg5))
      ∧ r.2.sem = fun _ => 0)

def quiescent_CpIdeal [hCpIdeal : Cert.CpIdeal.Facts] : Prop :=
  ∀ (m : (ℓ : Loc Cert.CpIdeal.nD Cert.CpIdeal.τ Cert.CpIdeal.sig) → Buf (Elt Ideal) ℓ) (g : Dev Cert.CpIdeal.nD → PrngReg), Pre_CpIdeal m →
    θ_run (Cert.CpIdeal.defs (F := Ideal)) (onTc (τ := Cert.CpIdeal.τ) (Cert.CpIdeal.main (F := Ideal))) ⟨m, fun _ => 0, g⟩ (fun r => (∀ c : Dev Cert.CpIdeal.nD,
      r.2.mem ((c.tc : Thread Cert.CpIdeal.nD Cert.CpIdeal.τ).loc Cert.CpIdeal.main_arg0) = m ((c.tc : Thread Cert.CpIdeal.nD Cert.CpIdeal.τ).loc Cert.CpIdeal.main_arg0)
      ∧ r.2.mem ((c.tc : Thread Cert.CpIdeal.nD Cert.CpIdeal.τ).loc Cert.CpIdeal.main_arg1) = m ((c.tc : Thread Cert.CpIdeal.nD Cert.CpIdeal.τ).loc Cert.CpIdeal.main_arg1)
      ∧ r.2.mem ((c.tc : Thread Cert.CpIdeal.nD Cert.CpIdeal.τ).loc Cert.CpIdeal.main_arg2) = m ((c.tc : Thread Cert.CpIdeal.nD Cert.CpIdeal.τ).loc Cert.CpIdeal.main_arg2)
      ∧ r.2.mem ((c.tc : Thread Cert.CpIdeal.nD Cert.CpIdeal.τ).loc Cert.CpIdeal.main_arg3) = m ((c.tc : Thread Cert.CpIdeal.nD Cert.CpIdeal.τ).loc Cert.CpIdeal.main_arg3)
      ∧ r.2.mem ((c.tc : Thread Cert.CpIdeal.nD Cert.CpIdeal.τ).loc Cert.CpIdeal.main_arg4) = m ((c.tc : Thread Cert.CpIdeal.nD Cert.CpIdeal.τ).loc Cert.CpIdeal.main_arg4)
      ∧ r.2.mem ((c.tc : Thread Cert.CpIdeal.nD Cert.CpIdeal.τ).loc Cert.CpIdeal.main_arg5) = m ((c.tc : Thread Cert.CpIdeal.nD Cert.CpIdeal.τ).loc Cert.CpIdeal.main_arg5))
      ∧ r.2.sem = fun _ => 0)

def quiescent_CpRefIdeal [hCpRefIdeal : Cert.CpRefIdeal.Facts] : Prop :=
  ∀ (m : (ℓ : Loc Cert.CpRefIdeal.nD Cert.CpRefIdeal.τ Cert.CpRefIdeal.sig) → Buf (Elt Ideal) ℓ) (g : Dev Cert.CpRefIdeal.nD → PrngReg), Pre_CpRefIdeal m →
    θ_run (Cert.CpRefIdeal.defs (F := Ideal)) (onTc (τ := Cert.CpRefIdeal.τ) (Cert.CpRefIdeal.main (F := Ideal))) ⟨m, fun _ => 0, g⟩ (fun r => (∀ c : Dev Cert.CpRefIdeal.nD,
      r.2.mem ((c.tc : Thread Cert.CpRefIdeal.nD Cert.CpRefIdeal.τ).loc Cert.CpRefIdeal.main_arg0) = m ((c.tc : Thread Cert.CpRefIdeal.nD Cert.CpRefIdeal.τ).loc Cert.CpRefIdeal.main_arg0)
      ∧ r.2.mem ((c.tc : Thread Cert.CpRefIdeal.nD Cert.CpRefIdeal.τ).loc Cert.CpRefIdeal.main_arg1) = m ((c.tc : Thread Cert.CpRefIdeal.nD Cert.CpRefIdeal.τ).loc Cert.CpRefIdeal.main_arg1)
      ∧ r.2.mem ((c.tc : Thread Cert.CpRefIdeal.nD Cert.CpRefIdeal.τ).loc Cert.CpRefIdeal.main_arg2) = m ((c.tc : Thread Cert.CpRefIdeal.nD Cert.CpRefIdeal.τ).loc Cert.CpRefIdeal.main_arg2)
      ∧ r.2.mem ((c.tc : Thread Cert.CpRefIdeal.nD Cert.CpRefIdeal.τ).loc Cert.CpRefIdeal.main_arg3) = m ((c.tc : Thread Cert.CpRefIdeal.nD Cert.CpRefIdeal.τ).loc Cert.CpRefIdeal.main_arg3)
      ∧ r.2.mem ((c.tc : Thread Cert.CpRefIdeal.nD Cert.CpRefIdeal.τ).loc Cert.CpRefIdeal.main_arg4) = m ((c.tc : Thread Cert.CpRefIdeal.nD Cert.CpRefIdeal.τ).loc Cert.CpRefIdeal.main_arg4)
      ∧ r.2.mem ((c.tc : Thread Cert.CpRefIdeal.nD Cert.CpRefIdeal.τ).loc Cert.CpRefIdeal.main_arg5) = m ((c.tc : Thread Cert.CpRefIdeal.nD Cert.CpRefIdeal.τ).loc Cert.CpRefIdeal.main_arg5))
      ∧ r.2.sem = fun _ => 0)

def quiescent_Ma [hMa : Cert.Ma.Facts] : Prop :=
  ∀ (m : (ℓ : Loc Cert.Ma.nD Cert.Ma.τ Cert.Ma.sig) → Buf (Elt Bits) ℓ) (g : Dev Cert.Ma.nD → PrngReg), Pre_Ma m →
    θ_run (Cert.Ma.defs (F := Bits)) (onTc (τ := Cert.Ma.τ) (Cert.Ma.main (F := Bits))) ⟨m, fun _ => 0, g⟩ (fun r => (∀ c : Dev Cert.Ma.nD,
      r.2.mem ((c.tc : Thread Cert.Ma.nD Cert.Ma.τ).loc Cert.Ma.main_arg0) = m ((c.tc : Thread Cert.Ma.nD Cert.Ma.τ).loc Cert.Ma.main_arg0)
      ∧ r.2.mem ((c.tc : Thread Cert.Ma.nD Cert.Ma.τ).loc Cert.Ma.main_arg1) = m ((c.tc : Thread Cert.Ma.nD Cert.Ma.τ).loc Cert.Ma.main_arg1))
      ∧ r.2.sem = fun _ => 0)

def quiescent_MaIdeal [hMaIdeal : Cert.MaIdeal.Facts] : Prop :=
  ∀ (m : (ℓ : Loc Cert.MaIdeal.nD Cert.MaIdeal.τ Cert.MaIdeal.sig) → Buf (Elt Ideal) ℓ) (g : Dev Cert.MaIdeal.nD → PrngReg), Pre_MaIdeal m →
    θ_run (Cert.MaIdeal.defs (F := Ideal)) (onTc (τ := Cert.MaIdeal.τ) (Cert.MaIdeal.main (F := Ideal))) ⟨m, fun _ => 0, g⟩ (fun r => (∀ c : Dev Cert.MaIdeal.nD,
      r.2.mem ((c.tc : Thread Cert.MaIdeal.nD Cert.MaIdeal.τ).loc Cert.MaIdeal.main_arg0) = m ((c.tc : Thread Cert.MaIdeal.nD Cert.MaIdeal.τ).loc Cert.MaIdeal.main_arg0)
      ∧ r.2.mem ((c.tc : Thread Cert.MaIdeal.nD Cert.MaIdeal.τ).loc Cert.MaIdeal.main_arg1) = m ((c.tc : Thread Cert.MaIdeal.nD Cert.MaIdeal.τ).loc Cert.MaIdeal.main_arg1))
      ∧ r.2.sem = fun _ => 0)

def quiescent_MaIdeal_pre_finite_ma [hMaIdeal : Cert.MaIdeal.Facts] [hPre_finite_ma : Cert.Pre_finite_ma.Facts] : Prop :=
  ∀ (m : (ℓ : Loc Cert.MaIdeal.nD Cert.MaIdeal.τ Cert.MaIdeal.sig) → Buf (Elt Ideal) ℓ) (g : Dev Cert.MaIdeal.nD → PrngReg), Pre_MaIdeal_finite_ma m →
    θ_run (Cert.MaIdeal.defs (F := Ideal)) (onTc (τ := Cert.MaIdeal.τ) (Cert.MaIdeal.main (F := Ideal))) ⟨m, fun _ => 0, g⟩ (fun r => (∀ c : Dev Cert.MaIdeal.nD,
      r.2.mem ((c.tc : Thread Cert.MaIdeal.nD Cert.MaIdeal.τ).loc Cert.MaIdeal.main_arg0) = m ((c.tc : Thread Cert.MaIdeal.nD Cert.MaIdeal.τ).loc Cert.MaIdeal.main_arg0)
      ∧ r.2.mem ((c.tc : Thread Cert.MaIdeal.nD Cert.MaIdeal.τ).loc Cert.MaIdeal.main_arg1) = m ((c.tc : Thread Cert.MaIdeal.nD Cert.MaIdeal.τ).loc Cert.MaIdeal.main_arg1))
      ∧ r.2.sem = fun _ => 0)

def quiescent_MaRefIdeal [hMaRefIdeal : Cert.MaRefIdeal.Facts] : Prop :=
  ∀ (m : (ℓ : Loc Cert.MaRefIdeal.nD Cert.MaRefIdeal.τ Cert.MaRefIdeal.sig) → Buf (Elt Ideal) ℓ) (g : Dev Cert.MaRefIdeal.nD → PrngReg), Pre_MaRefIdeal m →
    θ_run (Cert.MaRefIdeal.defs (F := Ideal)) (onTc (τ := Cert.MaRefIdeal.τ) (Cert.MaRefIdeal.main (F := Ideal))) ⟨m, fun _ => 0, g⟩ (fun r => (∀ c : Dev Cert.MaRefIdeal.nD,
      r.2.mem ((c.tc : Thread Cert.MaRefIdeal.nD Cert.MaRefIdeal.τ).loc Cert.MaRefIdeal.main_arg0) = m ((c.tc : Thread Cert.MaRefIdeal.nD Cert.MaRefIdeal.τ).loc Cert.MaRefIdeal.main_arg0)
      ∧ r.2.mem ((c.tc : Thread Cert.MaRefIdeal.nD Cert.MaRefIdeal.τ).loc Cert.MaRefIdeal.main_arg1) = m ((c.tc : Thread Cert.MaRefIdeal.nD Cert.MaRefIdeal.τ).loc Cert.MaRefIdeal.main_arg1))
      ∧ r.2.sem = fun _ => 0)

def quiescent_MaRefIdeal_pre_finite_ma [hMaRefIdeal : Cert.MaRefIdeal.Facts] [hPre_finite_ma : Cert.Pre_finite_ma.Facts] : Prop :=
  ∀ (m : (ℓ : Loc Cert.MaRefIdeal.nD Cert.MaRefIdeal.τ Cert.MaRefIdeal.sig) → Buf (Elt Ideal) ℓ) (g : Dev Cert.MaRefIdeal.nD → PrngReg), Pre_MaRefIdeal_finite_ma m →
    θ_run (Cert.MaRefIdeal.defs (F := Ideal)) (onTc (τ := Cert.MaRefIdeal.τ) (Cert.MaRefIdeal.main (F := Ideal))) ⟨m, fun _ => 0, g⟩ (fun r => (∀ c : Dev Cert.MaRefIdeal.nD,
      r.2.mem ((c.tc : Thread Cert.MaRefIdeal.nD Cert.MaRefIdeal.τ).loc Cert.MaRefIdeal.main_arg0) = m ((c.tc : Thread Cert.MaRefIdeal.nD Cert.MaRefIdeal.τ).loc Cert.MaRefIdeal.main_arg0)
      ∧ r.2.mem ((c.tc : Thread Cert.MaRefIdeal.nD Cert.MaRefIdeal.τ).loc Cert.MaRefIdeal.main_arg1) = m ((c.tc : Thread Cert.MaRefIdeal.nD Cert.MaRefIdeal.τ).loc Cert.MaRefIdeal.main_arg1))
      ∧ r.2.sem = fun _ => 0)

def preserves_Kernel_KernelIdeal : Prop :=
  IdealRules.named_const.Statement Cert.KernelIdeal.κ "mask" .f32 0xF149F2CA#32 ⊥

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v4) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v14) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Down_DownIdeal : Prop :=
  True

def algebraic_DownIdeal_DownRefIdeal_on_used_down [hDownIdeal : Cert.DownIdeal.Facts] [hDownRefIdeal : Cert.DownRefIdeal.Facts] [hPre_ranges_down : Cert.Pre_ranges_down.Facts] [hOn_used_down : Cert.On_used_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          (∀ i : (⟨2, ![86016, 4096]⟩ : Shape).Idx, (Cert.On_used_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) i = 1#1 → r.2.mem ((c.tc : Thread Cert.DownIdeal.nD Cert.DownIdeal.τ).loc Cert.DownIdeal.main_v4) i = v0 c i)
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          (∀ i : (⟨2, ![86016, 4096]⟩ : Shape).Idx, (Cert.On_used_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) i = 1#1 → r.2.mem ((c.tc : Thread Cert.DownRefIdeal.nD Cert.DownRefIdeal.τ).loc Cert.DownRefIdeal.main_v22) i = v0 c i)
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Up_UpIdeal : Prop :=
  True

def algebraic_UpIdeal_UpRefIdeal_on_used_up [hUpIdeal : Cert.UpIdeal.Facts] [hUpRefIdeal : Cert.UpRefIdeal.Facts] [hPre_ranges_up : Cert.Pre_ranges_up.Facts] [hOn_used_up : Cert.On_used_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          (∀ i : (⟨2, ![86016, 4096]⟩ : Shape).Idx, (Cert.On_used_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) i = 1#1 → r.2.mem ((c.tc : Thread Cert.UpIdeal.nD Cert.UpIdeal.τ).loc Cert.UpIdeal.main_v4) i = v0 c i)
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          (∀ i : (⟨2, ![86016, 4096]⟩ : Shape).Idx, (Cert.On_used_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) i = 1#1 → r.2.mem ((c.tc : Thread Cert.UpRefIdeal.nD Cert.UpRefIdeal.τ).loc Cert.UpRefIdeal.main_v40) i = v0 c i)
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_Cs_CsIdeal : Prop :=
  True

def algebraic_CsIdeal_CsRefIdeal [hCsIdeal : Cert.CsIdeal.Facts] [hCsRefIdeal : Cert.CsRefIdeal.Facts] : Prop :=
  ∀ (m : (ℓ : Loc Cert.CsIdeal.nD Cert.CsIdeal.τ Cert.CsIdeal.sig) → Buf (Elt Ideal) ℓ) (g : Dev Cert.CsIdeal.nD → PrngReg)
    (m' : (ℓ : Loc Cert.CsRefIdeal.nD Cert.CsRefIdeal.τ Cert.CsRefIdeal.sig) → Buf (Elt Ideal) ℓ) (g' : Dev Cert.CsRefIdeal.nD → PrngReg), Pre_CsIdeal m →
    (∀ c : Dev Cert.CsIdeal.nD,
      m' ((c.tc : Thread Cert.CsRefIdeal.nD Cert.CsRefIdeal.τ).loc Cert.CsRefIdeal.main_arg0) = m ((c.tc : Thread Cert.CsIdeal.nD Cert.CsIdeal.τ).loc Cert.CsIdeal.main_arg0)
      ∧ m' ((c.tc : Thread Cert.CsRefIdeal.nD Cert.CsRefIdeal.τ).loc Cert.CsRefIdeal.main_arg1) = m ((c.tc : Thread Cert.CsIdeal.nD Cert.CsIdeal.τ).loc Cert.CsIdeal.main_arg1)
      ∧ m' ((c.tc : Thread Cert.CsRefIdeal.nD Cert.CsRefIdeal.τ).loc Cert.CsRefIdeal.main_arg2) = m ((c.tc : Thread Cert.CsIdeal.nD Cert.CsIdeal.τ).loc Cert.CsIdeal.main_arg2)
      ∧ m' ((c.tc : Thread Cert.CsRefIdeal.nD Cert.CsRefIdeal.τ).loc Cert.CsRefIdeal.main_arg3) = m ((c.tc : Thread Cert.CsIdeal.nD Cert.CsIdeal.τ).loc Cert.CsIdeal.main_arg3)
      ∧ m' ((c.tc : Thread Cert.CsRefIdeal.nD Cert.CsRefIdeal.τ).loc Cert.CsRefIdeal.main_arg4) = m ((c.tc : Thread Cert.CsIdeal.nD Cert.CsIdeal.τ).loc Cert.CsIdeal.main_arg4)
      ∧ m' ((c.tc : Thread Cert.CsRefIdeal.nD Cert.CsRefIdeal.τ).loc Cert.CsRefIdeal.main_arg5) = m ((c.tc : Thread Cert.CsIdeal.nD Cert.CsIdeal.τ).loc Cert.CsIdeal.main_arg5)
      ∧ m' ((c.tc : Thread Cert.CsRefIdeal.nD Cert.CsRefIdeal.τ).loc Cert.CsRefIdeal.main_arg6) = m ((c.tc : Thread Cert.CsIdeal.nD Cert.CsIdeal.τ).loc Cert.CsIdeal.main_arg6)) →
    ∃ (v0 : (c : Dev Cert.CsIdeal.nD) → Buf (Elt Ideal) ((c.tc : Thread Cert.CsIdeal.nD Cert.CsIdeal.τ).loc Cert.CsIdeal.main_v11_1)),
      θ_run (Cert.CsIdeal.defs (F := Ideal)) (onTc (τ := Cert.CsIdeal.τ) (Cert.CsIdeal.main (F := Ideal))) ⟨m, fun _ => 0, g⟩ (fun r => ∀ c : Dev Cert.CsIdeal.nD,
          r.2.mem ((c.tc : Thread Cert.CsIdeal.nD Cert.CsIdeal.τ).loc Cert.CsIdeal.main_v11_1) = v0 c
          ∧ r.2.mem ((c.tc : Thread Cert.CsIdeal.nD Cert.CsIdeal.τ).loc Cert.CsIdeal.main_arg0) = m ((c.tc : Thread Cert.CsIdeal.nD Cert.CsIdeal.τ).loc Cert.CsIdeal.main_arg0)
          ∧ r.2.mem ((c.tc : Thread Cert.CsIdeal.nD Cert.CsIdeal.τ).loc Cert.CsIdeal.main_arg1) = m ((c.tc : Thread Cert.CsIdeal.nD Cert.CsIdeal.τ).loc Cert.CsIdeal.main_arg1)
          ∧ r.2.mem ((c.tc : Thread Cert.CsIdeal.nD Cert.CsIdeal.τ).loc Cert.CsIdeal.main_arg2) = m ((c.tc : Thread Cert.CsIdeal.nD Cert.CsIdeal.τ).loc Cert.CsIdeal.main_arg2)
          ∧ r.2.mem ((c.tc : Thread Cert.CsIdeal.nD Cert.CsIdeal.τ).loc Cert.CsIdeal.main_arg3) = m ((c.tc : Thread Cert.CsIdeal.nD Cert.CsIdeal.τ).loc Cert.CsIdeal.main_arg3)
          ∧ r.2.mem ((c.tc : Thread Cert.CsIdeal.nD Cert.CsIdeal.τ).loc Cert.CsIdeal.main_arg4) = m ((c.tc : Thread Cert.CsIdeal.nD Cert.CsIdeal.τ).loc Cert.CsIdeal.main_arg4)
          ∧ r.2.mem ((c.tc : Thread Cert.CsIdeal.nD Cert.CsIdeal.τ).loc Cert.CsIdeal.main_arg5) = m ((c.tc : Thread Cert.CsIdeal.nD Cert.CsIdeal.τ).loc Cert.CsIdeal.main_arg5)
          ∧ r.2.mem ((c.tc : Thread Cert.CsIdeal.nD Cert.CsIdeal.τ).loc Cert.CsIdeal.main_arg6) = m ((c.tc : Thread Cert.CsIdeal.nD Cert.CsIdeal.τ).loc Cert.CsIdeal.main_arg6))
      ∧ θ_run (Cert.CsRefIdeal.defs (F := Ideal)) (onTc (τ := Cert.CsRefIdeal.τ) (Cert.CsRefIdeal.main (F := Ideal))) ⟨m', fun _ => 0, g'⟩ (fun r => ∀ c : Dev Cert.CsRefIdeal.nD,
          r.2.mem ((c.tc : Thread Cert.CsRefIdeal.nD Cert.CsRefIdeal.τ).loc Cert.CsRefIdeal.main_v12) = v0 c
          ∧ r.2.mem ((c.tc : Thread Cert.CsRefIdeal.nD Cert.CsRefIdeal.τ).loc Cert.CsRefIdeal.main_arg0) = m' ((c.tc : Thread Cert.CsRefIdeal.nD Cert.CsRefIdeal.τ).loc Cert.CsRefIdeal.main_arg0)
          ∧ r.2.mem ((c.tc : Thread Cert.CsRefIdeal.nD Cert.CsRefIdeal.τ).loc Cert.CsRefIdeal.main_arg1) = m' ((c.tc : Thread Cert.CsRefIdeal.nD Cert.CsRefIdeal.τ).loc Cert.CsRefIdeal.main_arg1)
          ∧ r.2.mem ((c.tc : Thread Cert.CsRefIdeal.nD Cert.CsRefIdeal.τ).loc Cert.CsRefIdeal.main_arg2) = m' ((c.tc : Thread Cert.CsRefIdeal.nD Cert.CsRefIdeal.τ).loc Cert.CsRefIdeal.main_arg2)
          ∧ r.2.mem ((c.tc : Thread Cert.CsRefIdeal.nD Cert.CsRefIdeal.τ).loc Cert.CsRefIdeal.main_arg3) = m' ((c.tc : Thread Cert.CsRefIdeal.nD Cert.CsRefIdeal.τ).loc Cert.CsRefIdeal.main_arg3)
          ∧ r.2.mem ((c.tc : Thread Cert.CsRefIdeal.nD Cert.CsRefIdeal.τ).loc Cert.CsRefIdeal.main_arg4) = m' ((c.tc : Thread Cert.CsRefIdeal.nD Cert.CsRefIdeal.τ).loc Cert.CsRefIdeal.main_arg4)
          ∧ r.2.mem ((c.tc : Thread Cert.CsRefIdeal.nD Cert.CsRefIdeal.τ).loc Cert.CsRefIdeal.main_arg5) = m' ((c.tc : Thread Cert.CsRefIdeal.nD Cert.CsRefIdeal.τ).loc Cert.CsRefIdeal.main_arg5)
          ∧ r.2.mem ((c.tc : Thread Cert.CsRefIdeal.nD Cert.CsRefIdeal.τ).loc Cert.CsRefIdeal.main_arg6) = m' ((c.tc : Thread Cert.CsRefIdeal.nD Cert.CsRefIdeal.τ).loc Cert.CsRefIdeal.main_arg6))

def preserves_Cp_CpIdeal : Prop :=
  True

def algebraic_CpIdeal_CpRefIdeal [hCpIdeal : Cert.CpIdeal.Facts] [hCpRefIdeal : Cert.CpRefIdeal.Facts] : Prop :=
  ∀ (m : (ℓ : Loc Cert.CpIdeal.nD Cert.CpIdeal.τ Cert.CpIdeal.sig) → Buf (Elt Ideal) ℓ) (g : Dev Cert.CpIdeal.nD → PrngReg)
    (m' : (ℓ : Loc Cert.CpRefIdeal.nD Cert.CpRefIdeal.τ Cert.CpRefIdeal.sig) → Buf (Elt Ideal) ℓ) (g' : Dev Cert.CpRefIdeal.nD → PrngReg), Pre_CpIdeal m →
    (∀ c : Dev Cert.CpIdeal.nD,
      m' ((c.tc : Thread Cert.CpRefIdeal.nD Cert.CpRefIdeal.τ).loc Cert.CpRefIdeal.main_arg0) = m ((c.tc : Thread Cert.CpIdeal.nD Cert.CpIdeal.τ).loc Cert.CpIdeal.main_arg0)
      ∧ m' ((c.tc : Thread Cert.CpRefIdeal.nD Cert.CpRefIdeal.τ).loc Cert.CpRefIdeal.main_arg1) = m ((c.tc : Thread Cert.CpIdeal.nD Cert.CpIdeal.τ).loc Cert.CpIdeal.main_arg1)
      ∧ m' ((c.tc : Thread Cert.CpRefIdeal.nD Cert.CpRefIdeal.τ).loc Cert.CpRefIdeal.main_arg2) = m ((c.tc : Thread Cert.CpIdeal.nD Cert.CpIdeal.τ).loc Cert.CpIdeal.main_arg2)
      ∧ m' ((c.tc : Thread Cert.CpRefIdeal.nD Cert.CpRefIdeal.τ).loc Cert.CpRefIdeal.main_arg3) = m ((c.tc : Thread Cert.CpIdeal.nD Cert.CpIdeal.τ).loc Cert.CpIdeal.main_arg3)
      ∧ m' ((c.tc : Thread Cert.CpRefIdeal.nD Cert.CpRefIdeal.τ).loc Cert.CpRefIdeal.main_arg4) = m ((c.tc : Thread Cert.CpIdeal.nD Cert.CpIdeal.τ).loc Cert.CpIdeal.main_arg4)
      ∧ m' ((c.tc : Thread Cert.CpRefIdeal.nD Cert.CpRefIdeal.τ).loc Cert.CpRefIdeal.main_arg5) = m ((c.tc : Thread Cert.CpIdeal.nD Cert.CpIdeal.τ).loc Cert.CpIdeal.main_arg5)) →
    ∃ (v0 : (c : Dev Cert.CpIdeal.nD) → Buf (Elt Ideal) ((c.tc : Thread Cert.CpIdeal.nD Cert.CpIdeal.τ).loc Cert.CpIdeal.main_v9_1)),
      θ_run (Cert.CpIdeal.defs (F := Ideal)) (onTc (τ := Cert.CpIdeal.τ) (Cert.CpIdeal.main (F := Ideal))) ⟨m, fun _ => 0, g⟩ (fun r => ∀ c : Dev Cert.CpIdeal.nD,
          r.2.mem ((c.tc : Thread Cert.CpIdeal.nD Cert.CpIdeal.τ).loc Cert.CpIdeal.main_v9_1) = v0 c
          ∧ r.2.mem ((c.tc : Thread Cert.CpIdeal.nD Cert.CpIdeal.τ).loc Cert.CpIdeal.main_arg0) = m ((c.tc : Thread Cert.CpIdeal.nD Cert.CpIdeal.τ).loc Cert.CpIdeal.main_arg0)
          ∧ r.2.mem ((c.tc : Thread Cert.CpIdeal.nD Cert.CpIdeal.τ).loc Cert.CpIdeal.main_arg1) = m ((c.tc : Thread Cert.CpIdeal.nD Cert.CpIdeal.τ).loc Cert.CpIdeal.main_arg1)
          ∧ r.2.mem ((c.tc : Thread Cert.CpIdeal.nD Cert.CpIdeal.τ).loc Cert.CpIdeal.main_arg2) = m ((c.tc : Thread Cert.CpIdeal.nD Cert.CpIdeal.τ).loc Cert.CpIdeal.main_arg2)
          ∧ r.2.mem ((c.tc : Thread Cert.CpIdeal.nD Cert.CpIdeal.τ).loc Cert.CpIdeal.main_arg3) = m ((c.tc : Thread Cert.CpIdeal.nD Cert.CpIdeal.τ).loc Cert.CpIdeal.main_arg3)
          ∧ r.2.mem ((c.tc : Thread Cert.CpIdeal.nD Cert.CpIdeal.τ).loc Cert.CpIdeal.main_arg4) = m ((c.tc : Thread Cert.CpIdeal.nD Cert.CpIdeal.τ).loc Cert.CpIdeal.main_arg4)
          ∧ r.2.mem ((c.tc : Thread Cert.CpIdeal.nD Cert.CpIdeal.τ).loc Cert.CpIdeal.main_arg5) = m ((c.tc : Thread Cert.CpIdeal.nD Cert.CpIdeal.τ).loc Cert.CpIdeal.main_arg5))
      ∧ θ_run (Cert.CpRefIdeal.defs (F := Ideal)) (onTc (τ := Cert.CpRefIdeal.τ) (Cert.CpRefIdeal.main (F := Ideal))) ⟨m', fun _ => 0, g'⟩ (fun r => ∀ c : Dev Cert.CpRefIdeal.nD,
          r.2.mem ((c.tc : Thread Cert.CpRefIdeal.nD Cert.CpRefIdeal.τ).loc Cert.CpRefIdeal.main_v12) = v0 c
          ∧ r.2.mem ((c.tc : Thread Cert.CpRefIdeal.nD Cert.CpRefIdeal.τ).loc Cert.CpRefIdeal.main_arg0) = m' ((c.tc : Thread Cert.CpRefIdeal.nD Cert.CpRefIdeal.τ).loc Cert.CpRefIdeal.main_arg0)
          ∧ r.2.mem ((c.tc : Thread Cert.CpRefIdeal.nD Cert.CpRefIdeal.τ).loc Cert.CpRefIdeal.main_arg1) = m' ((c.tc : Thread Cert.CpRefIdeal.nD Cert.CpRefIdeal.τ).loc Cert.CpRefIdeal.main_arg1)
          ∧ r.2.mem ((c.tc : Thread Cert.CpRefIdeal.nD Cert.CpRefIdeal.τ).loc Cert.CpRefIdeal.main_arg2) = m' ((c.tc : Thread Cert.CpRefIdeal.nD Cert.CpRefIdeal.τ).loc Cert.CpRefIdeal.main_arg2)
          ∧ r.2.mem ((c.tc : Thread Cert.CpRefIdeal.nD Cert.CpRefIdeal.τ).loc Cert.CpRefIdeal.main_arg3) = m' ((c.tc : Thread Cert.CpRefIdeal.nD Cert.CpRefIdeal.τ).loc Cert.CpRefIdeal.main_arg3)
          ∧ r.2.mem ((c.tc : Thread Cert.CpRefIdeal.nD Cert.CpRefIdeal.τ).loc Cert.CpRefIdeal.main_arg4) = m' ((c.tc : Thread Cert.CpRefIdeal.nD Cert.CpRefIdeal.τ).loc Cert.CpRefIdeal.main_arg4)
          ∧ r.2.mem ((c.tc : Thread Cert.CpRefIdeal.nD Cert.CpRefIdeal.τ).loc Cert.CpRefIdeal.main_arg5) = m' ((c.tc : Thread Cert.CpRefIdeal.nD Cert.CpRefIdeal.τ).loc Cert.CpRefIdeal.main_arg5))

def preserves_Ma_MaIdeal : Prop :=
  True

def algebraic_MaIdeal_MaRefIdeal_pre_finite_ma [hMaIdeal : Cert.MaIdeal.Facts] [hMaRefIdeal : Cert.MaRefIdeal.Facts] [hPre_finite_ma : Cert.Pre_finite_ma.Facts] : Prop :=
  ∀ (m : (ℓ : Loc Cert.MaIdeal.nD Cert.MaIdeal.τ Cert.MaIdeal.sig) → Buf (Elt Ideal) ℓ) (g : Dev Cert.MaIdeal.nD → PrngReg)
    (m' : (ℓ : Loc Cert.MaRefIdeal.nD Cert.MaRefIdeal.τ Cert.MaRefIdeal.sig) → Buf (Elt Ideal) ℓ) (g' : Dev Cert.MaRefIdeal.nD → PrngReg), Pre_MaIdeal_finite_ma m →
    (∀ c : Dev Cert.MaIdeal.nD,
      m' ((c.tc : Thread Cert.MaRefIdeal.nD Cert.MaRefIdeal.τ).loc Cert.MaRefIdeal.main_arg0) = m ((c.tc : Thread Cert.MaIdeal.nD Cert.MaIdeal.τ).loc Cert.MaIdeal.main_arg0)
      ∧ m' ((c.tc : Thread Cert.MaRefIdeal.nD Cert.MaRefIdeal.τ).loc Cert.MaRefIdeal.main_arg1) = m ((c.tc : Thread Cert.MaIdeal.nD Cert.MaIdeal.τ).loc Cert.MaIdeal.main_arg1)) →
    ∃ (v0 : (c : Dev Cert.MaIdeal.nD) → Buf (Elt Ideal) ((c.tc : Thread Cert.MaIdeal.nD Cert.MaIdeal.τ).loc Cert.MaIdeal.main_v0)),
      θ_run (Cert.MaIdeal.defs (F := Ideal)) (onTc (τ := Cert.MaIdeal.τ) (Cert.MaIdeal.main (F := Ideal))) ⟨m, fun _ => 0, g⟩ (fun r => ∀ c : Dev Cert.MaIdeal.nD,
          r.2.mem ((c.tc : Thread Cert.MaIdeal.nD Cert.MaIdeal.τ).loc Cert.MaIdeal.main_v0) = v0 c
          ∧ r.2.mem ((c.tc : Thread Cert.MaIdeal.nD Cert.MaIdeal.τ).loc Cert.MaIdeal.main_arg0) = m ((c.tc : Thread Cert.MaIdeal.nD Cert.MaIdeal.τ).loc Cert.MaIdeal.main_arg0)
          ∧ r.2.mem ((c.tc : Thread Cert.MaIdeal.nD Cert.MaIdeal.τ).loc Cert.MaIdeal.main_arg1) = m ((c.tc : Thread Cert.MaIdeal.nD Cert.MaIdeal.τ).loc Cert.MaIdeal.main_arg1))
      ∧ θ_run (Cert.MaRefIdeal.defs (F := Ideal)) (onTc (τ := Cert.MaRefIdeal.τ) (Cert.MaRefIdeal.main (F := Ideal))) ⟨m', fun _ => 0, g'⟩ (fun r => ∀ c : Dev Cert.MaRefIdeal.nD,
          r.2.mem ((c.tc : Thread Cert.MaRefIdeal.nD Cert.MaRefIdeal.τ).loc Cert.MaRefIdeal.main_v23) = v0 c
          ∧ r.2.mem ((c.tc : Thread Cert.MaRefIdeal.nD Cert.MaRefIdeal.τ).loc Cert.MaRefIdeal.main_arg0) = m' ((c.tc : Thread Cert.MaRefIdeal.nD Cert.MaRefIdeal.τ).loc Cert.MaRefIdeal.main_arg0)
          ∧ r.2.mem ((c.tc : Thread Cert.MaRefIdeal.nD Cert.MaRefIdeal.τ).loc Cert.MaRefIdeal.main_arg1) = m' ((c.tc : Thread Cert.MaRefIdeal.nD Cert.MaRefIdeal.τ).loc Cert.MaRefIdeal.main_arg1))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hKv : Cert.Kv.Facts) (hKvIdeal : Cert.KvIdeal.Facts) (hKvRefIdeal : Cert.KvRefIdeal.Facts) (hOut : Cert.Out.Facts) (hOutIdeal : Cert.OutIdeal.Facts) (hOutRefIdeal : Cert.OutRefIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hCs : Cert.Cs.Facts) (hCsIdeal : Cert.CsIdeal.Facts) (hCsRefIdeal : Cert.CsRefIdeal.Facts) (hCp : Cert.Cp.Facts) (hCpIdeal : Cert.CpIdeal.Facts) (hCpRefIdeal : Cert.CpRefIdeal.Facts) (hMa : Cert.Ma.Facts) (hMaIdeal : Cert.MaIdeal.Facts) (hMaRefIdeal : Cert.MaRefIdeal.Facts) (hPre_ranges_down : Cert.Pre_ranges_down.Facts) (hPre_ranges_up : Cert.Pre_ranges_up.Facts) (hPre_finite_ma : Cert.Pre_finite_ma.Facts) (hOn_used_down : Cert.On_used_down.Facts) (hOn_used_up : Cert.On_used_up.Facts),
    quiescent_Kernel (hKernel := hKernel)
    ∧ quiescent_KernelIdeal (hKernelIdeal := hKernelIdeal)
    ∧ quiescent_ReferenceIdeal (hReferenceIdeal := hReferenceIdeal)
    ∧ quiescent_In (hIn := hIn)
    ∧ quiescent_InIdeal (hInIdeal := hInIdeal)
    ∧ quiescent_InRefIdeal (hInRefIdeal := hInRefIdeal)
    ∧ quiescent_Kv (hKv := hKv)
    ∧ quiescent_KvIdeal (hKvIdeal := hKvIdeal)
    ∧ quiescent_KvRefIdeal (hKvRefIdeal := hKvRefIdeal)
    ∧ quiescent_Out (hOut := hOut)
    ∧ quiescent_OutIdeal (hOutIdeal := hOutIdeal)
    ∧ quiescent_OutRefIdeal (hOutRefIdeal := hOutRefIdeal)
    ∧ quiescent_Down (hDown := hDown) (hPre_ranges_down := hPre_ranges_down)
    ∧ quiescent_DownIdeal (hDownIdeal := hDownIdeal) (hPre_ranges_down := hPre_ranges_down)
    ∧ quiescent_DownRefIdeal (hDownRefIdeal := hDownRefIdeal) (hPre_ranges_down := hPre_ranges_down)
    ∧ quiescent_Up (hUp := hUp) (hPre_ranges_up := hPre_ranges_up)
    ∧ quiescent_UpIdeal (hUpIdeal := hUpIdeal) (hPre_ranges_up := hPre_ranges_up)
    ∧ quiescent_UpRefIdeal (hUpRefIdeal := hUpRefIdeal) (hPre_ranges_up := hPre_ranges_up)
    ∧ quiescent_Cs (hCs := hCs)
    ∧ quiescent_CsIdeal (hCsIdeal := hCsIdeal)
    ∧ quiescent_CsRefIdeal (hCsRefIdeal := hCsRefIdeal)
    ∧ quiescent_Cp (hCp := hCp)
    ∧ quiescent_CpIdeal (hCpIdeal := hCpIdeal)
    ∧ quiescent_CpRefIdeal (hCpRefIdeal := hCpRefIdeal)
    ∧ quiescent_Ma (hMa := hMa)
    ∧ quiescent_MaIdeal (hMaIdeal := hMaIdeal)
    ∧ quiescent_MaIdeal_pre_finite_ma (hMaIdeal := hMaIdeal) (hPre_finite_ma := hPre_finite_ma)
    ∧ quiescent_MaRefIdeal (hMaRefIdeal := hMaRefIdeal)
    ∧ quiescent_MaRefIdeal_pre_finite_ma (hMaRefIdeal := hMaRefIdeal) (hPre_finite_ma := hPre_finite_ma)
    ∧ preserves_Kernel_KernelIdeal
    ∧ preserves_In_InIdeal
    ∧ algebraic_InIdeal_InRefIdeal (hInIdeal := hInIdeal) (hInRefIdeal := hInRefIdeal)
    ∧ preserves_Kv_KvIdeal
    ∧ algebraic_KvIdeal_KvRefIdeal (hKvIdeal := hKvIdeal) (hKvRefIdeal := hKvRefIdeal)
    ∧ preserves_Out_OutIdeal
    ∧ algebraic_OutIdeal_OutRefIdeal (hOutIdeal := hOutIdeal) (hOutRefIdeal := hOutRefIdeal)
    ∧ preserves_Down_DownIdeal
    ∧ algebraic_DownIdeal_DownRefIdeal_on_used_down (hDownIdeal := hDownIdeal) (hDownRefIdeal := hDownRefIdeal) (hPre_ranges_down := hPre_ranges_down) (hOn_used_down := hOn_used_down)
    ∧ preserves_Up_UpIdeal
    ∧ algebraic_UpIdeal_UpRefIdeal_on_used_up (hUpIdeal := hUpIdeal) (hUpRefIdeal := hUpRefIdeal) (hPre_ranges_up := hPre_ranges_up) (hOn_used_up := hOn_used_up)
    ∧ preserves_Cs_CsIdeal
    ∧ algebraic_CsIdeal_CsRefIdeal (hCsIdeal := hCsIdeal) (hCsRefIdeal := hCsRefIdeal)
    ∧ preserves_Cp_CpIdeal
    ∧ algebraic_CpIdeal_CpRefIdeal (hCpIdeal := hCpIdeal) (hCpRefIdeal := hCpRefIdeal)
    ∧ preserves_Ma_MaIdeal
    ∧ algebraic_MaIdeal_MaRefIdeal_pre_finite_ma (hMaIdeal := hMaIdeal) (hMaRefIdeal := hMaRefIdeal) (hPre_finite_ma := hPre_finite_ma)
-- ==== On_used_down.lean ====
abbrev S56 : Shape := ⟨1, ![56]⟩
abbrev S1 : Shape := ⟨1, ![1]⟩
abbrev S86016x4096 : Shape := ⟨2, ![86016, 4096]⟩
abbrev S1x32x4096x4096 : Shape := ⟨4, ![1, 32, 4096, 4096]⟩
abbrev S1x32x4096 : Shape := ⟨3, ![1, 32, 4096]⟩
abbrev S1536 : Shape := ⟨1, ![1536]⟩
abbrev S1x1536x1 : Shape := ⟨3, ![1, 1536, 1]⟩
abbrev S56x1x1 : Shape := ⟨3, ![56, 1, 1]⟩
abbrev S56x1536x1 : Shape := ⟨3, ![56, 1536, 1]⟩
abbrev S_ : Shape := ⟨0, ![]⟩
abbrev S56x1536x4096 : Shape := ⟨3, ![56, 1536, 4096]⟩

class Facts : Prop where
  bcast_S1536_S1x1536x1_1 : S1536.BroadcastsInDim S1x1536x1 (![1] : Fin 1 → Fin S1x1536x1.rank)
  bcast_S56_S56x1x1_0 : S56.BroadcastsInDim S56x1x1 (![0] : Fin 1 → Fin S56x1x1.rank)
  bcast_S1x1536x1_S56x1536x1_0_1_2 : S1x1536x1.BroadcastsInDim S56x1536x1 (![0, 1, 2] : Fin 3 → Fin S56x1536x1.rank)
  bcast_S56x1x1_S56x1536x1_0_1_2 : S56x1x1.BroadcastsInDim S56x1536x1 (![0, 1, 2] : Fin 3 → Fin S56x1536x1.rank)
  shapeCasts_S1_S_ : S1.ShapeCasts S_
  bcast_S_S56x1x1 : S_.BroadcastsInDim S56x1x1 (![] : Fin 0 → Fin S56x1x1.rank)
  bcast_S56x1536x1_S56x1536x4096_0_1_2 : S56x1536x1.BroadcastsInDim S56x1536x4096 (![0, 1, 2] : Fin 3 → Fin S56x1536x4096.rank)
  shapeCasts_S56x1536x4096_S86016x4096 : S56x1536x4096.ShapeCasts S86016x4096

variable [Facts]

def fn {F : FTy → Type} [FloatOps F] (main_arg0 : IVec S56 32) (main_arg1 : IVec S56 32) (main_arg2 : IVec S1 32) (main_arg3 : FVec F S86016x4096 .bf16) (main_arg4 : FVec F S1x32x4096x4096 .f32) (main_arg5 : FVec F S1x32x4096 .f32) : IVec S86016x4096 1 :=
  let main_v0 : IVec S1536 32 := iotaInDim S1536 32 0
  let main_v1 : IVec S1x1536x1 32 := broadcastInDim S1x1536x1 ![1] bcast_S1536_S1x1536x1_1 main_v0
  let main_v2 : IVec S56 32 := iotaInDim S56 32 0
  let main_v3 : IVec S56x1x1 32 := broadcastInDim S56x1x1 ![0] bcast_S56_S56x1x1_0 main_v2
  let main_v4 : IVec S56x1x1 32 := broadcastInDim S56x1x1 ![0] bcast_S56_S56x1x1_0 main_arg1
  let main_v5 : IVec S56x1536x1 32 := broadcastInDim S56x1536x1 ![0, 1, 2] bcast_S1x1536x1_S56x1536x1_0_1_2 main_v1
  let main_v6 : IVec S56x1536x1 32 := broadcastInDim S56x1536x1 ![0, 1, 2] bcast_S56x1x1_S56x1536x1_0_1_2 main_v4
  let main_v7 : IVec S56x1536x1 1 := cmpi .slt main_v5 main_v6
  let main_v8 : IVec S_ 32 := shapeCast S_ main_arg2 shapeCasts_S1_S_
  let main_v9 : IVec S56x1x1 32 := broadcastInDim S56x1x1 ![] bcast_S_S56x1x1 main_v8
  let main_v10 : IVec S56x1x1 1 := cmpi .slt main_v3 main_v9
  let main_v11 : IVec S56x1536x1 1 := broadcastInDim S56x1536x1 ![0, 1, 2] bcast_S56x1x1_S56x1536x1_0_1_2 main_v10
  let main_v12 : IVec S56x1536x1 1 := andi main_v7 main_v11
  let main_v13 : IVec S56x1536x4096 1 := broadcastInDim S56x1536x4096 ![0, 1, 2] bcast_S56x1536x1_S56x1536x4096_0_1_2 main_v12
  let main_v14 : IVec S86016x4096 1 := shapeCast S86016x4096 main_v13 shapeCasts_S56x1536x4096_S86016x4096
  main_v14
-- ==== On_used_up.lean ====
abbrev S56 : Shape := ⟨1, ![56]⟩
abbrev S1 : Shape := ⟨1, ![1]⟩
abbrev S86016x4096 : Shape := ⟨2, ![86016, 4096]⟩
abbrev S1x32x4096x8192 : Shape := ⟨4, ![1, 32, 4096, 8192]⟩
abbrev S1x32x8192 : Shape := ⟨3, ![1, 32, 8192]⟩
abbrev S1536 : Shape := ⟨1, ![1536]⟩
abbrev S1x1536x1 : Shape := ⟨3, ![1, 1536, 1]⟩
abbrev S56x1x1 : Shape := ⟨3, ![56, 1, 1]⟩
abbrev S56x1536x1 : Shape := ⟨3, ![56, 1536, 1]⟩
abbrev S_ : Shape := ⟨0, ![]⟩
abbrev S56x1536x4096 : Shape := ⟨3, ![56, 1536, 4096]⟩

class Facts : Prop where
  bcast_S1536_S1x1536x1_1 : S1536.BroadcastsInDim S1x1536x1 (![1] : Fin 1 → Fin S1x1536x1.rank)
  bcast_S56_S56x1x1_0 : S56.BroadcastsInDim S56x1x1 (![0] : Fin 1 → Fin S56x1x1.rank)
  bcast_S1x1536x1_S56x1536x1_0_1_2 : S1x1536x1.BroadcastsInDim S56x1536x1 (![0, 1, 2] : Fin 3 → Fin S56x1536x1.rank)
  bcast_S56x1x1_S56x1536x1_0_1_2 : S56x1x1.BroadcastsInDim S56x1536x1 (![0, 1, 2] : Fin 3 → Fin S56x1536x1.rank)
  shapeCasts_S1_S_ : S1.ShapeCasts S_
  bcast_S_S56x1x1 : S_.BroadcastsInDim S56x1x1 (![] : Fin 0 → Fin S56x1x1.rank)
  bcast_S56x1536x1_S56x1536x4096_0_1_2 : S56x1536x1.BroadcastsInDim S56x1536x4096 (![0, 1, 2] : Fin 3 → Fin S56x1536x4096.rank)
  shapeCasts_S56x1536x4096_S86016x4096 : S56x1536x4096.ShapeCasts S86016x4096

variable [Facts]

def fn {F : FTy → Type} [FloatOps F] (main_arg0 : IVec S56 32) (main_arg1 : IVec S56 32) (main_arg2 : IVec S1 32) (main_arg3 : FVec F S86016x4096 .bf16) (main_arg4 : FVec F S1x32x4096x8192 .f32) (main_arg5 : FVec F S1x32x8192 .f32) : IVec S86016x4096 1 :=
  let main_v0 : IVec S1536 32 := iotaInDim S1536 32 0
  let main_v1 : IVec S1x1536x1 32 := broadcastInDim S1x1536x1 ![1] bcast_S1536_S1x1536x1_1 main_v0
  let main_v2 : IVec S56 32 := iotaInDim S56 32 0
  let main_v3 : IVec S56x1x1 32 := broadcastInDim S56x1x1 ![0] bcast_S56_S56x1x1_0 main_v2
  let main_v4 : IVec S56x1x1 32 := broadcastInDim S56x1x1 ![0] bcast_S56_S56x1x1_0 main_arg1
  let main_v5 : IVec S56x1536x1 32 := broadcastInDim S56x1536x1 ![0, 1, 2] bcast_S1x1536x1_S56x1536x1_0_1_2 main_v1
  let main_v6 : IVec S56x1536x1 32 := broadcastInDim S56x1536x1 ![0, 1, 2] bcast_S56x1x1_S56x1536x1_0_1_2 main_v4
  let main_v7 : IVec S56x1536x1 1 := cmpi .slt main_v5 main_v6
  let main_v8 : IVec S_ 32 := shapeCast S_ main_arg2 shapeCasts_S1_S_
  let main_v9 : IVec S56x1x1 32 := broadcastInDim S56x1x1 ![] bcast_S_S56x1x1 main_v8
  let main_v10 : IVec S56x1x1 1 := cmpi .slt main_v3 main_v9
  let main_v11 : IVec S56x1536x1 1 := broadcastInDim S56x1536x1 ![0, 1, 2] bcast_S56x1x1_S56x1536x1_0_1_2 main_v10
  let main_v12 : IVec S56x1536x1 1 := andi main_v7 main_v11
  let main_v13 : IVec S56x1536x4096 1 := broadcastInDim S56x1536x4096 ![0, 1, 2] bcast_S56x1536x1_S56x1536x4096_0_1_2 main_v12
  let main_v14 : IVec S86016x4096 1 := shapeCast S86016x4096 main_v13 shapeCasts_S56x1536x4096_S86016x4096
  main_v14
-- ==== Pre_finite_ma.lean ====
abbrev S9216x512 : Shape := ⟨2, ![9216, 512]⟩
abbrev S4x256x1024 : Shape := ⟨3, ![4, 256, 1024]⟩
abbrev S8192x512 : Shape := ⟨2, ![8192, 512]⟩
abbrev S_ : Shape := ⟨0, ![]⟩
abbrev S4x256x512 : Shape := ⟨3, ![4, 256, 512]⟩

class Facts : Prop where
  slices_S9216x512_S8192x512_0_0 : S9216x512.Slices ![0, 0] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S4x256x1024_S4x256x512_0_0_0 : S4x256x1024.Slices ![0, 0, 0] S4x256x512
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S9216x512 .f32) (main_arg1 : FVec F S4x256x1024 .f32) : IVec S_ 1 :=
  let main_v0 : FVec F S8192x512 .f32 := (extractStridedSlice S8192x512 ![0, 0] · slices_S9216x512_S8192x512_0_0) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S4x256x512 .f32 := (extractStridedSlice S4x256x512 ![0, 0, 0] · slices_S4x256x1024_S4x256x512_0_0_0) main_arg1
  let main_v6 : FVec F S4x256x512 .f32 := Host.absf main_v5
  let main_cst_0 : FVec F S_ .f32 := constant S_ .f32 0x7F800000#32
  let main_v7 : FVec F S4x256x512 .f32 := broadcastInDim S4x256x512 ![] bcast_S_S4x256x512 main_cst_0
  let main_v8 : IVec S4x256x512 1 := cmpf .olt main_v6 main_v7
  let main_c_1 : IVec S_ 1 := constantI S_ 1 1#1
  let main_v9 : IVec S_ 1 := (fun x v => Host.reduce IntOp.andi x v reducesTo_S4x256x512_S_d0_1_2 h_S_) main_v8 main_c_1
  let main_v10 : IVec S_ 1 := andi main_v4 main_v9
  main_v10
-- ==== Pre_ranges_down.lean ====
abbrev S56 : Shape := ⟨1, ![56]⟩
abbrev S1 : Shape := ⟨1, ![1]⟩
abbrev S86016x4096 : Shape := ⟨2, ![86016, 4096]⟩
abbrev S1x32x4096x4096 : Shape := ⟨4, ![1, 32, 4096, 4096]⟩
abbrev S1x32x4096 : Shape := ⟨3, ![1, 32, 4096]⟩
abbrev S_ : Shape := ⟨0, ![]⟩

class Facts : Prop where
  bcast_S_S56 : S_.BroadcastsInDim S56 (![] : Fin 0 → Fin S56.rank)
  reducesTo_S56_S_d0 : S56.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg2 : IVec S1 32) (main_v12 : IVec S_ 1) (main_v14 : IVec S1 1) (main_v15 : IVec S1 32) : IVec S_ 1 :=
  let main_v16 : IVec S1 1 := cmpi .sle main_arg2 main_v15
  let main_v17 : IVec S1 1 := andi main_v14 main_v16
  let main_c_7 : IVec S_ 1 := constantI S_ 1 1#1
  let main_v18 : IVec S_ 1 := (fun x v => Host.reduce IntOp.andi x v reducesTo_S1_S_d0 h_S_) main_v17 main_c_7
  let main_v19 : IVec S_ 1 := andi main_v12 main_v18
  main_v19

def fn {F : FTy → Type} [FloatOps F] (main_arg0 : IVec S56 32) (main_arg1 : IVec S56 32) (main_arg2 : IVec S1 32) (main_arg3 : FVec F S86016x4096 .bf16) (main_arg4 : FVec F S1x32x4096x4096 .f32) (main_arg5 : FVec F S1x32x4096 .f32) : IVec S_ 1 :=
  let main_c : IVec S_ 32 := constantI S_ 32 0#32
  let main_v0 : IVec S56 32 := broadcastInDim S56 ![] bcast_S_S56 main_c
  let main_v1 : IVec S56 1 := cmpi .sge main_arg0 main_v0
  let main_c_0 : IVec S_ 32 := constantI S_ 32 32#32
  let main_v2 : IVec S56 32 := broadcastInDim S56 ![] bcast_S_S56 main_c_0
  let main_v3 : IVec S56 1 := cmpi .slt main_arg0 main_v2
  let main_v4 : IVec S56 1 := andi main_v1 main_v3
  let main_c_1 : IVec S_ 1 := constantI S_ 1 1#1
  let main_v5 : IVec S_ 1 := (fun x v => Host.reduce IntOp.andi x v reducesTo_S56_S_d0 h_S_) main_v4 main_c_1
  let main_c_2 : IVec S_ 32 := constantI S_ 32 0#32
  let main_v6 : IVec S56 32 := broadcastInDim S56 ![] bcast_S_S56 main_c_2
  let main_v7 : IVec S56 1 := cmpi .sge main_arg1 main_v6
  let main_c_3 : IVec S_ 32 := constantI S_ 32 1536#32
  let main_v8 : IVec S56 32 := broadcastInDim S56 ![] bcast_S_S56 main_c_3
  let main_v9 : IVec S56 1 := cmpi .sle main_arg1 main_v8
  let main_v10 : IVec S56 1 := andi main_v7 main_v9
  let main_c_4 : IVec S_ 1 := constantI S_ 1 1#1
  let main_v11 : IVec S_ 1 := (fun x v => Host.reduce IntOp.andi x v reducesTo_S56_S_d0 h_S_) main_v10 main_c_4
  let main_v12 : IVec S_ 1 := andi main_v5 main_v11
  let main_c_5 : IVec S_ 32 := constantI S_ 32 0#32
  let main_v13 : IVec S1 32 := broadcastInDim S1 ![] bcast_S_S1 main_c_5
  let main_v14 : IVec S1 1 := cmpi .sge main_arg2 main_v13
  let main_c_6 : IVec S_ 32 := constantI S_ 32 56#32
  let main_v15 : IVec S1 32 := broadcastInDim S1 ![] bcast_S_S1 main_c_6
  fn_part1 (F := F) main_arg2 main_v12 main_v14 main_v15
-- ==== Pre_ranges_up.lean ====
abbrev S56 : Shape := ⟨1, ![56]⟩
abbrev S1 : Shape := ⟨1, ![1]⟩
abbrev S86016x4096 : Shape := ⟨2, ![86016, 4096]⟩
abbrev S1x32x4096x8192 : Shape := ⟨4, ![1, 32, 4096, 8192]⟩
abbrev S1x32x8192 : Shape := ⟨3, ![1, 32, 8192]⟩
abbrev S_ : Shape := ⟨0, ![]⟩

class Facts : Prop where
  bcast_S_S56 : S_.BroadcastsInDim S56 (![] : Fin 0 → Fin S56.rank)
  reducesTo_S56_S_d0 : S56.ReducesTo [0] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg2 : IVec S1 32) (main_v12 : IVec S_ 1) (main_v14 : IVec S1 1) (main_v15 : IVec S1 32) : IVec S_ 1 :=
  let main_v16 : IVec S1 1 := cmpi .sle main_arg2 main_v15
  let main_v17 : IVec S1 1 := andi main_v14 main_v16
  let main_c_7 : IVec S_ 1 := constantI S_ 1 1#1
  let main_v18 : IVec S_ 1 := (fun x v => Host.reduce IntOp.andi x v reducesTo_S1_S_d0 h_S_) main_v17 main_c_7
  let main_v19 : IVec S_ 1 := andi main_v12 main_v18
  main_v19

def fn {F : FTy → Type} [FloatOps F] (main_arg0 : IVec S56 32) (main_arg1 : IVec S56 32) (main_arg2 : IVec S1 32) (main_arg3 : FVec F S86016x4096 .bf16) (main_arg4 : FVec F S1x32x4096x8192 .f32) (main_arg5 : FVec F S1x32x8192 .f32) : IVec S_ 1 :=
  let main_c : IVec S_ 32 := constantI S_ 32 0#32
  let main_v0 : IVec S56 32 := broadcastInDim S56 ![] bcast_S_S56 main_c
  let main_v1 : IVec S56 1 := cmpi .sge main_arg0 main_v0
  let main_c_0 : IVec S_ 32 := constantI S_ 32 32#32
  let main_v2 : IVec S56 32 := broadcastInDim S56 ![] bcast_S_S56 main_c_0
  let main_v3 : IVec S56 1 := cmpi .slt main_arg0 main_v2
  let main_v4 : IVec S56 1 := andi main_v1 main_v3
  let main_c_1 : IVec S_ 1 := constantI S_ 1 1#1
  let main_v5 : IVec S_ 1 := (fun x v => Host.reduce IntOp.andi x v reducesTo_S56_S_d0 h_S_) main_v4 main_c_1
  let main_c_2 : IVec S_ 32 := constantI S_ 32 0#32
  let main_v6 : IVec S56 32 := broadcastInDim S56 ![] bcast_S_S56 main_c_2
  let main_v7 : IVec S56 1 := cmpi .sge main_arg1 main_v6
  let main_c_3 : IVec S_ 32 := constantI S_ 32 1536#32
  let main_v8 : IVec S56 32 := broadcastInDim S56 ![] bcast_S_S56 main_c_3
  let main_v9 : IVec S56 1 := cmpi .sle main_arg1 main_v8
  let main_v10 : IVec S56 1 := andi main_v7 main_v9
  let main_c_4 : IVec S_ 1 := constantI S_ 1 1#1
  let main_v11 : IVec S_ 1 := (fun x v => Host.reduce IntOp.andi x v reducesTo_S56_S_d0 h_S_) main_v10 main_c_4
  let main_v12 : IVec S_ 1 := andi main_v5 main_v11
  let main_c_5 : IVec S_ 32 := constantI S_ 32 0#32
  let main_v13 : IVec S1 32 := broadcastInDim S1 ![] bcast_S_S1 main_c_5
  let main_v14 : IVec S1 1 := cmpi .sge main_arg2 main_v13
  let main_c_6 : IVec S_ 32 := constantI S_ 32 56#32
  let main_v15 : IVec S1 32 := broadcastInDim S1 ![] bcast_S_S1 main_c_6
  fn_part1 (F := F) main_arg2 main_v12 main_v14 main_v15
-- ==== Kernel.lean ====
abbrev S9216x10240 : Shape := ⟨2, ![9216, 10240]⟩
abbrev S1x16x513 : Shape := ⟨3, ![1, 16, 513]⟩
abbrev S1x2048 : Shape := ⟨2, ![1, 2048]⟩
abbrev S16x513 : Shape := ⟨2, ![16, 513]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S2048 : Shape := ⟨1, ![2048]⟩
abbrev S8192x2048 : Shape := ⟨2, ![8192, 2048]⟩
abbrev S256x1024 : Shape := ⟨2, ![256, 1024]⟩
abbrev S256x2048 : Shape := ⟨2, ![256, 2048]⟩
abbrev S16x256x768 : Shape := ⟨3, ![16, 256, 768]⟩
abbrev S2x256x1024 : Shape := ⟨3, ![2, 256, 1024]⟩
abbrev S256x768 : Shape := ⟨2, ![256, 768]⟩
abbrev S1x1024 : Shape := ⟨2, ![1, 1024]⟩
abbrev S1x256x768 : Shape := ⟨3, ![1, 256, 768]⟩
abbrev S768x1024 : Shape := ⟨2, ![768, 1024]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S1x256x128 : Shape := ⟨3, ![1, 256, 128]⟩
abbrev S1x256x1024 : Shape := ⟨3, ![1, 256, 1024]⟩

abbrev nBuf : Space → Nat
  | .hbm => 38
  | .vmem => 20
  | .smem => 0
  | _ => 0

abbrev bufTy : (tb : Table) → Fin (tcTables nBuf tb) → BufTy
  | .hbm, ⟨0, _⟩ => ⟨S9216x10240, .f32⟩
  | .hbm, ⟨1, _⟩ => ⟨S1x16x513, .f32⟩
  | .hbm, ⟨2, _⟩ => ⟨S1x2048, .f32⟩
  | .hbm, ⟨3, _⟩ => ⟨S16x513, .f32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S_, .i32⟩
  | .hbm, ⟨27, _⟩ => ⟨S1024, .i32⟩
  | .hbm, ⟨28, _⟩ => ⟨S1024, .i1⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S1024x1, .i32⟩
  | .hbm, ⟨34, _⟩ => ⟨S16x1024, .f32⟩
  | .hbm, ⟨35, _⟩ => ⟨S2048, .f32⟩
  | .hbm, ⟨36, _⟩ => ⟨S1x2048, .f32⟩
  | .hbm, ⟨37, _⟩ => ⟨S8192x2048, .bf16⟩
  | .local _ .vmem, ⟨0, _⟩ => ⟨S16x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S16x256x768, .f32⟩
  | .local _ .vmem, ⟨19, _⟩ => ⟨S2x256x1024, .f32⟩
  | _, _ => ⟨S9216x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_c_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_c_5 : Ref sig .tc := ⟨.hbm, 26, rfl⟩
abbrev main_v12 : Ref sig .tc := ⟨.hbm, 27, rfl⟩
abbrev main_v13 : Ref sig .tc := ⟨.hbm, 28, rfl⟩
abbrev main_c_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 8, 2], ![false, false, false]⟩

def k0_off1 (i : grid0.Coords) (c0_i32_17 : BitVec 32) : Fin 3 → Nat :=
  let arg2 : BitVec 32 := BitVec.ofNat 32 (i 2).val
  let c8_i32 : BitVec 32 := 8#32
  let v32 : BitVec 32 := Scalar.muli arg2 c8_i32
  let v33 : BitVec 32 := Scalar.addi v32 c0_i32_17
  let v34 : Index := Scalar.indexCast v33
  let c0_18 : Index := 0#32
  let c0_19 : Index := 0#32
  ![v34.toNat, 0, 0]
def k0_off2 (i : grid0.Coords) : Fin 3 → Nat :=
  let arg2 : BitVec 32 := BitVec.ofNat 32 (i 2).val
  let v52 : Index := Scalar.indexCast arg2
  let c0_24 : Index := 0#32
  let c0_25 : Index := 0#32
  ![v52.toNat, 0, 0]
def k0_off3 (i : grid0.Coords) : Fin 3 → Nat :=
  let arg2 : BitVec 32 := BitVec.ofNat 32 (i 2).val
  let v82 : Index := Scalar.indexCast arg2
  let c0_36 : Index := 0#32
  let c128_37 : Index := 128#32
  ![v82.toNat, 0, 128]
def k0_off4 (i : grid0.Coords) : Fin 3 → Nat :=
  let arg2 : BitVec 32 := BitVec.ofNat 32 (i 2).val
  let v112 : Index := Scalar.indexCast arg2
  let c0_49 : Index := 0#32
  let c256_50 : Index := 256#32
  ![v112.toNat, 0, 256]
def k0_off5 (i : grid0.Coords) : Fin 3 → Nat :=
  let arg2 : BitVec 32 := BitVec.ofNat 32 (i 2).val
  let v142 : Index := Scalar.indexCast arg2
  let c0_61 : Index := 0#32
  let c384_62 : Index := 384#32
  ![v142.toNat, 0, 384]
def k0_off6 (i : grid0.Coords) : Fin 3 → Nat :=
  let arg2 : BitVec 32 := BitVec.ofNat 32 (i 2).val
  let v172 : Index := Scalar.indexCast arg2
  let c0_73 : Index := 0#32
  let c512_74 : Index := 512#32
  ![v172.toNat, 0, 512]
def k0_off7 (i : grid0.Coords) : Fin 3 → Nat :=
  let arg2 : BitVec 32 := BitVec.ofNat 32 (i 2).val
  let v202 : Index := Scalar.indexCast arg2
  let c0_85 : Index := 0#32
  let c640_86 : Index := 640#32
  ![v202.toNat, 0, 640]
def k0_off8 (i : grid0.Coords) : Fin 3 → Nat :=
  let arg2 : BitVec 32 := BitVec.ofNat 32 (i 2).val
  let v232 : Index := Scalar.indexCast arg2
  let c0_97 : Index := 0#32
  let c768_98 : Index := 768#32
  ![v232.toNat, 0, 768]
def k0_off9 (i : grid0.Coords) : Fin 3 → Nat :=
  let arg2 : BitVec 32 := BitVec.ofNat 32 (i 2).val
  let v262 : Index := Scalar.indexCast arg2
  let c0_109 : Index := 0#32
  let c896_110 : Index := 896#32
  ![v262.toNat, 0, 896]
def k0_cond2 (i : grid0.Coords) : BitVec 1 :=
  let arg2 : BitVec 32 := BitVec.ofNat 32 (i 2).val
  let c1_i32_111 : BitVec 32 := 1#32
  let v266 : BitVec 1 := Scalar.cmpi .eq arg2 c1_i32_111
  let v267 : BitVec 32 := Scalar.extui v266
  let c0_i32_112 : BitVec 32 := 0#32
  let v268 : BitVec 1 := Scalar.cmpi .ne v267 c0_i32_112
  v268

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c2_i32_0 : BitVec 32 := 2#32
  let v4 : BitVec 32 := Scalar.addi c2_i32_0 arg2
  let c0_i32_1 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let v4 : BitVec 32 := Scalar.addi c2_i32 arg2
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let v4 : BitVec 32 := Scalar.addi c2_i32 arg2
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c4_i32 : BitVec 32 := 4#32
  let v4 : BitVec 32 := Scalar.addi c4_i32 arg2
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let v4 : BitVec 32 := Scalar.addi c4_i32 arg2
  let c0_i32_0 : BitVec 32 := 0#32
  ![v3.toNat, v4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c4_i32 : BitVec 32 := 4#32
  let v4 : BitVec 32 := Scalar.addi c4_i32 arg2
  let c0_i32_1 : BitVec 32 := 0#32
  ![v3.toNat, v4.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S9216x10240 : Shape := ⟨2, ![9216, 10240]⟩
abbrev S1x16x513 : Shape := ⟨3, ![1, 16, 513]⟩
abbrev S1x2048 : Shape := ⟨2, ![1, 2048]⟩
abbrev S16x513 : Shape := ⟨2, ![16, 513]⟩
abbrev S8192x2048 : Shape := ⟨2, ![8192, 2048]⟩
abbrev S4x2048x16x128 : Shape := ⟨4, ![4, 2048, 16, 128]⟩
abbrev S4x32x64x16x128 : Shape := ⟨5, ![4, 32, 64, 16, 128]⟩
abbrev S_ : Shape := ⟨0, ![]⟩
abbrev S4x2560x16x128 : Shape := ⟨4, ![4, 2560, 16, 128]⟩
abbrev S4x40x64x16x128 : Shape := ⟨5, ![4, 40, 64, 16, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S32x9x1 : Shape := ⟨3, ![32, 9, 1]⟩
abbrev S4x32x9x64x16x128 : Shape := ⟨6, ![4, 32, 9, 64, 16, 128]⟩
abbrev S4x32x576x16x128 : Shape := ⟨5, ![4, 32, 576, 16, 128]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S1 : Shape := ⟨1, ![1]⟩
abbrev S1x1x1 : Shape := ⟨3, ![1, 1, 1]⟩
abbrev S16x64x576 : Shape := ⟨3, ![16, 64, 576]⟩
abbrev S32x576 : Shape := ⟨2, ![32, 576]⟩
abbrev S4x32x16x64x576 : Shape := ⟨5, ![4, 32, 16, 64, 576]⟩
abbrev S1x1x16x64x576 : Shape := ⟨5, ![1, 1, 16, 64, 576]⟩
abbrev S1x32x1x1x576 : Shape := ⟨5, ![1, 32, 1, 1, 576]⟩
abbrev S4x32x16x64 : Shape := ⟨4, ![4, 32, 16, 64]⟩
abbrev S4x32x16x64x1 : Shape := ⟨5, ![4, 32, 16, 64, 1]⟩
abbrev S4x32x16x128x64 : Shape := ⟨5, ![4, 32, 16, 128, 64]⟩
abbrev S8192 : Shape := ⟨1, ![8192]⟩
abbrev S8192x1 : Shape := ⟨2, ![8192, 1]⟩
abbrev S2048 : Shape := ⟨1, ![2048]⟩

abbrev nBuf : Space → Nat
  | .hbm => 154
  | .vmem => 0
  | .smem => 0
  | _ => 0

abbrev hbmTy0_0 (i : Nat) : BufTy := match i % 128 with
  | 0 => ⟨S9216x10240, .f32⟩
  | 1 => ⟨S1x16x513, .f32⟩
  | 2 => ⟨S1x2048, .f32⟩
  | 3 => ⟨S16x513, .f32⟩
  | 4 => ⟨S8192x2048, .f32⟩
  | 5 => ⟨S4x2048x16x128, .f32⟩
  | 6 => ⟨S8192x2048, .f32⟩
  | 7 => ⟨S4x2048x16x128, .f32⟩
  | 8 => ⟨S8192x2048, .f32⟩
  | 9 => ⟨S4x2048x16x128, .f32⟩
  | 10 => ⟨S4x32x64x16x128, .f32⟩
  | 11 => ⟨S_, .i32⟩
  | 12 => ⟨S_, .f32⟩
  | 13 => ⟨S4x2560x16x128, .f32⟩
  | 14 => ⟨S4x40x64x16x128, .f32⟩
  | 15 => ⟨S_, .i32⟩
  | 16 => ⟨S_, .f32⟩
  | 17 => ⟨S4x2560x16x128, .f32⟩
  | 18 => ⟨S4x40x64x16x128, .f32⟩
  | 19 => ⟨S32, .i32⟩
  | 20 => ⟨S32x1, .i32⟩
  | 21 => ⟨S9, .i32⟩
  | 22 => ⟨S1x9, .i32⟩
  | 23 => ⟨S32x9, .i32⟩
  | 24 => ⟨S32x9, .i32⟩
  | 25 => ⟨S32x9, .i32⟩
  | 26 => ⟨S_, .i32⟩
  | 27 => ⟨S32x9, .i32⟩
  | 28 => ⟨S32x9, .i1⟩
  | 29 => ⟨S_, .i32⟩
  | 30 => ⟨S32x9, .i32⟩
  | 31 => ⟨S32x9, .i32⟩
  | 32 => ⟨S32x9, .i32⟩
  | 33 => ⟨S32x9x1, .i32⟩
  | 34 => ⟨S4x32x9x64x16x128, .f32⟩
  | 35 => ⟨S4x32x576x16x128, .f32⟩
  | 36 => ⟨S_, .i32⟩
  | 37 => ⟨S32x9, .i32⟩
  | 38 => ⟨S32x9, .i1⟩
  | 39 => ⟨S_, .i32⟩
  | 40 => ⟨S32x9, .i32⟩
  | 41 => ⟨S32x9, .i32⟩
  | 42 => ⟨S32x9, .i32⟩
  | 43 => ⟨S32x9x1, .i32⟩
  | 44 => ⟨S4x32x9x64x16x128, .f32⟩
  | 45 => ⟨S4x32x576x16x128, .f32⟩
  | 46 => ⟨S64, .i32⟩
  | 47 => ⟨S_, .i32⟩
  | 48 => ⟨S64, .i32⟩
  | 49 => ⟨S64, .i32⟩
  | 50 => ⟨S64x1, .i32⟩
  | 51 => ⟨S576, .i32⟩
  | 52 => ⟨S1x576, .i32⟩
  | 53 => ⟨S64x576, .i32⟩
  | 54 => ⟨S64x576, .i32⟩
  | 55 => ⟨S64x576, .i32⟩
  | 56 => ⟨S_, .i32⟩
  | 57 => ⟨S_, .i32⟩
  | 58 => ⟨S_, .i32⟩
  | 59 => ⟨S64x576, .i32⟩
  | 60 => ⟨S64x576, .i32⟩
  | 61 => ⟨S_, .i32⟩
  | 62 => ⟨S64x576, .i32⟩
  | 63 => ⟨S64x576, .i32⟩
  | 64 => ⟨S_, .i32⟩
  | 65 => ⟨S64x576, .i32⟩
  | 66 => ⟨S64x576, .i32⟩
  | 67 => ⟨S_, .i32⟩
  | 68 => ⟨S64x576, .i32⟩
  | 69 => ⟨S64x576, .i1⟩
  | 70 => ⟨S_, .i32⟩
  | 71 => ⟨S64x576, .i32⟩
  | 72 => ⟨S64x576, .i32⟩
  | 73 => ⟨S64x576, .i32⟩
  | 74 => ⟨S64x576x1, .i32⟩
  | 75 => ⟨S1, .i32⟩
  | 76 => ⟨S_, .i32⟩
  | 77 => ⟨S64x576x1, .i32⟩
  | 78 => ⟨S64x576x1, .i1⟩
  | 79 => ⟨S1x1x1, .i32⟩
  | 80 => ⟨S64x576x1, .i32⟩
  | 81 => ⟨S64x576x1, .i1⟩
  | 82 => ⟨S64x576x1, .i1⟩
  | 83 => ⟨S_, .i1⟩
  | 84 => ⟨S64x576, .i1⟩
  | 85 => ⟨S16x64x576, .f32⟩
  | 86 => ⟨S16x64x576, .i1⟩
  | 87 => ⟨S_, .f32⟩
  | 88 => ⟨S16x64x576, .f32⟩
  | 89 => ⟨S16x64x576, .f32⟩
  | 90 => ⟨S32, .i32⟩
  | 91 => ⟨S32x1, .i32⟩
  | 92 => ⟨S_, .i32⟩
  | 93 => ⟨S32x1, .i32⟩
  | 94 => ⟨S32x1, .i32⟩
  | 95 => ⟨S_, .i32⟩
  | 96 => ⟨S32x1, .i32⟩
  | 97 => ⟨S32x1, .i32⟩
  | 98 => ⟨S576, .i32⟩
  | 99 => ⟨S1x576, .i32⟩
  | 100 => ⟨S32x576, .i32⟩
  | 101 => ⟨S32x576, .i32⟩
  | 102 => ⟨S32x576, .i32⟩
  | 103 => ⟨S_, .i32⟩
  | 104 => ⟨S32x576, .i32⟩
  | 105 => ⟨S32x576, .i1⟩
  | 106 => ⟨S4x32x16x64x576, .f32⟩
  | 107 => ⟨S_, .f32⟩
  | 108 => ⟨S4x32x16x64x576, .f32⟩
  | 109 => ⟨S4x32x16x64x576, .f32⟩
  | 110 => ⟨S1x1x16x64x576, .f32⟩
  | 111 => ⟨S4x32x16x64x576, .f32⟩
  | 112 => ⟨S4x32x16x64x576, .f32⟩
  | 113 => ⟨S1x32x1x1x576, .i1⟩
  | 114 => ⟨S_, .f32⟩
  | 115 => ⟨S_, .f32⟩
  | 116 => ⟨S4x32x16x64x576, .i1⟩
  | 117 => ⟨S4x32x16x64x576, .f32⟩
  | 118 => ⟨S4x32x16x64x576, .f32⟩
  | 119 => ⟨S_, .f32⟩
  | 120 => ⟨S4x32x16x64, .f32⟩
  | 121 => ⟨S_, .f32⟩
  | 122 => ⟨S4x32x16x64, .f32⟩
  | 123 => ⟨S4x32x16x64, .f32⟩
  | 124 => ⟨S4x32x16x64x1, .f32⟩
  | 125 => ⟨S4x32x16x64x576, .f32⟩
  | 126 => ⟨S4x32x16x64x576, .f32⟩
  | 127 => ⟨S4x32x16x64x576, .f32⟩
  | _ => ⟨S9216x10240, .f32⟩

abbrev hbmTy0_1 (i : Nat) : BufTy := match i % 128 with
  | 0 => ⟨S_, .f32⟩
  | 1 => ⟨S4x32x16x64, .f32⟩
  | 2 => ⟨S4x32x16x64x1, .f32⟩
  | 3 => ⟨S4x32x16x64x576, .f32⟩
  | 4 => ⟨S4x32x16x64x576, .f32⟩
  | 5 => ⟨S4x32x16x128x64, .f32⟩
  | 6 => ⟨S4x32x64x16x128, .f32⟩
  | 7 => ⟨S8192x2048, .f32⟩
  | 8 => ⟨S8192x2048, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x2048, .f32⟩
  | 20 => ⟨S8192x2048, .f32⟩
  | 21 => ⟨S2048, .f32⟩
  | 22 => ⟨S1x2048, .f32⟩
  | 23 => ⟨S8192x2048, .f32⟩
  | 24 => ⟨S8192x2048, .f32⟩
  | 25 => ⟨S8192x2048, .bf16⟩
  | _ => ⟨S9216x10240, .f32⟩

abbrev hbmTy (i : Nat) : BufTy := match i / 128 with
  | 0 => hbmTy0_0 i
  | 1 => hbmTy0_1 i
  | _ => ⟨S9216x10240, .f32⟩

abbrev bufTy : (tb : Table) → Fin (tcTables nBuf tb) → BufTy
  | .hbm, ⟨i, _⟩ => hbmTy i
  | _, _ => ⟨S9216x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_c_10 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_11 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_12 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v68 : Ref sig .tc := ⟨.hbm, 118, rfl⟩
abbrev main_cst_13 : Ref sig .tc := ⟨.hbm, 119, rfl⟩
abbrev main_v69 : Ref sig .tc := ⟨.hbm, 120, rfl⟩
abbrev main_cst_14 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_15 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_16 : Ref sig .tc := ⟨.hbm, 137, rfl⟩
abbrev main_v84 : Ref sig .tc := ⟨.hbm, 138, rfl⟩
abbrev main_v85 : Ref sig .tc := ⟨.hbm, 139, rfl⟩
abbrev main_cst_17 : Ref sig .tc := ⟨.hbm, 140, rfl⟩
abbrev main_v86 : Ref sig .tc := ⟨.hbm, 141, rfl⟩
abbrev main_v87 : Ref sig .tc := ⟨.hbm, 142, rfl⟩
abbrev main_cst_18 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩

abbrev nD : Nat := 1
abbrev τ : Topo := Topo.v7x

variable {F : FTy → Type} [FloatOps F]

def κ : String → Option EReal := fun
  | "mask" => some ⊥
  | _ => none
-- ==== In.lean ====
abbrev S9216x4096 : Shape := ⟨2, ![9216, 4096]⟩
abbrev S1x4096x10240 : Shape := ⟨3, ![1, 4096, 10240]⟩
abbrev S4096x10240 : Shape := ⟨2, ![4096, 10240]⟩
abbrev S9216x10240 : Shape := ⟨2, ![9216, 10240]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1x4096x10240, .f32⟩
  | .hbm, ⟨2, _⟩ => ⟨S4096x10240, .f32⟩
  | .hbm, ⟨3, _⟩ => ⟨S4096x10240, .bf16⟩
  | .hbm, ⟨4, _⟩ => ⟨S9216x10240, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S9216x4096 : Shape := ⟨2, ![9216, 4096]⟩
abbrev S1x4096x10240 : Shape := ⟨3, ![1, 4096, 10240]⟩
abbrev S4096x10240 : Shape := ⟨2, ![4096, 10240]⟩
abbrev S9216x10240 : Shape := ⟨2, ![9216, 10240]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1x4096x10240, .f32⟩
  | .hbm, ⟨2, _⟩ => ⟨S9216x4096, .f32⟩
  | .hbm, ⟨3, _⟩ => ⟨S4096x10240, .f32⟩
  | .hbm, ⟨4, _⟩ => ⟨S9216x10240, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S1024x4096 : Shape := ⟨2, ![1024, 4096]⟩
abbrev S1x4096x512 : Shape := ⟨3, ![1, 4096, 512]⟩
abbrev S4096x512 : Shape := ⟨2, ![4096, 512]⟩
abbrev S4096x1024 : Shape := ⟨2, ![4096, 1024]⟩
abbrev S1024x1024 : Shape := ⟨2, ![1024, 1024]⟩

abbrev nBuf : Space → Nat
  | .hbm => 8
  | .vmem => 3
  | .smem => 0
  | _ => 0

abbrev bufTy : (tb : Table) → Fin (tcTables nBuf tb) → BufTy
  | .hbm, ⟨0, _⟩ => ⟨S1024x4096, .bf16⟩
  | .hbm, ⟨1, _⟩ => ⟨S1x4096x512, .f32⟩
  | .hbm, ⟨2, _⟩ => ⟨S1x4096x512, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S4096x1024, .bf16⟩
  | .hbm, ⟨7, _⟩ => ⟨S1024x1024, .f32⟩
  | .local _ .vmem, ⟨0, _⟩ => ⟨S1024x4096, .bf16⟩
  | .local _ .vmem, ⟨1, _⟩ => ⟨S4096x1024, .bf16⟩
  | .local _ .vmem, ⟨2, _⟩ => ⟨S1024x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== KvRefIdeal.lean ====
abbrev S1024x4096 : Shape := ⟨2, ![1024, 4096]⟩
abbrev S1x4096x512 : Shape := ⟨3, ![1, 4096, 512]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x4096x512, .f32⟩
  | .hbm, ⟨2, _⟩ => ⟨S1x4096x512, .f32⟩
  | .hbm, ⟨3, _⟩ => ⟨S1024x4096, .f32⟩
  | .hbm, ⟨4, _⟩ => ⟨S4096x512, .f32⟩
  | .hbm, ⟨5, _⟩ => ⟨S1024x512, .f32⟩
  | .hbm, ⟨6, _⟩ => ⟨S4096x512, .f32⟩
  | .hbm, ⟨7, _⟩ => ⟨S1024x512, .f32⟩
  | .hbm, ⟨8, _⟩ => ⟨S1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S8192x2048 : Shape := ⟨2, ![8192, 2048]⟩
abbrev S1024x2048 : Shape := ⟨2, ![1024, 2048]⟩
abbrev S1x4096x4096 : Shape := ⟨3, ![1, 4096, 4096]⟩
abbrev S4x2048x4096 : Shape := ⟨3, ![4, 2048, 4096]⟩
abbrev S16x64x4096 : Shape := ⟨3, ![16, 64, 4096]⟩
abbrev S8192x4096 : Shape := ⟨2, ![8192, 4096]⟩
abbrev S1024x4096 : Shape := ⟨2, ![1024, 4096]⟩
abbrev S4096x4096 : Shape := ⟨2, ![4096, 4096]⟩
abbrev S9216x4096 : Shape := ⟨2, ![9216, 4096]⟩
abbrev S2048x256 : Shape := ⟨2, ![2048, 256]⟩
abbrev S1024x256 : Shape := ⟨2, ![1024, 256]⟩

abbrev nBuf : Space → Nat
  | .hbm => 12
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S1x4096x4096, .f32⟩
  | .hbm, ⟨5, _⟩ => ⟨S4x2048x4096, .f32⟩
  | .hbm, ⟨6, _⟩ => ⟨S16x64x4096, .f32⟩
  | .hbm, ⟨7, _⟩ => ⟨S8192x4096, .f32⟩
  | .hbm, ⟨8, _⟩ => ⟨S1024x4096, .f32⟩
  | .hbm, ⟨9, _⟩ => ⟨S4096x4096, .f32⟩
  | .hbm, ⟨10, _⟩ => ⟨S4096x4096, .bf16⟩
  | .hbm, ⟨11, _⟩ => ⟨S9216x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 16], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutRefIdeal.lean ====
abbrev S8192x2048 : Shape := ⟨2, ![8192, 2048]⟩
abbrev S1024x2048 : Shape := ⟨2, ![1024, 2048]⟩
abbrev S1x4096x4096 : Shape := ⟨3, ![1, 4096, 4096]⟩
abbrev S4x2048x4096 : Shape := ⟨3, ![4, 2048, 4096]⟩
abbrev S16x64x4096 : Shape := ⟨3, ![16, 64, 4096]⟩
abbrev S8192x4096 : Shape := ⟨2, ![8192, 4096]⟩
abbrev S4096x4096 : Shape := ⟨2, ![4096, 4096]⟩
abbrev S1024x4096 : Shape := ⟨2, ![1024, 4096]⟩
abbrev S9216x4096 : Shape := ⟨2, ![9216, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x2048, .bf16⟩
  | .hbm, ⟨3, _⟩ => ⟨S1024x2048, .bf16⟩
  | .hbm, ⟨4, _⟩ => ⟨S1x4096x4096, .f32⟩
  | .hbm, ⟨5, _⟩ => ⟨S4x2048x4096, .f32⟩
  | .hbm, ⟨6, _⟩ => ⟨S16x64x4096, .f32⟩
  | .hbm, ⟨7, _⟩ => ⟨S8192x2048, .f32⟩
  | .hbm, ⟨8, _⟩ => ⟨S1024x2048, .f32⟩
  | .hbm, ⟨9, _⟩ => ⟨S8192x2048, .f32⟩
  | .hbm, ⟨10, _⟩ => ⟨S1024x2048, .f32⟩
  | .hbm, ⟨11, _⟩ => ⟨S8192x4096, .f32⟩
  | .hbm, ⟨12, _⟩ => ⟨S8192x4096, .f32⟩
  | .hbm, ⟨13, _⟩ => ⟨S4096x4096, .f32⟩
  | .hbm, ⟨14, _⟩ => ⟨S8192x4096, .f32⟩
  | .hbm, ⟨15, _⟩ => ⟨S8192x4096, .f32⟩
  | .hbm, ⟨16, _⟩ => ⟨S1024x4096, .f32⟩
  | .hbm, ⟨17, _⟩ => ⟨S1024x4096, .f32⟩
  | .hbm, ⟨18, _⟩ => ⟨S4096x4096, .f32⟩
  | .hbm, ⟨19, _⟩ => ⟨S1024x4096, .f32⟩
  | .hbm, ⟨20, _⟩ => ⟨S1024x4096, .f32⟩
  | .hbm, ⟨21, _⟩ => ⟨S9216x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Down.lean ====
abbrev S56 : Shape := ⟨1, ![56]⟩
abbrev S1 : Shape := ⟨1, ![1]⟩
abbrev S86016x4096 : Shape := ⟨2, ![86016, 4096]⟩
abbrev S1x32x4096x4096 : Shape := ⟨4, ![1, 32, 4096, 4096]⟩
abbrev S1x32x4096 : Shape := ⟨3, ![1, 32, 4096]⟩
abbrev S32x4096x4096 : Shape := ⟨3, ![32, 4096, 4096]⟩
abbrev S32x4096 : Shape := ⟨2, ![32, 4096]⟩
abbrev S_ : Shape := ⟨0, ![]⟩
abbrev S32x1x4096 : Shape := ⟨3, ![32, 1, 4096]⟩
abbrev S1536x4096 : Shape := ⟨2, ![1536, 4096]⟩
abbrev S1x4096x512 : Shape := ⟨3, ![1, 4096, 512]⟩
abbrev S1x1x4096 : Shape := ⟨3, ![1, 1, 4096]⟩
abbrev S1536x512 : Shape := ⟨2, ![1536, 512]⟩
abbrev S128x4096 : Shape := ⟨2, ![128, 4096]⟩
abbrev S4096x512 : Shape := ⟨2, ![4096, 512]⟩
abbrev S128x512 : Shape := ⟨2, ![128, 512]⟩
abbrev S1x1x512 : Shape := ⟨3, ![1, 1, 512]⟩
abbrev S1x512 : Shape := ⟨2, ![1, 512]⟩
abbrev S256x4096 : Shape := ⟨2, ![256, 4096]⟩
abbrev S256x512 : Shape := ⟨2, ![256, 512]⟩
abbrev S384x4096 : Shape := ⟨2, ![384, 4096]⟩
abbrev S384x512 : Shape := ⟨2, ![384, 512]⟩
abbrev S512x4096 : Shape := ⟨2, ![512, 4096]⟩
abbrev S512x512 : Shape := ⟨2, ![512, 512]⟩
abbrev S640x4096 : Shape := ⟨2, ![640, 4096]⟩
abbrev S640x512 : Shape := ⟨2, ![640, 512]⟩
abbrev S768x4096 : Shape := ⟨2, ![768, 4096]⟩
abbrev S768x512 : Shape := ⟨2, ![768, 512]⟩
abbrev S896x4096 : Shape := ⟨2, ![896, 4096]⟩
abbrev S896x512 : Shape := ⟨2, ![896, 512]⟩
abbrev S1024x4096 : Shape := ⟨2, ![1024, 4096]⟩
abbrev S1024x512 : Shape := ⟨2, ![1024, 512]⟩
abbrev S1152x4096 : Shape := ⟨2, ![1152, 4096]⟩
abbrev S1152x512 : Shape := ⟨2, ![1152, 512]⟩
abbrev S1280x4096 : Shape := ⟨2, ![1280, 4096]⟩
abbrev S1280x512 : Shape := ⟨2, ![1280, 512]⟩
abbrev S1408x4096 : Shape := ⟨2, ![1408, 4096]⟩
abbrev S1408x512 : Shape := ⟨2, ![1408, 512]⟩

abbrev nBuf : Space → Nat
  | .hbm => 8
  | .vmem => 8
  | .smem => 3
  | _ => 0

abbrev bufTy : (tb : Table) → Fin (tcTables nBuf tb) → BufTy
  | .hbm, ⟨0, _⟩ => ⟨S1, .i32⟩
  | .hbm, ⟨1, _⟩ => ⟨S86016x4096, .bf16⟩
  | .hbm, ⟨2, _⟩ => ⟨S1x32x4096x4096, .f32⟩
  | .hbm, ⟨3, _⟩ => ⟨S1x32x4096, .f32⟩
  | .hbm, ⟨4, _⟩ => ⟨S32x4096x4096, .f32⟩
  | .hbm, ⟨5, _⟩ => ⟨S32x4096, .f32⟩
  | .hbm, ⟨6, _⟩ => ⟨S32x1x4096, .f32⟩
  | .hbm, ⟨7, _⟩ => ⟨S86016x4096, .f32⟩
  | .local _ .vmem, ⟨0, _⟩ => ⟨S1536x4096, .bf16⟩
  | .local _ .vmem, ⟨1, _⟩ => ⟨S1536x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1x4096, .f32⟩
  | .local _ .vmem, ⟨5, _⟩ => ⟨S1x1x4096, .f32⟩
  | .local _ .vmem, ⟨6, _⟩ => ⟨S1536x512, .f32⟩
  | .local _ .vmem, ⟨7, _⟩ => ⟨S1536x512, .f32⟩
  | .local _ .smem, ⟨0, _⟩ => ⟨S_, .i32⟩
  | .local _ .smem, ⟨1, _⟩ => ⟨S56, .i32⟩
  | .local _ .smem, ⟨2, _⟩ => ⟨S56, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v3 : Ref sig .tc := ⟨.hbm, 6, rfl⟩
abbrev main_v4 : Ref sig .tc := ⟨.hbm, 7, rfl⟩
abbrev main_v2 : Ref sig .tc := ⟨.smem, 0, rfl⟩
abbrev main_arg0 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![0, 8], ![true, false]⟩

abbrev pre0 : Pipeline.Prefetch sig := ⟨3, ![main_v2.idx, main_arg0.idx, main_arg1.idx], fun | 0 => main_v2.names | 1 => main_arg0.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def dynb0 (pf : pre0.Contents (Elt F)) : grid0.Bounds := ![(pf 0 fun a => a.elim0).toNat, 8]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v1 : Index := Scalar.indexCast arg0
  ![v1.toNat]

def k0_chk1 (arg0 : BitVec 32) : Prop :=
  (∀ a, (k0_off2 arg0) a + S1.size a ≤ S56.size a)
theorem k0_off2_inb : ∀ (arg0 : BitVec 32) (k0_hw1 : k0_chk1 arg0), ∀ a, (k0_off2 arg0) a + S1.size a ≤ S56.size a := fun arg0 k0_hw1 => k0_hw1

def k0_mult1 (i : grid0.Static) : BitVec 32 :=
  let arg1 : BitVec 32 := BitVec.ofNat 32 (i 1).val
  let c512_i32 : BitVec 32 := 512#32
  let v0 : BitVec 32 := Scalar.muli arg1 c512_i32
  v0
def k0_off3 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult2 (i : grid0.Static) : BitVec 32 :=
  let arg1 : BitVec 32 := BitVec.ofNat 32 (i 1).val
  let c512_i32 : BitVec 32 := 512#32
  let v0 : BitVec 32 := Scalar.muli arg1 c512_i32
  v0
def k0_off4 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult3 (i : grid0.Static) : BitVec 32 :=
  let arg1 : BitVec 32 := BitVec.ofNat 32 (i 1).val
  let c512_i32 : BitVec 32 := 512#32
  let v0 : BitVec 32 := Scalar.muli arg1 c512_i32
  v0
def k0_off5 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult4 (i : grid0.Static) : BitVec 32 :=
  let arg1 : BitVec 32 := BitVec.ofNat 32 (i 1).val
  let c512_i32 : BitVec 32 := 512#32
  let v0 : BitVec 32 := Scalar.muli arg1 c512_i32
  v0
def k0_off6 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult5 (i : grid0.Static) : BitVec 32 :=
  let arg1 : BitVec 32 := BitVec.ofNat 32 (i 1).val
  let c512_i32 : BitVec 32 := 512#32
  let v0 : BitVec 32 := Scalar.muli arg1 c512_i32
  v0
def k0_off7 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult6 (i : grid0.Static) : BitVec 32 :=
  let arg1 : BitVec 32 := BitVec.ofNat 32 (i 1).val
  let c512_i32 : BitVec 32 := 512#32
  let v0 : BitVec 32 := Scalar.muli arg1 c512_i32
  v0
def k0_off8 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult7 (i : grid0.Static) : BitVec 32 :=
  let arg1 : BitVec 32 := BitVec.ofNat 32 (i 1).val
  let c512_i32 : BitVec 32 := 512#32
  let v0 : BitVec 32 := Scalar.muli arg1 c512_i32
  v0
def k0_off9 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult8 (i : grid0.Static) : BitVec 32 :=
  let arg1 : BitVec 32 := BitVec.ofNat 32 (i 1).val
  let c512_i32 : BitVec 32 := 512#32
  let v0 : BitVec 32 := Scalar.muli arg1 c512_i32
  v0
def k0_off10 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult9 (i : grid0.Static) : BitVec 32 :=
  let arg1 : BitVec 32 := BitVec.ofNat 32 (i 1).val
  let c512_i32 : BitVec 32 := 512#32
  let v0 : BitVec 32 := Scalar.muli arg1 c512_i32
  v0
def k0_off11 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult10 (i : grid0.Static) : BitVec 32 :=
  let arg1 : BitVec 32 := BitVec.ofNat 32 (i 1).val
  let c512_i32 : BitVec 32 := 512#32
  let v0 : BitVec 32 := Scalar.muli arg1 c512_i32
  v0
def k0_off12 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult11 (i : grid0.Static) : BitVec 32 :=
  let arg1 : BitVec 32 := BitVec.ofNat 32 (i 1).val
  let c512_i32 : BitVec 32 := 512#32
  let v0 : BitVec 32 := Scalar.muli arg1 c512_i32
  v0
def k0_off13 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_mult12 (i : grid0.Static) : BitVec 32 :=
  let arg1 : BitVec 32 := BitVec.ofNat 32 (i 1).val
  let c512_i32 : BitVec 32 := 512#32
  let v0 : BitVec 32 := Scalar.muli arg1 c512_i32
  v0
def k0_off14 (i : grid0.Static) : Fin 3 → Nat :=
  let c0_23 : Index := 0#32
  let c0_24 : Index := 0#32
  let arg1 : BitVec 32 := BitVec.ofNat 32 (i 1).val
  let c512_i32 : BitVec 32 := 512#32
  let v0 : BitVec 32 := Scalar.muli arg1 c512_i32
  let v63 : BitVec 32 := v0
  let v64 : Index := Scalar.indexCast v63
  ![0, 0, v64.toNat]
def k0_cond1 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c1_i32_6 : BitVec 32 := 1#32
  let v22 : BitVec 1 := Scalar.cmpi .eq v21 c1_i32_6
  let v23 : BitVec 32 := Scalar.extui v22
  let c0_i32_7 : BitVec 32 := 0#32
  let v24 : BitVec 1 := Scalar.cmpi .ne v23 c0_i32_7
  v24

def k0_cond2 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c2_i32 : BitVec 32 := 2#32
  let v25 : BitVec 1 := Scalar.cmpi .eq v21 c2_i32
  let v26 : BitVec 32 := Scalar.extui v25
  let c0_i32_8 : BitVec 32 := 0#32
  let v27 : BitVec 1 := Scalar.cmpi .ne v26 c0_i32_8
  v27

def k0_cond3 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c3_i32 : BitVec 32 := 3#32
  let v28 : BitVec 1 := Scalar.cmpi .eq v21 c3_i32
  let v29 : BitVec 32 := Scalar.extui v28
  let c0_i32_9 : BitVec 32 := 0#32
  let v30 : BitVec 1 := Scalar.cmpi .ne v29 c0_i32_9
  v30

def k0_cond4 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c4_i32 : BitVec 32 := 4#32
  let v31 : BitVec 1 := Scalar.cmpi .eq v21 c4_i32
  let v32 : BitVec 32 := Scalar.extui v31
  let c0_i32_10 : BitVec 32 := 0#32
  let v33 : BitVec 1 := Scalar.cmpi .ne v32 c0_i32_10
  v33

def k0_cond5 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c5_i32 : BitVec 32 := 5#32
  let v34 : BitVec 1 := Scalar.cmpi .eq v21 c5_i32
  let v35 : BitVec 32 := Scalar.extui v34
  let c0_i32_11 : BitVec 32 := 0#32
  let v36 : BitVec 1 := Scalar.cmpi .ne v35 c0_i32_11
  v36

def k0_cond6 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c6_i32 : BitVec 32 := 6#32
  let v37 : BitVec 1 := Scalar.cmpi .eq v21 c6_i32
  let v38 : BitVec 32 := Scalar.extui v37
  let c0_i32_12 : BitVec 32 := 0#32
  let v39 : BitVec 1 := Scalar.cmpi .ne v38 c0_i32_12
  v39

def k0_cond7 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c7_i32 : BitVec 32 := 7#32
  let v40 : BitVec 1 := Scalar.cmpi .eq v21 c7_i32
  let v41 : BitVec 32 := Scalar.extui v40
  let c0_i32_13 : BitVec 32 := 0#32
  let v42 : BitVec 1 := Scalar.cmpi .ne v41 c0_i32_13
  v42

def k0_cond8 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c8_i32 : BitVec 32 := 8#32
  let v43 : BitVec 1 := Scalar.cmpi .eq v21 c8_i32
  let v44 : BitVec 32 := Scalar.extui v43
  let c0_i32_14 : BitVec 32 := 0#32
  let v45 : BitVec 1 := Scalar.cmpi .ne v44 c0_i32_14
  v45

def k0_cond9 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c9_i32 : BitVec 32 := 9#32
  let v46 : BitVec 1 := Scalar.cmpi .eq v21 c9_i32
  let v47 : BitVec 32 := Scalar.extui v46
  let c0_i32_15 : BitVec 32 := 0#32
  let v48 : BitVec 1 := Scalar.cmpi .ne v47 c0_i32_15
  v48

def k0_cond10 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c10_i32 : BitVec 32 := 10#32
  let v49 : BitVec 1 := Scalar.cmpi .eq v21 c10_i32
  let v50 : BitVec 32 := Scalar.extui v49
  let c0_i32_16 : BitVec 32 := 0#32
  let v51 : BitVec 1 := Scalar.cmpi .ne v50 c0_i32_16
  v51

def k0_cond11 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c11_i32 : BitVec 32 := 11#32
  let v52 : BitVec 1 := Scalar.cmpi .eq v21 c11_i32
  let v53 : BitVec 32 := Scalar.extui v52
  let c0_i32_17 : BitVec 32 := 0#32
  let v54 : BitVec 1 := Scalar.cmpi .ne v53 c0_i32_17
  v54

def k0_cond12 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c12_i32 : BitVec 32 := 12#32
  let v55 : BitVec 1 := Scalar.cmpi .eq v21 c12_i32
  let v56 : BitVec 32 := Scalar.extui v55
  let c0_i32_18 : BitVec 32 := 0#32
  let v57 : BitVec 1 := Scalar.cmpi .ne v56 c0_i32_18
  v57

def cc0_transform_0 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let v2 : BitVec 32 := Scalar.addi c0_i32 arg1
  let c0_i32_0 : BitVec 32 := 0#32
  let c0_i32_1 : BitVec 32 := 0#32
  ![v1.toNat, c0_i32_0.toNat, v2.toNat]

def cc0_transform_2 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_3 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S56 : Shape := ⟨1, ![56]⟩
abbrev S1 : Shape := ⟨1, ![1]⟩
abbrev S86016x4096 : Shape := ⟨2, ![86016, 4096]⟩
abbrev S1x32x4096x4096 : Shape := ⟨4, ![1, 32, 4096, 4096]⟩
abbrev S1x32x4096 : Shape := ⟨3, ![1, 32, 4096]⟩
abbrev S56x1536x4096 : Shape := ⟨3, ![56, 1536, 4096]⟩
abbrev S32x4096x4096 : Shape := ⟨3, ![32, 4096, 4096]⟩
abbrev S_ : Shape := ⟨0, ![]⟩
abbrev S56x1 : Shape := ⟨2, ![56, 1]⟩
abbrev S56x4096x4096 : Shape := ⟨3, ![56, 4096, 4096]⟩
abbrev S32x4096 : Shape := ⟨2, ![32, 4096]⟩
abbrev S56x4096 : Shape := ⟨2, ![56, 4096]⟩
abbrev S56x1x4096 : Shape := ⟨3, ![56, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S56, .i32⟩
  | .hbm, ⟨1, _⟩ => ⟨S56, .i32⟩
  | .hbm, ⟨2, _⟩ => ⟨S1, .i32⟩
  | .hbm, ⟨3, _⟩ => ⟨S86016x4096, .bf16⟩
  | .hbm, ⟨4, _⟩ => ⟨S1x32x4096x4096, .f32⟩
  | .hbm, ⟨5, _⟩ => ⟨S1x32x4096, .f32⟩
  | .hbm, ⟨6, _⟩ => ⟨S86016x4096, .f32⟩
  | .hbm, ⟨7, _⟩ => ⟨S56x1536x4096, .f32⟩
  | .hbm, ⟨8, _⟩ => ⟨S32x4096x4096, .f32⟩
  | .hbm, ⟨9, _⟩ => ⟨S_, .i32⟩
  | .hbm, ⟨10, _⟩ => ⟨S56, .i32⟩
  | .hbm, ⟨11, _⟩ => ⟨S56, .i1⟩
  | .hbm, ⟨12, _⟩ => ⟨S_, .i32⟩
  | .hbm, ⟨13, _⟩ => ⟨S56, .i32⟩
  | .hbm, ⟨14, _⟩ => ⟨S56, .i32⟩
  | .hbm, ⟨15, _⟩ => ⟨S56, .i32⟩
  | .hbm, ⟨16, _⟩ => ⟨S56x1, .i32⟩
  | .hbm, ⟨17, _⟩ => ⟨S56x4096x4096, .f32⟩
  | .hbm, ⟨18, _⟩ => ⟨S56x1536x4096, .f32⟩
  | .hbm, ⟨19, _⟩ => ⟨S32x4096, .f32⟩
  | .hbm, ⟨20, _⟩ => ⟨S_, .i32⟩
  | .hbm, ⟨21, _⟩ => ⟨S56, .i32⟩
  | .hbm, ⟨22, _⟩ => ⟨S56, .i1⟩
  | .hbm, ⟨23, _⟩ => ⟨S_, .i32⟩
  | .hbm, ⟨24, _⟩ => ⟨S56, .i32⟩
  | .hbm, ⟨25, _⟩ => ⟨S56, .i32⟩
  | .hbm, ⟨26, _⟩ => ⟨S56, .i32⟩
  | .hbm, ⟨27, _⟩ => ⟨S56x1, .i32⟩
  | .hbm, ⟨28, _⟩ => ⟨S56x4096, .f32⟩
  | .hbm, ⟨29, _⟩ => ⟨S56x1x4096, .f32⟩
  | .hbm, ⟨30, _⟩ => ⟨S56x1536x4096, .f32⟩
  | .hbm, ⟨31, _⟩ => ⟨S56x1536x4096, .f32⟩
  | .hbm, ⟨32, _⟩ => ⟨S86016x4096, .f32⟩
  | _, _ => ⟨S56, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Up.lean ====
abbrev S56 : Shape := ⟨1, ![56]⟩
abbrev S1 : Shape := ⟨1, ![1]⟩
abbrev S86016x4096 : Shape := ⟨2, ![86016, 4096]⟩
abbrev S1x32x4096x8192 : Shape := ⟨4, ![1, 32, 4096, 8192]⟩
abbrev S1x32x8192 : Shape := ⟨3, ![1, 32, 8192]⟩
abbrev S32x4096x8192 : Shape := ⟨3, ![32, 4096, 8192]⟩
abbrev S32x8192 : Shape := ⟨2, ![32, 8192]⟩
abbrev S32x1x8192 : Shape := ⟨3, ![32, 1, 8192]⟩
abbrev S_ : Shape := ⟨0, ![]⟩
abbrev S1536x4096 : Shape := ⟨2, ![1536, 4096]⟩
abbrev S1x4096x256 : Shape := ⟨3, ![1, 4096, 256]⟩
abbrev S1x1x8192 : Shape := ⟨3, ![1, 1, 8192]⟩
abbrev S1536x256 : Shape := ⟨2, ![1536, 256]⟩
abbrev S128x4096 : Shape := ⟨2, ![128, 4096]⟩
abbrev S4096x256 : Shape := ⟨2, ![4096, 256]⟩
abbrev S128x256 : Shape := ⟨2, ![128, 256]⟩
abbrev S1x1x256 : Shape := ⟨3, ![1, 1, 256]⟩
abbrev S1x256 : Shape := ⟨2, ![1, 256]⟩
abbrev S256x4096 : Shape := ⟨2, ![256, 4096]⟩
abbrev S256x256 : Shape := ⟨2, ![256, 256]⟩
abbrev S384x4096 : Shape := ⟨2, ![384, 4096]⟩
abbrev S384x256 : Shape := ⟨2, ![384, 256]⟩
abbrev S512x4096 : Shape := ⟨2, ![512, 4096]⟩
abbrev S512x256 : Shape := ⟨2, ![512, 256]⟩
abbrev S640x4096 : Shape := ⟨2, ![640, 4096]⟩
abbrev S640x256 : Shape := ⟨2, ![640, 256]⟩
abbrev S768x4096 : Shape := ⟨2, ![768, 4096]⟩
abbrev S768x256 : Shape := ⟨2, ![768, 256]⟩
abbrev S896x4096 : Shape := ⟨2, ![896, 4096]⟩
abbrev S896x256 : Shape := ⟨2, ![896, 256]⟩
abbrev S1024x4096 : Shape := ⟨2, ![1024, 4096]⟩
abbrev S1024x256 : Shape := ⟨2, ![1024, 256]⟩
abbrev S1152x4096 : Shape := ⟨2, ![1152, 4096]⟩
abbrev S1152x256 : Shape := ⟨2, ![1152, 256]⟩
abbrev S1280x4096 : Shape := ⟨2, ![1280, 4096]⟩
abbrev S1280x256 : Shape := ⟨2, ![1280, 256]⟩
abbrev S1408x4096 : Shape := ⟨2, ![1408, 4096]⟩
abbrev S1408x256 : Shape := ⟨2, ![1408, 256]⟩

abbrev nBuf : Space → Nat
  | .hbm => 8
  | .vmem => 10
  | .smem => 3
  | _ => 0

abbrev bufTy : (tb : Table) → Fin (tcTables nBuf tb) → BufTy
  | .hbm, ⟨0, _⟩ => ⟨S1, .i32⟩
  | .hbm, ⟨1, _⟩ => ⟨S86016x4096, .bf16⟩
  | .hbm, ⟨2, _⟩ => ⟨S1x32x4096x8192, .f32⟩
  | .hbm, ⟨3, _⟩ => ⟨S1x32x8192, .f32⟩
  | .hbm, ⟨4, _⟩ => ⟨S32x4096x8192, .f32⟩
  | .hbm, ⟨5, _⟩ => ⟨S32x8192, .f32⟩
  | .hbm, ⟨6, _⟩ => ⟨S32x1x8192, .f32⟩
  | .hbm, ⟨7, _⟩ => ⟨S86016x4096, .bf16⟩
  | .local _ .vmem, ⟨0, _⟩ => ⟨S1536x4096, .bf16⟩
  | .local _ .vmem, ⟨1, _⟩ => ⟨S1536x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x1x8192, .f32⟩
  | .local _ .vmem, ⟨7, _⟩ => ⟨S1x1x8192, .f32⟩
  | .local _ .vmem, ⟨8, _⟩ => ⟨S1536x256, .bf16⟩
  | .local _ .vmem, ⟨9, _⟩ => ⟨S1536x256, .bf16⟩
  | .local _ .smem, ⟨0, _⟩ => ⟨S_, .i32⟩
  | .local _ .smem, ⟨1, _⟩ => ⟨S56, .i32⟩
  | .local _ .smem, ⟨2, _⟩ => ⟨S56, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v4 : Ref sig .tc := ⟨.hbm, 7, rfl⟩
abbrev main_v3 : Ref sig .tc := ⟨.smem, 0, rfl⟩
abbrev main_arg0 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![0, 16], ![true, false]⟩

abbrev pre0 : Pipeline.Prefetch sig := ⟨3, ![main_v3.idx, main_arg0.idx, main_arg1.idx], fun | 0 => main_v3.names | 1 => main_arg0.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def dynb0 (pf : pre0.Contents (Elt F)) : grid0.Bounds := ![(pf 0 fun a => a.elim0).toNat, 16]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v1 : Index := Scalar.indexCast arg0
  ![v1.toNat]

def k0_chk1 (arg0 : BitVec 32) : Prop :=
  (∀ a, (k0_off2 arg0) a + S1.size a ≤ S56.size a)
theorem k0_off2_inb : ∀ (arg0 : BitVec 32) (k0_hw1 : k0_chk1 arg0), ∀ a, (k0_off2 arg0) a + S1.size a ≤ S56.size a := fun arg0 k0_hw1 => k0_hw1

def k0_mult1 (i : grid0.Static) : BitVec 32 :=
  let arg1 : BitVec 32 := BitVec.ofNat 32 (i 1).val
  let c256_i32 : BitVec 32 := 256#32
  let v0 : BitVec 32 := Scalar.muli arg1 c256_i32
  v0
def k0_off3 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult2 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off4 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult3 (i : grid0.Static) : BitVec 32 :=
  let arg1 : BitVec 32 := BitVec.ofNat 32 (i 1).val
  let c256_i32 : BitVec 32 := 256#32
  let v0 : BitVec 32 := Scalar.muli arg1 c256_i32
  v0
def k0_off5 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult4 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off6 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult5 (i : grid0.Static) : BitVec 32 :=
  let arg1 : BitVec 32 := BitVec.ofNat 32 (i 1).val
  let c256_i32 : BitVec 32 := 256#32
  let v0 : BitVec 32 := Scalar.muli arg1 c256_i32
  v0
def k0_off7 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult6 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off8 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult7 (i : grid0.Static) : BitVec 32 :=
  let arg1 : BitVec 32 := BitVec.ofNat 32 (i 1).val
  let c256_i32 : BitVec 32 := 256#32
  let v0 : BitVec 32 := Scalar.muli arg1 c256_i32
  v0
def k0_off9 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult8 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off10 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult9 (i : grid0.Static) : BitVec 32 :=
  let arg1 : BitVec 32 := BitVec.ofNat 32 (i 1).val
  let c256_i32 : BitVec 32 := 256#32
  let v0 : BitVec 32 := Scalar.muli arg1 c256_i32
  v0
def k0_off11 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult10 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off12 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult11 (i : grid0.Static) : BitVec 32 :=
  let arg1 : BitVec 32 := BitVec.ofNat 32 (i 1).val
  let c256_i32 : BitVec 32 := 256#32
  let v0 : BitVec 32 := Scalar.muli arg1 c256_i32
  v0
def k0_off13 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult12 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off14 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult13 (i : grid0.Static) : BitVec 32 :=
  let arg1 : BitVec 32 := BitVec.ofNat 32 (i 1).val
  let c256_i32 : BitVec 32 := 256#32
  let v0 : BitVec 32 := Scalar.muli arg1 c256_i32
  v0
def k0_off15 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult14 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off16 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult15 (i : grid0.Static) : BitVec 32 :=
  let arg1 : BitVec 32 := BitVec.ofNat 32 (i 1).val
  let c256_i32 : BitVec 32 := 256#32
  let v0 : BitVec 32 := Scalar.muli arg1 c256_i32
  v0
def k0_off17 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult16 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off18 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult17 (i : grid0.Static) : BitVec 32 :=
  let arg1 : BitVec 32 := BitVec.ofNat 32 (i 1).val
  let c256_i32 : BitVec 32 := 256#32
  let v0 : BitVec 32 := Scalar.muli arg1 c256_i32
  v0
def k0_off19 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult18 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off20 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult19 (i : grid0.Static) : BitVec 32 :=
  let arg1 : BitVec 32 := BitVec.ofNat 32 (i 1).val
  let c256_i32 : BitVec 32 := 256#32
  let v0 : BitVec 32 := Scalar.muli arg1 c256_i32
  v0
def k0_off21 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult20 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off22 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult21 (i : grid0.Static) : BitVec 32 :=
  let arg1 : BitVec 32 := BitVec.ofNat 32 (i 1).val
  let c256_i32 : BitVec 32 := 256#32
  let v0 : BitVec 32 := Scalar.muli arg1 c256_i32
  v0
def k0_off23 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult22 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off24 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_mult23 (i : grid0.Static) : BitVec 32 :=
  let arg1 : BitVec 32 := BitVec.ofNat 32 (i 1).val
  let c256_i32 : BitVec 32 := 256#32
  let v0 : BitVec 32 := Scalar.muli arg1 c256_i32
  v0
def k0_off25 (i : grid0.Static) : Fin 3 → Nat :=
  let c0_23 : Index := 0#32
  let c0_24 : Index := 0#32
  let arg1 : BitVec 32 := BitVec.ofNat 32 (i 1).val
  let c256_i32 : BitVec 32 := 256#32
  let v0 : BitVec 32 := Scalar.muli arg1 c256_i32
  let v63 : BitVec 32 := v0
  let v64 : Index := Scalar.indexCast v63
  ![0, 0, v64.toNat]
def k0_mult24 (i : grid0.Static) : BitVec 32 :=
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  v73
def k0_off26 (i : grid0.Static) : Fin 3 → Nat :=
  let c0_29 : Index := 0#32
  let c0_30 : Index := 0#32
  let c4096_i32 : BitVec 32 := 4096#32
  let arg1 : BitVec 32 := BitVec.ofNat 32 (i 1).val
  let c256_i32 : BitVec 32 := 256#32
  let v0 : BitVec 32 := Scalar.muli arg1 c256_i32
  let v73 : BitVec 32 := Scalar.addi c4096_i32 v0
  let v74 : BitVec 32 := v73
  let v75 : Index := Scalar.indexCast v74
  ![0, 0, v75.toNat]
def k0_cond1 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c1_i32_6 : BitVec 32 := 1#32
  let v22 : BitVec 1 := Scalar.cmpi .eq v21 c1_i32_6
  let v23 : BitVec 32 := Scalar.extui v22
  let c0_i32_7 : BitVec 32 := 0#32
  let v24 : BitVec 1 := Scalar.cmpi .ne v23 c0_i32_7
  v24

def k0_cond2 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c2_i32 : BitVec 32 := 2#32
  let v25 : BitVec 1 := Scalar.cmpi .eq v21 c2_i32
  let v26 : BitVec 32 := Scalar.extui v25
  let c0_i32_8 : BitVec 32 := 0#32
  let v27 : BitVec 1 := Scalar.cmpi .ne v26 c0_i32_8
  v27

def k0_cond3 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c3_i32 : BitVec 32 := 3#32
  let v28 : BitVec 1 := Scalar.cmpi .eq v21 c3_i32
  let v29 : BitVec 32 := Scalar.extui v28
  let c0_i32_9 : BitVec 32 := 0#32
  let v30 : BitVec 1 := Scalar.cmpi .ne v29 c0_i32_9
  v30

def k0_cond4 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c4_i32 : BitVec 32 := 4#32
  let v31 : BitVec 1 := Scalar.cmpi .eq v21 c4_i32
  let v32 : BitVec 32 := Scalar.extui v31
  let c0_i32_10 : BitVec 32 := 0#32
  let v33 : BitVec 1 := Scalar.cmpi .ne v32 c0_i32_10
  v33

def k0_cond5 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c5_i32 : BitVec 32 := 5#32
  let v34 : BitVec 1 := Scalar.cmpi .eq v21 c5_i32
  let v35 : BitVec 32 := Scalar.extui v34
  let c0_i32_11 : BitVec 32 := 0#32
  let v36 : BitVec 1 := Scalar.cmpi .ne v35 c0_i32_11
  v36

def k0_cond6 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c6_i32 : BitVec 32 := 6#32
  let v37 : BitVec 1 := Scalar.cmpi .eq v21 c6_i32
  let v38 : BitVec 32 := Scalar.extui v37
  let c0_i32_12 : BitVec 32 := 0#32
  let v39 : BitVec 1 := Scalar.cmpi .ne v38 c0_i32_12
  v39

def k0_cond7 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c7_i32 : BitVec 32 := 7#32
  let v40 : BitVec 1 := Scalar.cmpi .eq v21 c7_i32
  let v41 : BitVec 32 := Scalar.extui v40
  let c0_i32_13 : BitVec 32 := 0#32
  let v42 : BitVec 1 := Scalar.cmpi .ne v41 c0_i32_13
  v42

def k0_cond8 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c8_i32 : BitVec 32 := 8#32
  let v43 : BitVec 1 := Scalar.cmpi .eq v21 c8_i32
  let v44 : BitVec 32 := Scalar.extui v43
  let c0_i32_14 : BitVec 32 := 0#32
  let v45 : BitVec 1 := Scalar.cmpi .ne v44 c0_i32_14
  v45

def k0_cond9 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c9_i32 : BitVec 32 := 9#32
  let v46 : BitVec 1 := Scalar.cmpi .eq v21 c9_i32
  let v47 : BitVec 32 := Scalar.extui v46
  let c0_i32_15 : BitVec 32 := 0#32
  let v48 : BitVec 1 := Scalar.cmpi .ne v47 c0_i32_15
  v48

def k0_cond10 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c10_i32 : BitVec 32 := 10#32
  let v49 : BitVec 1 := Scalar.cmpi .eq v21 c10_i32
  let v50 : BitVec 32 := Scalar.extui v49
  let c0_i32_16 : BitVec 32 := 0#32
  let v51 : BitVec 1 := Scalar.cmpi .ne v50 c0_i32_16
  v51

def k0_cond11 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c11_i32 : BitVec 32 := 11#32
  let v52 : BitVec 1 := Scalar.cmpi .eq v21 c11_i32
  let v53 : BitVec 32 := Scalar.extui v52
  let c0_i32_17 : BitVec 32 := 0#32
  let v54 : BitVec 1 := Scalar.cmpi .ne v53 c0_i32_17
  v54

def k0_cond12 (v2 : BitVec 32) : BitVec 1 :=
  let c128_i32 : BitVec 32 := 128#32
  let v3 : BitVec 32 := Scalar.addi v2 c128_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c128_i32_0 : BitVec 32 := 128#32
  let c0_i32_2 : BitVec 32 := 0#32
  let v11 : BitVec 1 := Scalar.cmpi .sgt c128_i32_0 c0_i32_2
  let v12 : BitVec 32 := Scalar.extui v11
  let c0_i32_3 : BitVec 32 := 0#32
  let v13 : BitVec 1 := Scalar.cmpi .slt c128_i32_0 c0_i32_3
  let v14 : BitVec 32 := Scalar.extui v13
  let v15 : BitVec 32 := Scalar.subi v12 v14
  let v16 : BitVec 1 := Scalar.cmpi .ne v10 v15
  let v17 : BitVec 32 := Scalar.remsi v4 c128_i32_0
  let c0_i32_4 : BitVec 32 := 0#32
  let v18 : BitVec 1 := Scalar.cmpi .ne v17 c0_i32_4
  let v19 : BitVec 1 := Scalar.andi v16 v18
  let v5 : BitVec 32 := Scalar.divsi v4 c128_i32_0
  let c1_i32_5 : BitVec 32 := 1#32
  let v20 : BitVec 32 := Scalar.subi v5 c1_i32_5
  let v21 : BitVec 32 := Scalar.select v19 v20 v5
  let c12_i32 : BitVec 32 := 12#32
  let v55 : BitVec 1 := Scalar.cmpi .eq v21 c12_i32
  let v56 : BitVec 32 := Scalar.extui v55
  let c0_i32_18 : BitVec 32 := 0#32
  let v57 : BitVec 1 := Scalar.cmpi .ne v56 c0_i32_18
  v57

def cc0_transform_0 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let v2 : BitVec 32 := Scalar.addi c0_i32 arg1
  let c0_i32_0 : BitVec 32 := 0#32
  let c0_i32_1 : BitVec 32 := 0#32
  ![v1.toNat, c0_i32_0.toNat, v2.toNat]

def cc0_transform_2 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c16_i32 : BitVec 32 := 16#32
  let v2 : BitVec 32 := Scalar.addi c16_i32 arg1
  let c0_i32 : BitVec 32 := 0#32
  let c0_i32_0 : BitVec 32 := 0#32
  ![v1.toNat, c0_i32.toNat, v2.toNat]

def cc0_transform_3 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_4 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S56 : Shape := ⟨1, ![56]⟩
abbrev S1 : Shape := ⟨1, ![1]⟩
abbrev S86016x4096 : Shape := ⟨2, ![86016, 4096]⟩
abbrev S1x32x4096x8192 : Shape := ⟨4, ![1, 32, 4096, 8192]⟩
abbrev S1x32x8192 : Shape := ⟨3, ![1, 32, 8192]⟩
abbrev S56x1536x4096 : Shape := ⟨3, ![56, 1536, 4096]⟩
abbrev S32x4096x8192 : Shape := ⟨3, ![32, 4096, 8192]⟩
abbrev S_ : Shape := ⟨0, ![]⟩
abbrev S56x1 : Shape := ⟨2, ![56, 1]⟩
abbrev S56x4096x8192 : Shape := ⟨3, ![56, 4096, 8192]⟩
abbrev S56x1536x8192 : Shape := ⟨3, ![56, 1536, 8192]⟩
abbrev S32x8192 : Shape := ⟨2, ![32, 8192]⟩
abbrev S56x8192 : Shape := ⟨2, ![56, 8192]⟩
abbrev S56x1x8192 : Shape := ⟨3, ![56, 1, 8192]⟩

abbrev nBuf : Space → Nat
  | .hbm => 63
  | .vmem => 0
  | .smem => 0
  | _ => 0

abbrev bufTy : (tb : Table) → Fin (tcTables nBuf tb) → BufTy
  | .hbm, ⟨0, _⟩ => ⟨S56, .i32⟩
  | .hbm, ⟨1, _⟩ => ⟨S56, .i32⟩
  | .hbm, ⟨2, _⟩ => ⟨S1, .i32⟩
  | .hbm, ⟨3, _⟩ => ⟨S86016x4096, .bf16⟩
  | .hbm, ⟨4, _⟩ => ⟨S1x32x4096x8192, .f32⟩
  | .hbm, ⟨5, _⟩ => ⟨S1x32x8192, .f32⟩
  | .hbm, ⟨6, _⟩ => ⟨S86016x4096, .f32⟩
  | .hbm, ⟨7, _⟩ => ⟨S56x1536x4096, .f32⟩
  | .hbm, ⟨8, _⟩ => ⟨S32x4096x8192, .f32⟩
  | .hbm, ⟨9, _⟩ => ⟨S_, .i32⟩
  | .hbm, ⟨10, _⟩ => ⟨S56, .i32⟩
  | .hbm, ⟨11, _⟩ => ⟨S56, .i1⟩
  | .hbm, ⟨12, _⟩ => ⟨S_, .i32⟩
  | .hbm, ⟨13, _⟩ => ⟨S56, .i32⟩
  | .hbm, ⟨14, _⟩ => ⟨S56, .i32⟩
  | .hbm, ⟨15, _⟩ => ⟨S56, .i32⟩
  | .hbm, ⟨16, _⟩ => ⟨S56x1, .i32⟩
  | .hbm, ⟨17, _⟩ => ⟨S56x4096x8192, .f32⟩
  | .hbm, ⟨18, _⟩ => ⟨S56x1536x8192, .f32⟩
  | .hbm, ⟨19, _⟩ => ⟨S32x8192, .f32⟩
  | .hbm, ⟨20, _⟩ => ⟨S_, .i32⟩
  | .hbm, ⟨21, _⟩ => ⟨S56, .i32⟩
  | .hbm, ⟨22, _⟩ => ⟨S56, .i1⟩
  | .hbm, ⟨23, _⟩ => ⟨S_, .i32⟩
  | .hbm, ⟨24, _⟩ => ⟨S56, .i32⟩
  | .hbm, ⟨25, _⟩ => ⟨S56, .i32⟩
  | .hbm, ⟨26, _⟩ => ⟨S56, .i32⟩
  | .hbm, ⟨27, _⟩ => ⟨S56x1, .i32⟩
  | .hbm, ⟨28, _⟩ => ⟨S56x8192, .f32⟩
  | .hbm, ⟨29, _⟩ => ⟨S56x1x8192, .f32⟩
  | .hbm, ⟨30, _⟩ => ⟨S56x1536x8192, .f32⟩
  | .hbm, ⟨31, _⟩ => ⟨S56x1536x8192, .f32⟩
  | .hbm, ⟨32, _⟩ => ⟨S56x1536x4096, .f32⟩
  | .hbm, ⟨33, _⟩ => ⟨S_, .f32⟩
  | .hbm, ⟨34, _⟩ => ⟨S56x1536x4096, .f32⟩
  | .hbm, ⟨35, _⟩ => ⟨S56x1536x4096, .f32⟩
  | .hbm, ⟨36, _⟩ => ⟨S56x1536x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S56x1536x4096, .f32⟩
  | .hbm, ⟨41, _⟩ => ⟨S56x1536x4096, .f32⟩
  | .hbm, ⟨42, _⟩ => ⟨S_, .f32⟩
  | .hbm, ⟨43, _⟩ => ⟨S56x1536x4096, .f32⟩
  | .hbm, ⟨44, _⟩ => ⟨S56x1536x4096, .f32⟩
  | .hbm, ⟨45, _⟩ => ⟨S_, .f32⟩
  | .hbm, ⟨46, _⟩ => ⟨S56x1536x4096, .f32⟩
  | .hbm, ⟨47, _⟩ => ⟨S56x1536x4096, .f32⟩
  | .hbm, ⟨48, _⟩ => ⟨S_, .f32⟩
  | .hbm, ⟨49, _⟩ => ⟨S56x1536x4096, .f32⟩
  | .hbm, ⟨50, _⟩ => ⟨S56x1536x4096, .f32⟩
  | .hbm, ⟨51, _⟩ => ⟨S56x1536x4096, .f32⟩
  | .hbm, ⟨52, _⟩ => ⟨S56x1536x4096, .f32⟩
  | .hbm, ⟨53, _⟩ => ⟨S_, .f32⟩
  | .hbm, ⟨54, _⟩ => ⟨S56x1536x4096, .f32⟩
  | .hbm, ⟨55, _⟩ => ⟨S56x1536x4096, .f32⟩
  | .hbm, ⟨56, _⟩ => ⟨S_, .f32⟩
  | .hbm, ⟨57, _⟩ => ⟨S56x1536x4096, .f32⟩
  | .hbm, ⟨58, _⟩ => ⟨S56x1536x4096, .f32⟩
  | .hbm, ⟨59, _⟩ => ⟨S56x1536x4096, .f32⟩
  | .hbm, ⟨60, _⟩ => ⟨S56x1536x4096, .f32⟩
  | .hbm, ⟨61, _⟩ => ⟨S86016x4096, .f32⟩
  | .hbm, ⟨62, _⟩ => ⟨S86016x4096, .bf16⟩
  | _, _ => ⟨S56, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Cs.lean ====
abbrev S9216x10240 : Shape := ⟨2, ![9216, 10240]⟩
abbrev S1x16x30x2048 : Shape := ⟨4, ![1, 16, 30, 2048]⟩
abbrev S1x31x2048 : Shape := ⟨3, ![1, 31, 2048]⟩
abbrev S1x2048 : Shape := ⟨2, ![1, 2048]⟩
abbrev S16x30x2048 : Shape := ⟨3, ![16, 30, 2048]⟩
abbrev S_ : Shape := ⟨0, ![]⟩
abbrev S16x32x2048 : Shape := ⟨3, ![16, 32, 2048]⟩
abbrev S31x2048 : Shape := ⟨2, ![31, 2048]⟩
abbrev S2048 : Shape := ⟨1, ![2048]⟩
abbrev S1024x2048 : Shape := ⟨2, ![1024, 2048]⟩
abbrev S64x2048 : Shape := ⟨2, ![64, 2048]⟩
abbrev S1x32x2048 : Shape := ⟨3, ![1, 32, 2048]⟩
abbrev S104x2048 : Shape := ⟨2, ![104, 2048]⟩
abbrev S8x72x512 : Shape := ⟨3, ![8, 72, 512]⟩
abbrev S32x2048 : Shape := ⟨2, ![32, 2048]⟩
abbrev S8x2048 : Shape := ⟨2, ![8, 2048]⟩
abbrev S72x512 : Shape := ⟨2, ![72, 512]⟩
abbrev S1x512 : Shape := ⟨2, ![1, 512]⟩
abbrev S1x72x512 : Shape := ⟨3, ![1, 72, 512]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 22
  | .vmem => 18
  | .smem => 0
  | _ => 0

abbrev bufTy : (tb : Table) → Fin (tcTables nBuf tb) → BufTy
  | .hbm, ⟨0, _⟩ => ⟨S9216x10240, .f32⟩
  | .hbm, ⟨1, _⟩ => ⟨S1x16x30x2048, .f32⟩
  | .hbm, ⟨2, _⟩ => ⟨S1x31x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S16x30x2048, .f32⟩
  | .hbm, ⟨8, _⟩ => ⟨S_, .i32⟩
  | .hbm, ⟨9, _⟩ => ⟨S_, .f32⟩
  | .hbm, ⟨10, _⟩ => ⟨S16x32x2048, .f32⟩
  | .hbm, ⟨11, _⟩ => ⟨S31x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S1024x2048, .bf16⟩
  | .hbm, ⟨21, _⟩ => ⟨S16x32x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S1x32x2048, .f32⟩
  | .local _ .vmem, ⟨5, _⟩ => ⟨S1x32x2048, .f32⟩
  | .local _ .vmem, ⟨6, _⟩ => ⟨S31x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S64x2048, .bf16⟩
  | .local _ .vmem, ⟨12, _⟩ => ⟨S64x2048, .bf16⟩
  | .local _ .vmem, ⟨13, _⟩ => ⟨S1x32x2048, .f32⟩
  | .local _ .vmem, ⟨14, _⟩ => ⟨S1x32x2048, .f32⟩
  | .local _ .vmem, ⟨15, _⟩ => ⟨S104x2048, .f32⟩
  | .local _ .vmem, ⟨16, _⟩ => ⟨S64x2048, .f32⟩
  | .local _ .vmem, ⟨17, _⟩ => ⟨S8x72x512, .f32⟩
  | _, _ => ⟨S9216x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c128_i32 : BitVec 32 := 128#32
  let v0 : BitVec 32 := Scalar.addi c128_i32 arg0
  let c4_i32 : BitVec 32 := 4#32
  let c0_i32 : BitVec 32 := 0#32
  ![v0.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CsRefIdeal.lean ====
abbrev S9216x10240 : Shape := ⟨2, ![9216, 10240]⟩
abbrev S1x16x30x2048 : Shape := ⟨4, ![1, 16, 30, 2048]⟩
abbrev S1x31x2048 : Shape := ⟨3, ![1, 31, 2048]⟩
abbrev S1x2048 : Shape := ⟨2, ![1, 2048]⟩
abbrev S1024x2048 : Shape := ⟨2, ![1024, 2048]⟩
abbrev S_ : Shape := ⟨0, ![]⟩
abbrev S16x64x2048 : Shape := ⟨3, ![16, 64, 2048]⟩
abbrev S16x30x2048 : Shape := ⟨3, ![16, 30, 2048]⟩
abbrev S16x94x2048 : Shape := ⟨3, ![16, 94, 2048]⟩
abbrev S16x32x2048 : Shape := ⟨3, ![16, 32, 2048]⟩

abbrev nBuf : Space → Nat
  | .hbm => 22
  | .vmem => 0
  | .smem => 0
  | _ => 0

abbrev bufTy : (tb : Table) → Fin (tcTables nBuf tb) → BufTy
  | .hbm, ⟨0, _⟩ => ⟨S9216x10240, .f32⟩
  | .hbm, ⟨1, _⟩ => ⟨S1x16x30x2048, .f32⟩
  | .hbm, ⟨2, _⟩ => ⟨S1x31x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S16x64x2048, .f32⟩
  | .hbm, ⟨19, _⟩ => ⟨S16x30x2048, .f32⟩
  | .hbm, ⟨20, _⟩ => ⟨S16x94x2048, .f32⟩
  | .hbm, ⟨21, _⟩ => ⟨S16x32x2048, .f32⟩
  | _, _ => ⟨S9216x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Cp.lean ====
abbrev S9216x10240 : Shape := ⟨2, ![9216, 10240]⟩
abbrev S1x31x2048 : Shape := ⟨3, ![1, 31, 2048]⟩
abbrev S1x2048 : Shape := ⟨2, ![1, 2048]⟩
abbrev S31x2048 : Shape := ⟨2, ![31, 2048]⟩
abbrev S2048 : Shape := ⟨1, ![2048]⟩
abbrev S8192x2048 : Shape := ⟨2, ![8192, 2048]⟩
abbrev S4x32x2048 : Shape := ⟨3, ![4, 32, 2048]⟩
abbrev S256x2048 : Shape := ⟨2, ![256, 2048]⟩
abbrev S32x2048 : Shape := ⟨2, ![32, 2048]⟩
abbrev S1x32x2048 : Shape := ⟨3, ![1, 32, 2048]⟩
abbrev S296x2048 : Shape := ⟨2, ![296, 2048]⟩
abbrev S8x264x512 : Shape := ⟨3, ![8, 264, 512]⟩
abbrev S8x2048 : Shape := ⟨2, ![8, 2048]⟩
abbrev S264x512 : Shape := ⟨2, ![264, 512]⟩
abbrev S1x512 : Shape := ⟨2, ![1, 512]⟩
abbrev S1x264x512 : Shape := ⟨3, ![1, 264, 512]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩

abbrev nBuf : Space → Nat
  | .hbm => 17
  | .vmem => 20
  | .smem => 0
  | _ => 0

abbrev bufTy : (tb : Table) → Fin (tcTables nBuf tb) → BufTy
  | .hbm, ⟨0, _⟩ => ⟨S9216x10240, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S31x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S8192x2048, .bf16⟩
  | .hbm, ⟨16, _⟩ => ⟨S4x32x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S31x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x32x2048, .f32⟩
  | .local _ .vmem, ⟨16, _⟩ => ⟨S1x32x2048, .f32⟩
  | .local _ .vmem, ⟨17, _⟩ => ⟨S296x2048, .f32⟩
  | .local _ .vmem, ⟨18, _⟩ => ⟨S256x2048, .f32⟩
  | .local _ .vmem, ⟨19, _⟩ => ⟨S8x264x512, .f32⟩
  | _, _ => ⟨S9216x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c3_i32 : BitVec 32 := 3#32
  let c0_i32_1 : BitVec 32 := 0#32
  ![v4.toNat, c3_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c4_i32 : BitVec 32 := 4#32
  let c0_i32_1 : BitVec 32 := 0#32
  ![v4.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== CpRefIdeal.lean ====
abbrev S9216x10240 : Shape := ⟨2, ![9216, 10240]⟩
abbrev S1x31x2048 : Shape := ⟨3, ![1, 31, 2048]⟩
abbrev S1x2048 : Shape := ⟨2, ![1, 2048]⟩
abbrev S8192x2048 : Shape := ⟨2, ![8192, 2048]⟩
abbrev S_ : Shape := ⟨0, ![]⟩
abbrev S4x2048x2048 : Shape := ⟨3, ![4, 2048, 2048]⟩
abbrev S4x30x2048 : Shape := ⟨3, ![4, 30, 2048]⟩
abbrev S4x2078x2048 : Shape := ⟨3, ![4, 2078, 2048]⟩
abbrev S4x32x2048 : Shape := ⟨3, ![4, 32, 2048]⟩

abbrev nBuf : Space → Nat
  | .hbm => 22
  | .vmem => 0
  | .smem => 0
  | _ => 0

abbrev bufTy : (tb : Table) → Fin (tcTables nBuf tb) → BufTy
  | .hbm, ⟨0, _⟩ => ⟨S9216x10240, .f32⟩
  | .hbm, ⟨1, _⟩ => ⟨S1x31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S4x2048x2048, .f32⟩
  | .hbm, ⟨18, _⟩ => ⟨S_, .f32⟩
  | .hbm, ⟨19, _⟩ => ⟨S4x30x2048, .f32⟩
  | .hbm, ⟨20, _⟩ => ⟨S4x2078x2048, .f32⟩
  | .hbm, ⟨21, _⟩ => ⟨S4x32x2048, .f32⟩
  | _, _ => ⟨S9216x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Ma.lean ====
abbrev S9216x512 : Shape := ⟨2, ![9216, 512]⟩
abbrev S4x256x1024 : Shape := ⟨3, ![4, 256, 1024]⟩
abbrev S8192x512 : Shape := ⟨2, ![8192, 512]⟩
abbrev S512x512 : Shape := ⟨2, ![512, 512]⟩
abbrev S1x256x512 : Shape := ⟨3, ![1, 256, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S9216x512, .f32⟩
  | .hbm, ⟨1, _⟩ => ⟨S4x256x1024, .f32⟩
  | .hbm, ⟨2, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S512x512, .bf16⟩
  | .local _ .vmem, ⟨7, _⟩ => ⟨S512x512, .bf16⟩
  | _, _ => ⟨S9216x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MaRefIdeal.lean ====
abbrev S9216x512 : Shape := ⟨2, ![9216, 512]⟩
abbrev S4x256x1024 : Shape := ⟨3, ![4, 256, 1024]⟩
abbrev S8192x512 : Shape := ⟨2, ![8192, 512]⟩
abbrev S4x2048x4x128 : Shape := ⟨4, ![4, 2048, 4, 128]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 30
  | .vmem => 0
  | .smem => 0
  | _ => 0

abbrev bufTy : (tb : Table) → Fin (tcTables nBuf tb) → BufTy
  | .hbm, ⟨0, _⟩ => ⟨S9216x512, .f32⟩
  | .hbm, ⟨1, _⟩ => ⟨S4x256x1024, .f32⟩
  | .hbm, ⟨2, _⟩ => ⟨S8192x512, .f32⟩
  | .hbm, ⟨3, _⟩ => ⟨S4x2048x4x128, .f32⟩
  | .hbm, ⟨4, _⟩ => ⟨S4x256x512, .f32⟩
  | .hbm, ⟨5, _⟩ => ⟨S4x256x4x128, .f32⟩
  | .hbm, ⟨6, _⟩ => ⟨S4x256x512, .f32⟩
  | .hbm, ⟨7, _⟩ => ⟨S4x256x4x128, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x128x2048, .f32⟩
  | .hbm, ⟨27, _⟩ => ⟨S4x2048x4x128, .f32⟩
  | .hbm, ⟨28, _⟩ => ⟨S8192x512, .f32⟩
  | .hbm, ⟨29, _⟩ => ⟨S8192x512, .bf16⟩
  | _, _ => ⟨S9216x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.InValue.lean ====
/- What the input projection's call leaves: the product of the normalised activations and the projection's weights,
   and that this is the reference's product. -/
module

public import proofs.«01_k».proof.Proof.Gen.InIdeal.Value
public import proofs.«01_k».proof.Proof.Gen.InRefIdeal.Run
public import proofs.«01_k».proof.Proof.Gen.InRefIdeal.Read
public import Idealize.ShloMosaic.Lib.Pointwise
public import Idealize.ShloMosaic.Lib.ValueIdx
public import Idealize.ShloMosaic.Lib.StableHlo.Run

@[expose] public section

set_option maxRecDepth 16384

noncomputable section

namespace Cert.InIdeal.Product

open Cert.InIdeal Cert.InIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl

/-- The weights' window stages the host's cast of the reshaped weights. -/
theorem V_weights (c : Dev nD) : V m c main_v1
    = truncf (F := Ideal) .bf16 (shapeCast S4096x10240 (m ((c : Thread nD τ).loc main_arg1)) shapeCasts_S1x4096x10240_S4096x10240) bitsLt_bf16_f32 := by
  delta V hostOps0
  after_results <;> rfl

/-- The product of the rows of `x` and the columns of the one weight matrix `w`. -/
def prod (x : S9216x4096.Idx → EReal) (w : S1x4096x10240.Idx → EReal) (i : S9216x10240.Idx) : EReal :=
  ∑ k : Fin 4096, x (ix2 (i 0) k) * w (ix3 0 k (i 1))

/-- The staged weights at an index. -/
theorem weights_apply (w : S1x4096x10240.Idx → EReal) (i : S4096x10240.Idx) :
    truncf (F := Ideal) .bf16 (shapeCast (α := Ideal .f32) S4096x10240 w shapeCasts_S1x4096x10240_S4096x10240) bitsLt_bf16_f32 i = w (ix3 0 (i 0) (i 1)) := by
  obtain ⟨r, q, rfl⟩ : ∃ (r : Fin 4096) (q : Fin 10240), i = ix2 r q := ⟨i 0, i 1, eq_ix2 i⟩
  pointwise

/-- One block's product, at an index. -/
theorem pay_apply (x : Vec Ideal S1024x4096 .bf16) (w : Vec Ideal S4096x1024 .bf16) (r : Fin 1024) (q : Fin 1024) :
    k0_pay1 (F := Ideal) x w (ix2 r q) = ∑ k : Fin 4096, x (ix2 r k) * w (ix2 k q) := by
  pointwise [k0_pay1]

/-- The blocks' positions: the rows' block moves with the first grid axis, the columns' with the second. -/
theorem positions : ∀ t : Fin cfg0.N, win0_0.index t 0 = win0_2.index t 0 ∧ win0_0.index t 1 = 0
    ∧ win0_1.index t 0 = 0 ∧ win0_1.index t 1 = win0_2.index t 1
    ∧ win0_2.index t 0 = t.val / 10 ∧ win0_2.index t 1 = t.val % 10 :=
  (by decide +kernel : ∀ t : Fin grid0.N, win0_0.index t 0 = win0_2.index t 0 ∧ win0_0.index t 1 = 0
    ∧ win0_1.index t 0 = 0 ∧ win0_1.index t 1 = win0_2.index t 1
    ∧ win0_2.index t 0 = t.val / 10 ∧ win0_2.index t 1 = t.val % 10)

/-- What a point writes back is its block of the product. -/
theorem flushed_eq (c : Dev nD) (t : Fin cfg0.N) :
    (dats m 0 c).flushed 2 t = (win0_2.blk t).view.read (Elt Ideal)
      (prod (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero2, View.ld_unit_zero zero2, View.ld_unit_zero zero2]
  obtain ⟨p0, p1, p2, p3, -, -⟩ := positions t
  funext y
  show k0_pay1 (F := Ideal) (iblk m c 0 t) (iblk m c 1 t) y = prod _ _ ((win0_2.blk t).view.emb y)
  obtain ⟨r, q, rfl⟩ : ∃ (r : Fin 1024) (q : Fin 1024), y = ix2 r q := ⟨y 0, y 1, eq_ix2 y⟩
  refine (pay_apply _ _ r q).trans ?_
  refine Finset.sum_congr rfl fun k _ => ?_
  congr 1
  · show V m c main_arg0 ((win0_0.blk t).view.emb (ix2 r k)) = _
    rw [V_main_arg0]
    congr 1
    funext a
    apply Fin.ext
    match a with
    | ⟨0, _⟩ => show win0_0.index t 0 * 1024 + 1 * r.val = win0_2.index t 0 * 1024 + 1 * r.val; rw [p0]
    | ⟨1, _⟩ => show win0_0.index t 1 * 4096 + 1 * k.val = k.val; rw [p1]; omega
  · show V m c main_v1 ((win0_1.blk t).view.emb (ix2 k q)) = _
    rw [V_weights]
    refine (weights_apply _ _).trans ?_
    congr 1
    funext a
    apply Fin.ext
    match a with
    | ⟨0, _⟩ => rfl
    | ⟨1, _⟩ => show win0_1.index t 0 * 4096 + 1 * k.val = k.val; rw [p2]; omega
    | ⟨2, _⟩ => show win0_1.index t 1 * 1024 + 1 * q.val = win0_2.index t 1 * 1024 + 1 * q.val; rw [p3]

/-- An index is in point `t`'s block of the result exactly when its row and column are. -/
theorem mem_blk (t : Fin cfg0.N) (i : S9216x10240.Idx) :
    i ∈ ((cfg0.win 2).blk t).view.set ↔ ((i 0 : Nat) / 1024 = t.val / 10 ∧ (i 1 : Nat) / 1024 = t.val % 10) := by
  show i ∈ ((View.whole main_v2).slice (win0_2.rect t)).set ↔ _
  rw [View.set_slice_whole, Rect.mem_set_unit]
  obtain ⟨-, -, -, -, p4, p5⟩ := positions t
  refine ⟨fun h => ?_, fun h a => ?_⟩
  · have h0 : win0_2.index t 0 * 1024 ≤ (i 0 : Nat) ∧ (i 0 : Nat) < win0_2.index t 0 * 1024 + 1024 := h 0
    have h1 : win0_2.index t 1 * 1024 ≤ (i 1 : Nat) ∧ (i 1 : Nat) < win0_2.index t 1 * 1024 + 1024 := h 1
    rw [p4] at h0; rw [p5] at h1; omega
  · match a with
    | ⟨0, _⟩ => show win0_2.index t 0 * 1024 ≤ (i 0 : Nat) ∧ (i 0 : Nat) < win0_2.index t 0 * 1024 + 1024
                rw [p4]; omega
    | ⟨1, _⟩ => show win0_2.index t 1 * 1024 ≤ (i 1 : Nat) ∧ (i 1 : Nat) < win0_2.index t 1 * 1024 + 1024
                rw [p5]; omega

/-- The blocks tile the result. -/
theorem cover (i : S9216x10240.Idx) :
    ∃ t : Fin cfg0.N, (cfg0.win 2).flush t = true ∧ i ∈ ((cfg0.win 2).blk t).view.set := by
  have h0 : (i 0 : Nat) < 9216 := (i 0).isLt
  have h1 : (i 1 : Nat) < 10240 := (i 1).isLt
  have hN : cfg0.N = 90 := N_0
  have ht : (i 0 : Nat) / 1024 * 10 + (i 1 : Nat) / 1024 < cfg0.N := by omega
  refine ⟨⟨_, ht⟩, flush0_2 _, ?_⟩
  rw [mem_blk]
  dsimp only
  omega

/-- The result array after the run is the product. -/
theorem final (c : Dev nD) : (dats m 0 c).arrAt 2 cfg0.N
    = prod (m ((c : Thread nD τ).loc main_arg0)) (m ((c : Thread nD τ).loc main_arg1)) :=
  (dats m 0 c).arrAt_eq_of_cover 2 _ (fun t _ => flushed_eq m c t) cover

end Cert.InIdeal.Product

namespace Cert.InRefIdeal.Product

open Cert.InRefIdeal Cert.InRefIdeal.Gen Idealize.ShloMosaic Idealize.ShloMosaic.TcCoe Idealize.SL.Sem

/-- The reference's result is the same product. -/
theorem value (x : (⟨S9216x4096, .bf16⟩ : BufTy).Contents (Elt Ideal)) (w : (⟨S1x4096x10240, .f32⟩ : BufTy).Contents (Elt Ideal)) :
    Read.val_main_v2 (F := Ideal) x w = Cert.InIdeal.Product.prod x w := by
  funext i
  obtain ⟨r, q, rfl⟩ : ∃ (r : Fin 9216) (q : Fin 10240), i = ix2 r q := ⟨i 0, i 1, eq_ix2 i⟩
  pointwise [Cert.InIdeal.Product.prod, Read.val_main_v2, Read.val_main_v1, Read.val_main_v0]

end Cert.InRefIdeal.Product

end
-- ==== Proof.KvValue.lean ====
/- What the memory projection's call leaves: the memory rows against the key weights and the value weights side by
   side, and that this is the reference's two products laid side by side. -/
module

public import proofs.«01_k».proof.Proof.Gen.KvIdeal.Value
public import proofs.«01_k».proof.Proof.Gen.KvRefIdeal.Run
public import proofs.«01_k».proof.Proof.Gen.KvRefIdeal.Read
public import Idealize.ShloMosaic.Lib.Pointwise
public import Idealize.ShloMosaic.Lib.ValueIdx
public import Idealize.ShloMosaic.Lib.StableHlo.Run

@[expose] public section

set_option maxRecDepth 16384

noncomputable section

namespace Cert.KvIdeal.Product

open Cert.KvIdeal Cert.KvIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem start_zero : (![0, 0] : Fin 2 → Nat) = fun _ => 0 := funext fun a => by fin_cases a <;> rfl

/-- The host's two weight matrices laid side by side. -/
def both (wk wv : (⟨S1x4096x512, .f32⟩ : BufTy).Contents (Elt Ideal)) : (⟨S4096x1024, .bf16⟩ : BufTy).Contents (Elt Ideal) :=
  truncf (F := Ideal) .bf16 (concatenate S4096x1024 1
    [⟨S4096x512, shapeCast S4096x512 wk shapeCasts_S1x4096x512_S4096x512⟩,
     ⟨S4096x512, shapeCast S4096x512 wv shapeCasts_S1x4096x512_S4096x512⟩] concatenates_S4096x512_S4096x512_S4096x1024_d1) bitsLt_bf16_f32

/-- The weights' window stages the two matrices side by side. -/
theorem V_weights (c : Dev nD) : V m c main_v3
    = both (m ((c : Thread nD τ).loc main_arg1)) (m ((c : Thread nD τ).loc main_arg2)) := by
  delta V hostOps0
  after_results <;> rfl

/-- Column `q` of the key weights, then of the value weights. -/
def col (wk wv : S1x4096x512.Idx → EReal) (k : Fin 4096) (q : Fin 1024) : EReal :=
  if h : q.val < 512 then wk (ix3 0 k ⟨q.val, h⟩) else wv (ix3 0 k ⟨q.val - 512, by omega⟩)

theorem both_apply (wk wv : S1x4096x512.Idx → EReal) (k : Fin 4096) (q : Fin 1024) :
    both wk wv (ix2 k q) = col wk wv k q := by
  pointwise [both, col]

/-- The memory's rows against both weight matrices. -/
def prod (x : S1024x4096.Idx → EReal) (wk wv : S1x4096x512.Idx → EReal) (i : S1024x1024.Idx) : EReal :=
  ∑ k : Fin 4096, x (ix2 (i 0) k) * col wk wv k (i 1)

theorem pay_apply (x : Vec Ideal S1024x4096 .bf16) (w : Vec Ideal S4096x1024 .bf16) (r : Fin 1024) (q : Fin 1024) :
    k0_pay1 (F := Ideal) x w (ix2 r q) = ∑ k : Fin 4096, x (ix2 r k) * w (ix2 k q) := by
  pointwise [k0_pay1]

/-- The one point takes the whole arrays. -/
theorem positions : ∀ t : Fin cfg0.N, win0_0.index t 0 = 0 ∧ win0_0.index t 1 = 0
    ∧ win0_1.index t 0 = 0 ∧ win0_1.index t 1 = 0 ∧ win0_2.index t 0 = 0 ∧ win0_2.index t 1 = 0 :=
  (by decide +kernel : ∀ t : Fin grid0.N, win0_0.index t 0 = 0 ∧ win0_0.index t 1 = 0
    ∧ win0_1.index t 0 = 0 ∧ win0_1.index t 1 = 0 ∧ win0_2.index t 0 = 0 ∧ win0_2.index t 1 = 0)

/-- What the point writes back is the product. -/
theorem flushed_eq (c : Dev nD) (t : Fin cfg0.N) :
    (dats m 0 c).flushed 2 t = (win0_2.blk t).view.read (Elt Ideal)
      (prod (m ((c : Thread nD τ).loc main_arg0)) (m ((c : Thread nD τ).loc main_arg1)) (m ((c : Thread nD τ).loc main_arg2))) := by
  show (cfg0.win 2).cut (grid0.coords t) ((dats m 0 c).after 2 t) = _
  rw [after0_2]
  unfold out0_2
  rw [View.canon_unit_zero start_zero, View.ld_unit_zero start_zero, View.ld_unit_zero start_zero]
  obtain ⟨p0, p1, p2, p3, p4, p5⟩ := positions t
  funext y
  show k0_pay1 (F := Ideal) (iblk m c 0 t) (iblk m c 1 t) y = prod _ _ _ ((win0_2.blk t).view.emb y)
  obtain ⟨r, q, rfl⟩ : ∃ (r : Fin 1024) (q : Fin 1024), y = ix2 r q := ⟨y 0, y 1, eq_ix2 y⟩
  have hy : (win0_2.blk t).view.emb (ix2 r q) = ix2 r q := by
    funext a
    apply Fin.ext
    match a with
    | ⟨0, _⟩ => show win0_2.index t 0 * 1024 + 1 * r.val = r.val; rw [p4]; omega
    | ⟨1, _⟩ => show win0_2.index t 1 * 1024 + 1 * q.val = q.val; rw [p5]; omega
  rw [hy]
  refine (pay_apply _ _ r q).trans ?_
  refine Finset.sum_congr rfl fun k _ => ?_
  congr 1
  · show V m c main_arg0 ((win0_0.blk t).view.emb (ix2 r k)) = _
    rw [V_main_arg0]
    congr 1
    funext a
    apply Fin.ext
    match a with
    | ⟨0, _⟩ => show win0_0.index t 0 * 1024 + 1 * r.val = r.val; rw [p0]; omega
    | ⟨1, _⟩ => show win0_0.index t 1 * 4096 + 1 * k.val = k.val; rw [p1]; omega
  · show V m c main_v3 ((win0_1.blk t).view.emb (ix2 k q)) = _
    rw [V_weights]
    refine Eq.trans (congrArg _ ?_) (both_apply _ _ k q)
    funext a
    apply Fin.ext
    match a with
    | ⟨0, _⟩ => show win0_1.index t 0 * 4096 + 1 * k.val = k.val; rw [p2]; omega
    | ⟨1, _⟩ => show win0_1.index t 1 * 1024 + 1 * q.val = q.val; rw [p3]; omega

/-- The point's block is the whole result. -/
theorem cover (i : S1024x1024.Idx) :
    ∃ t : Fin cfg0.N, (cfg0.win 2).flush t = true ∧ i ∈ ((cfg0.win 2).blk t).view.set := by
  have h0 : (i 0 : Nat) < 1024 := (i 0).isLt
  have h1 : (i 1 : Nat) < 1024 := (i 1).isLt
  have hN : cfg0.N = 1 := N_0
  have ht : 0 < cfg0.N := by omega
  refine ⟨⟨0, ht⟩, flush0_2 _, ?_⟩
  obtain ⟨-, -, -, -, p4, p5⟩ := positions ⟨0, ht⟩
  show i ∈ ((View.whole main_v4).slice (win0_2.rect ⟨0, ht⟩)).set
  rw [View.set_slice_whole, Rect.mem_set_unit]
  intro a
  match a with
  | ⟨0, _⟩ => show win0_2.index _ 0 * 1024 ≤ (i 0 : Nat) ∧ (i 0 : Nat) < win0_2.index _ 0 * 1024 + 1024
              rw [p4]; omega
  | ⟨1, _⟩ => show win0_2.index _ 1 * 1024 ≤ (i 1 : Nat) ∧ (i 1 : Nat) < win0_2.index _ 1 * 1024 + 1024
              rw [p5]; omega

/-- The result array after the run. -/
theorem final (c : Dev nD) : (dats m 0 c).arrAt 2 cfg0.N
    = prod (m ((c : Thread nD τ).loc main_arg0)) (m ((c : Thread nD τ).loc main_arg1)) (m ((c : Thread nD τ).loc main_arg2)) :=
  (dats m 0 c).arrAt_eq_of_cover 2 _ (fun t _ => flushed_eq m c t) cover

end Cert.KvIdeal.Product

namespace Cert.KvRefIdeal.Product

open Cert.KvRefIdeal Cert.KvRefIdeal.Gen Idealize.ShloMosaic Idealize.ShloMosaic.TcCoe Idealize.SL.Sem

/-- The reference's two products side by side are the same array. -/
theorem value (x : (⟨S1024x4096, .bf16⟩ : BufTy).Contents (Elt Ideal)) (wk wv : (⟨S1x4096x512, .f32⟩ : BufTy).Contents (Elt Ideal)) :
    Read.val_main_v5 (F := Ideal) x wk wv = Cert.KvIdeal.Product.prod x wk wv := by
  funext i
  obtain ⟨r, q, rfl⟩ : ∃ (r : Fin 1024) (q : Fin 1024), i = ix2 r q := ⟨i 0, i 1, eq_ix2 i⟩
  by_cases h : q.val < 512
  · pointwise [Cert.KvIdeal.Product.prod, Cert.KvIdeal.Product.col, Read.val_main_v5, Read.val_main_v4, Read.val_main_v3, Read.val_main_v2, Read.val_main_v1, Read.val_main_v0, h]
  · pointwise [Cert.KvIdeal.Product.prod, Cert.KvIdeal.Product.col, Read.val_main_v5, Read.val_main_v4, Read.val_main_v3, Read.val_main_v2, Read.val_main_v1, Read.val_main_v0, h]

end Cert.KvRefIdeal.Product

end
-- ==== Proof.OutValue.lean ====
/- What the output projection's call leaves: each row's two halves of inputs against the two halves of the weight's
   rows, added, plus the residual — and that this is the reference's product of the whole row. -/
module

public import proofs.«01_k».proof.Proof.Gen.OutIdeal.Value
public import proofs.«01_k».proof.Proof.Gen.OutRefIdeal.Run
public import proofs.«01_k».proof.Proof.Gen.OutRefIdeal.Read
public import Idealize.ShloMosaic.Lib.Pointwise
public import Idealize.ShloMosaic.Lib.ValueIdx
public import Idealize.ShloMosaic.Lib.StableHlo.Run

@[expose] public section

set_option maxRecDepth 16384

noncomputable section

namespace Cert.OutIdeal.Product

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The windows on the weight stage the host's cast of the reshaped weight. -/
theorem V_weight (c : Dev nD) : V m c main_v3
    = truncf (F := Ideal) .bf16 (shapeCast S4096x4096 (m ((c : Thread nD τ).loc main_arg4)) shapeCasts_S1x4096x4096_S4096x4096) bitsLt_bf16_f32 := by
  delta V hostOps0
  after_results <;> rfl
theorem V_prompt (c : Dev nD) : V m c main_v0
    = shapeCast S8192x4096 (m ((c : Thread nD τ).loc main_arg5)) shapeCasts_S4x2048x4096_S8192x4096 := by
  delta V hostOps0
  after_results <;> rfl
theorem V_sample (c : Dev nD) : V m c main_v1
    = shapeCast S1024x4096 (m ((c : Thread nD τ).loc main_arg6)) shapeCasts_S16x64x4096_S1024x4096 := by
  delta V hostOps0
  after_results <;> rfl

theorem weight_apply (w : S1x4096x4096.Idx → EReal) (k q : Fin 4096) :
    truncf (F := Ideal) .bf16 (shapeCast (α := Ideal .f32) S4096x4096 w shapeCasts_S1x4096x4096_S4096x4096) bitsLt_bf16_f32 (ix2 k q) = w (ix3 0 k q) := by
  pointwise

/-- A row of a pair of arrays laid one below the other. -/
def stacked {W : Nat} (x : (Shape.mk 2 ![8192, W]).Idx → EReal) (y : (Shape.mk 2 ![1024, W]).Idx → EReal) (r : Fin 9216) (k : Fin W) : EReal :=
  if h : r.val < 8192 then x (ix2 ⟨r.val, h⟩ k) else y (ix2 ⟨r.val - 8192, by omega⟩ k)

/-- Both halves' products and the residual. -/
def total (a : S8192x2048.Idx → EReal) (b : S1024x2048.Idx → EReal) (c : S8192x2048.Idx → EReal) (d : S1024x2048.Idx → EReal)
    (w : S1x4096x4096.Idx → EReal) (x : S4x2048x4096.Idx → EReal) (y : S16x64x4096.Idx → EReal) (i : S9216x4096.Idx) : EReal :=
  ((∑ k : Fin 2048, stacked a b (i 0) k * w (ix3 0 ⟨k.val, by omega⟩ (i 1)))
    + (∑ k : Fin 2048, stacked c d (i 0) k * w (ix3 0 ⟨2048 + k.val, by omega⟩ (i 1))))
    + stacked (shapeCast (α := EReal) S8192x4096 x shapeCasts_S4x2048x4096_S8192x4096) (shapeCast (α := EReal) S1024x4096 y shapeCasts_S16x64x4096_S1024x4096) (i 0) (i 1)

theorem total_prompt (a : S8192x2048.Idx → EReal) (b : S1024x2048.Idx → EReal) (c : S8192x2048.Idx → EReal) (d : S1024x2048.Idx → EReal)
    (w : S1x4096x4096.Idx → EReal) (x : S4x2048x4096.Idx → EReal) (y : S16x64x4096.Idx → EReal) (r : Fin 9216) (q : Fin 4096) (h : r.val < 8192) :
    total a b c d w x y (ix2 r q) = ((∑ k : Fin 2048, a (ix2 ⟨r.val, h⟩ k) * w (ix3 0 ⟨k.val, by omega⟩ q))
      + (∑ k : Fin 2048, c (ix2 ⟨r.val, h⟩ k) * w (ix3 0 ⟨2048 + k.val, by omega⟩ q)))
      + shapeCast (α := EReal) S8192x4096 x shapeCasts_S4x2048x4096_S8192x4096 (ix2 ⟨r.val, h⟩ q) := by
  have e : ∀ {W : Nat} (x : (Shape.mk 2 ![8192, W]).Idx → EReal) (y : (Shape.mk 2 ![1024, W]).Idx → EReal) (k : Fin W), stacked x y r k = x (ix2 ⟨r.val, h⟩ k) :=
    fun x y k => dif_pos h
  show ((∑ k : Fin 2048, stacked a b r k * w (ix3 0 ⟨k.val, by omega⟩ q)) + (∑ k : Fin 2048, stacked c d r k * w (ix3 0 ⟨2048 + k.val, by omega⟩ q))) + stacked _ _ r q = _
  simp only [e]

theorem total_sample (a : S8192x2048.Idx → EReal) (b : S1024x2048.Idx → EReal) (c : S8192x2048.Idx → EReal) (d : S1024x2048.Idx → EReal)
    (w : S1x4096x4096.Idx → EReal) (x : S4x2048x4096.Idx → EReal) (y : S16x64x4096.Idx → EReal) (r : Fin 9216) (q : Fin 4096) (h : ¬ r.val < 8192) :
    total a b c d w x y (ix2 r q) = ((∑ k : Fin 2048, b (ix2 ⟨r.val - 8192, by omega⟩ k) * w (ix3 0 ⟨k.val, by omega⟩ q))
      + (∑ k : Fin 2048, d (ix2 ⟨r.val - 8192, by omega⟩ k) * w (ix3 0 ⟨2048 + k.val, by omega⟩ q)))
      + shapeCast (α := EReal) S1024x4096 y shapeCasts_S16x64x4096_S1024x4096 (ix2 ⟨r.val - 8192, by omega⟩ q) := by
  have e : ∀ {W : Nat} (x : (Shape.mk 2 ![8192, W]).Idx → EReal) (y : (Shape.mk 2 ![1024, W]).Idx → EReal) (k : Fin W), stacked x y r k = y (ix2 ⟨r.val - 8192, by omega⟩ k) :=
    fun x y k => dif_neg h
  show ((∑ k : Fin 2048, stacked a b r k * w (ix3 0 ⟨k.val, by omega⟩ q)) + (∑ k : Fin 2048, stacked c d r k * w (ix3 0 ⟨2048 + k.val, by omega⟩ q))) + stacked _ _ r q = _
  simp only [e]

/-- One block's value at an index, on the rows of the prompt. -/
theorem pay_prompt (i : grid0.Coords) (hi : Scalar.cmpi .slt (BitVec.ofNat 32 (i 0).val) 8#32 = 1#1)
    (x0 x1 x2 x3 : Vec Ideal S1024x2048 .bf16) (w0 w1 : Vec Ideal S2048x256 .bf16) (y0 y1 : Vec Ideal S1024x256 .f32) (r : Fin 1024) (q : Fin 256) :
    k0_pay1 (F := Ideal) i x0 x1 x2 x3 w0 w1 y0 y1 (ix2 r q)
      = ((∑ k : Fin 2048, x0 (ix2 r k) * w0 (ix2 k q)) + (∑ k : Fin 2048, x2 (ix2 r k) * w1 (ix2 k q))) + y0 (ix2 r q) := by
  unfold k0_pay1
  dsimp only
  rw [hi]
  pointwise

/-- One block's value at an index, on the rows of the samples. -/
theorem pay_sample (i : grid0.Coords) (hi : Scalar.cmpi .slt (BitVec.ofNat 32 (i 0).val) 8#32 = 0#1)
    (x0 x1 x2 x3 : Vec Ideal S1024x2048 .bf16) (w0 w1 : Vec Ideal S2048x256 .bf16) (y0 y1 : Vec Ideal S1024x256 .f32) (r : Fin 1024) (q : Fin 256) :
    k0_pay1 (F := Ideal) i x0 x1 x2 x3 w0 w1 y0 y1 (ix2 r q)
      = ((∑ k : Fin 2048, x1 (ix2 r k) * w0 (ix2 k q)) + (∑ k : Fin 2048, x3 (ix2 r k) * w1 (ix2 k q))) + y1 (ix2 r q) := by
  unfold k0_pay1
  dsimp only
  rw [hi]
  pointwise

theorem rows_of_prompt : ∀ t : Fin cfg0.N, t.val / 16 < 8 →
    Scalar.cmpi .slt (BitVec.ofNat 32 (grid0.coords t 0).val) 8#32 = 1#1
    ∧ win0_0.index t 0 = t.val / 16 ∧ win0_2.index t 0 = t.val / 16 ∧ win0_6.index t 0 = t.val / 16 :=
  (by decide +kernel : ∀ t : Fin grid0.N, t.val / 16 < 8 →
    Scalar.cmpi .slt (BitVec.ofNat 32 (grid0.coords t 0).val) 8#32 = 1#1
    ∧ win0_0.index t 0 = t.val / 16 ∧ win0_2.index t 0 = t.val / 16 ∧ win0_6.index t 0 = t.val / 16)
theorem rows_of_sample : ∀ t : Fin cfg0.N, ¬ t.val / 16 < 8 →
    Scalar.cmpi .slt (BitVec.ofNat 32 (grid0.coords t 0).val) 8#32 = 0#1
    ∧ win0_1.index t 0 = 0 ∧ win0_3.index t 0 = 0 ∧ win0_7.index t 0 = 0 ∧ t.val / 16 = 8 :=
  (by decide +kernel : ∀ t : Fin grid0.N, ¬ t.val / 16 < 8 →
    Scalar.cmpi .slt (BitVec.ofNat 32 (grid0.coords t 0).val) 8#32 = 0#1
    ∧ win0_1.index t 0 = 0 ∧ win0_3.index t 0 = 0 ∧ win0_7.index t 0 = 0 ∧ t.val / 16 = 8)
theorem places : ∀ t : Fin cfg0.N, win0_0.index t 1 = 0 ∧ win0_1.index t 1 = 0 ∧ win0_2.index t 1 = 0 ∧ win0_3.index t 1 = 0
    ∧ win0_4.index t 0 = 0 ∧ win0_4.index t 1 = t.val % 16 ∧ win0_5.index t 0 = 1 ∧ win0_5.index t 1 = t.val % 16
    ∧ win0_6.index t 1 = t.val % 16 ∧ win0_7.index t 1 = t.val % 16 ∧ win0_8.index t 0 = t.val / 16 ∧ win0_8.index t 1 = t.val % 16 :=
  (by decide +kernel : ∀ t : Fin grid0.N, win0_0.index t 1 = 0 ∧ win0_1.index t 1 = 0 ∧ win0_2.index t 1 = 0 ∧ win0_3.index t 1 = 0
    ∧ win0_4.index t 0 = 0 ∧ win0_4.index t 1 = t.val % 16 ∧ win0_5.index t 0 = 1 ∧ win0_5.index t 1 = t.val % 16
    ∧ win0_6.index t 1 = t.val % 16 ∧ win0_7.index t 1 = t.val % 16 ∧ win0_8.index t 0 = t.val / 16 ∧ win0_8.index t 1 = t.val % 16)

/-- The upper half of the weight's block. -/
theorem weight_upper (c : Dev nD) (t : Fin cfg0.N) (k : Fin 2048) (q : Fin 256) :
    (iblk m c 4 t : S2048x256.Idx → EReal) (ix2 k q) = (m ((c : Thread nD τ).loc main_arg4) : S1x4096x4096.Idx → EReal) (ix3 0 ⟨k.val, by omega⟩ ⟨t.val % 16 * 256 + q.val, by omega⟩) := by
  obtain ⟨-, -, -, -, p0, p1, -⟩ := places t
  show V m c main_v3 ((win0_4.blk t).view.emb (ix2 k q)) = _
  rw [V_weight]
  refine Eq.trans (congrArg _ ?_) (weight_apply _ _ _)
  funext a
  apply Fin.ext
  match a with
  | ⟨0, _⟩ => show win0_4.index t 0 * 2048 + 1 * k.val = k.val; rw [p0]; omega
  | ⟨1, _⟩ => show win0_4.index t 1 * 256 + 1 * q.val = t.val % 16 * 256 + q.val; rw [p1]; omega
/-- The lower half of the weight's block. -/
theorem weight_lower (c : Dev nD) (t : Fin cfg0.N) (k : Fin 2048) (q : Fin 256) :
    (iblk m c 5 t : S2048x256.Idx → EReal) (ix2 k q) = (m ((c : Thread nD τ).loc main_arg4) : S1x4096x4096.Idx → EReal) (ix3 0 ⟨2048 + k.val, by omega⟩ ⟨t.val % 16 * 256 + q.val, by omega⟩) := by
  obtain ⟨-, -, -, -, -, -, p0, p1, -⟩ := places t
  show V m c main_v3 ((win0_5.blk t).view.emb (ix2 k q)) = _
  rw [V_weight]
  refine Eq.trans (congrArg _ ?_) (weight_apply _ _ _)
  funext a
  apply Fin.ext
  match a with
  | ⟨0, _⟩ => show win0_5.index t 0 * 2048 + 1 * k.val = 2048 + k.val; rw [p0]; omega
  | ⟨1, _⟩ => show win0_5.index t 1 * 256 + 1 * q.val = t.val % 16 * 256 + q.val; rw [p1]; omega

/-! The inputs' blocks at an index. -/

theorem attn_prompt_at (c : Dev nD) (t : Fin cfg0.N) (ht :  t.val / 16 < 8) (r : Fin 1024) (k : Fin 2048) {y : Fin 8192} (hy : y.val = t.val / 16 * 1024 + r.val) {z : Fin 2048} (hz : z.val = k.val) :
    (iblk m c 0 t : S1024x2048.Idx → EReal) (ix2 r k) = (m ((c : Thread nD τ).loc main_arg0) : S8192x2048.Idx → EReal) (ix2 y z) := by
  obtain ⟨-, q0, q2, q6⟩ := rows_of_prompt t ht
  obtain ⟨p0, p1, p2, p3, -, -, -, -, p6, p7, -⟩ := places t
  show V m c main_arg0 ((win0_0.blk t).view.emb (ix2 r k)) = _
  rw [V_main_arg0]
  refine congrArg _ ?_
  funext a
  apply Fin.ext
  match a with
  | ⟨0, _⟩ => show win0_0.index t 0 * 1024 + 1 * r.val = y.val; rw [hy, q0]; omega
  | ⟨1, _⟩ => show win0_0.index t 1 * 2048 + 1 * k.val = z.val; rw [p0]; omega
theorem attn_sample_at (c : Dev nD) (t : Fin cfg0.N) (ht : ¬ t.val / 16 < 8) (r : Fin 1024) (k : Fin 2048) {y : Fin 1024} (hy : y.val = t.val / 16 * 1024 + r.val - 8192) {z : Fin 2048} (hz : z.val = k.val) :
    (iblk m c 1 t : S1024x2048.Idx → EReal) (ix2 r k) = (m ((c : Thread nD τ).loc main_arg1) : S1024x2048.Idx → EReal) (ix2 y z) := by
  obtain ⟨-, q1, q3, q7, h8⟩ := rows_of_sample t ht
  obtain ⟨p0, p1, p2, p3, -, -, -, -, p6, p7, -⟩ := places t
  show V m c main_arg1 ((win0_1.blk t).view.emb (ix2 r k)) = _
  rw [V_main_arg1]
  refine congrArg _ ?_
  funext a
  apply Fin.ext
  match a with
  | ⟨0, _⟩ => show win0_1.index t 0 * 1024 + 1 * r.val = y.val; rw [hy, q1]; omega
  | ⟨1, _⟩ => show win0_1.index t 1 * 2048 + 1 * k.val = z.val; rw [p1]; omega
theorem conv_prompt_at (c : Dev nD) (t : Fin cfg0.N) (ht :  t.val / 16 < 8) (r : Fin 1024) (k : Fin 2048) {y : Fin 8192} (hy : y.val = t.val / 16 * 1024 + r.val) {z : Fin 2048} (hz : z.val = k.val) :
    (iblk m c 2 t : S1024x2048.Idx → EReal) (ix2 r k) = (m ((c : Thread nD τ).loc main_arg2) : S8192x2048.Idx → EReal) (ix2 y z) := by
  obtain ⟨-, q0, q2, q6⟩ := rows_of_prompt t ht
  obtain ⟨p0, p1, p2, p3, -, -, -, -, p6, p7, -⟩ := places t
  show V m c main_arg2 ((win0_2.blk t).view.emb (ix2 r k)) = _
  rw [V_main_arg2]
  refine congrArg _ ?_
  funext a
  apply Fin.ext
  match a with
  | ⟨0, _⟩ => show win0_2.index t 0 * 1024 + 1 * r.val = y.val; rw [hy, q2]; omega
  | ⟨1, _⟩ => show win0_2.index t 1 * 2048 + 1 * k.val = z.val; rw [p2]; omega
theorem conv_sample_at (c : Dev nD) (t : Fin cfg0.N) (ht : ¬ t.val / 16 < 8) (r : Fin 1024) (k : Fin 2048) {y : Fin 1024} (hy : y.val = t.val / 16 * 1024 + r.val - 8192) {z : Fin 2048} (hz : z.val = k.val) :
    (iblk m c 3 t : S1024x2048.Idx → EReal) (ix2 r k) = (m ((c : Thread nD τ).loc main_arg3) : S1024x2048.Idx → EReal) (ix2 y z) := by
  obtain ⟨-, q1, q3, q7, h8⟩ := rows_of_sample t ht
  obtain ⟨p0, p1, p2, p3, -, -, -, -, p6, p7, -⟩ := places t
  show V m c main_arg3 ((win0_3.blk t).view.emb (ix2 r k)) = _
  rw [V_main_arg3]
  refine congrArg _ ?_
  funext a
  apply Fin.ext
  match a with
  | ⟨0, _⟩ => show win0_3.index t 0 * 1024 + 1 * r.val = y.val; rw [hy, q3]; omega
  | ⟨1, _⟩ => show win0_3.index t 1 * 2048 + 1 * k.val = z.val; rw [p3]; omega
theorem residual_prompt_at (c : Dev nD) (t : Fin cfg0.N) (ht :  t.val / 16 < 8) (r : Fin 1024) (k : Fin 256) {y : Fin 8192} (hy : y.val = t.val / 16 * 1024 + r.val) {z : Fin 4096} (hz : z.val = t.val % 16 * 256 + k.val) :
    (iblk m c 6 t : S1024x256.Idx → EReal) (ix2 r k) = (shapeCast (α := EReal) S8192x4096 (m ((c : Thread nD τ).loc main_arg5)) shapeCasts_S4x2048x4096_S8192x4096 : S8192x4096.Idx → EReal) (ix2 y z) := by
  obtain ⟨-, q0, q2, q6⟩ := rows_of_prompt t ht
  obtain ⟨p0, p1, p2, p3, -, -, -, -, p6, p7, -⟩ := places t
  show V m c main_v0 ((win0_6.blk t).view.emb (ix2 r k)) = _
  rw [V_prompt]
  refine congrArg _ ?_
  funext a
  apply Fin.ext
  match a with
  | ⟨0, _⟩ => show win0_6.index t 0 * 1024 + 1 * r.val = y.val; rw [hy, q6]; omega
  | ⟨1, _⟩ => show win0_6.index t 1 * 256 + 1 * k.val = z.val; rw [p6]; omega
theorem residual_sample_at (c : Dev nD) (t : Fin cfg0.N) (ht : ¬ t.val / 16 < 8) (r : Fin 1024) (k : Fin 256) {y : Fin 1024} (hy : y.val = t.val / 16 * 1024 + r.val - 8192) {z : Fin 4096} (hz : z.val = t.val % 16 * 256 + k.val) :
    (iblk m c 7 t : S1024x256.Idx → EReal) (ix2 r k) = (shapeCast (α := EReal) S1024x4096 (m ((c : Thread nD τ).loc main_arg6)) shapeCasts_S16x64x4096_S1024x4096 : S1024x4096.Idx → EReal) (ix2 y z) := by
  obtain ⟨-, q1, q3, q7, h8⟩ := rows_of_sample t ht
  obtain ⟨p0, p1, p2, p3, -, -, -, -, p6, p7, -⟩ := places t
  show V m c main_v1 ((win0_7.blk t).view.emb (ix2 r k)) = _
  rw [V_sample]
  refine congrArg _ ?_
  funext a
  apply Fin.ext
  match a with
  | ⟨0, _⟩ => show win0_7.index t 0 * 1024 + 1 * r.val = y.val; rw [hy, q7]; omega
  | ⟨1, _⟩ => show win0_7.index t 1 * 256 + 1 * k.val = z.val; rw [p7]; omega

/-- What a point writes back, at an index. -/
theorem block_eq (c : Dev nD) (t : Fin cfg0.N) (r : Fin 1024) (q : Fin 256) (hr : t.val / 16 * 1024 + r.val < 9216) (hq : t.val % 16 * 256 + q.val < 4096) :
    k0_pay1 (F := Ideal) (grid0.coords t) (iblk m c 0 t) (iblk m c 1 t) (iblk m c 2 t) (iblk m c 3 t) (iblk m c 4 t) (iblk m c 5 t) (iblk m c 6 t) (iblk m c 7 t) (ix2 r q)
      = total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val / 16 * 1024 + r.val, hr⟩ ⟨t.val % 16 * 256 + q.val, hq⟩) := by
  by_cases ht : t.val / 16 < 8
  · have hr : t.val / 16 * 1024 + r.val < 8192 := by omega
    rw [pay_prompt _ (rows_of_prompt t ht).1, total_prompt _ _ _ _ _ _ _ _ _ hr, residual_prompt_at m c t ht r q (y := ⟨_, hr⟩) rfl (z := ⟨_, hq⟩) rfl]
    refine congrArg (fun a : EReal => a + _) (congrArg₂ (fun a b : EReal => a + b) (Finset.sum_congr rfl fun k _ => ?_) (Finset.sum_congr rfl fun k _ => ?_))
    · rw [attn_prompt_at m c t ht r k (y := ⟨_, hr⟩) rfl (z := k) rfl, weight_upper]
    · rw [conv_prompt_at m c t ht r k (y := ⟨_, hr⟩) rfl (z := k) rfl, weight_lower]
  · have hr' : ¬ t.val / 16 * 1024 + r.val < 8192 := by omega
    have hr : t.val / 16 * 1024 + r.val - 8192 < 1024 := by omega
    rw [pay_sample _ (rows_of_sample t ht).1, total_sample _ _ _ _ _ _ _ _ _ hr', residual_sample_at m c t ht r q (y := ⟨_, hr⟩) rfl (z := ⟨_, hq⟩) rfl]
    refine congrArg (fun a : EReal => a + _) (congrArg₂ (fun a b : EReal => a + b) (Finset.sum_congr rfl fun k _ => ?_) (Finset.sum_congr rfl fun k _ => ?_))
    · rw [attn_sample_at m c t ht r k (y := ⟨_, hr⟩) rfl (z := k) rfl, weight_upper]
    · rw [conv_sample_at m c t ht r k (y := ⟨_, hr⟩) rfl (z := k) rfl, weight_lower]

/-- What a point writes back is its block of the result. -/
theorem flushed_eq (c : Dev nD) (t : Fin cfg0.N) :
    (dats m 0 c).flushed 8 t = (win0_8.blk t).view.read (Elt Ideal) (total (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show (cfg0.win 8).cut (grid0.coords t) ((dats m 0 c).after 8 t) = _
  rw [after0_8]
  unfold out0_8
  rw [View.canon_unit_zero origin]
  rw [View.ld_unit_zero origin, View.ld_unit_zero origin, View.ld_unit_zero origin, View.ld_unit_zero origin, View.ld_unit_zero origin, View.ld_unit_zero origin, View.ld_unit_zero origin, View.ld_unit_zero origin]
  have hN : t.val < 144 := t.isLt.trans_eq N_0
  obtain ⟨-, -, -, -, -, -, -, -, -, -, p8, p9⟩ := places t
  funext y
  obtain ⟨r, q, rfl⟩ : ∃ (r : Fin 1024) (q : Fin 256), y = ix2 r q := ⟨y 0, y 1, eq_ix2 y⟩
  refine (block_eq m c t r q (by omega) (by omega)).trans ?_
  show _ = total _ _ _ _ _ _ _ ((win0_8.blk t).view.emb (ix2 r q))
  refine congrArg _ ?_
  funext a
  apply Fin.ext
  match a with
  | ⟨0, _⟩ => show t.val / 16 * 1024 + r.val = win0_8.index t 0 * 1024 + 1 * r.val; rw [p8]; omega
  | ⟨1, _⟩ => show t.val % 16 * 256 + q.val = win0_8.index t 1 * 256 + 1 * q.val; rw [p9]; omega

/-- The blocks tile the result. -/
theorem cover (i : S9216x4096.Idx) :
    ∃ t : Fin cfg0.N, (cfg0.win 8).flush t = true ∧ i ∈ ((cfg0.win 8).blk t).view.set := by
  have h0 : (i 0 : Nat) < 9216 := (i 0).isLt
  have h1 : (i 1 : Nat) < 4096 := (i 1).isLt
  have hN : cfg0.N = 144 := N_0
  have ht : (i 0 : Nat) / 1024 * 16 + (i 1 : Nat) / 256 < cfg0.N := by omega
  refine ⟨⟨_, ht⟩, flush0_8 _, ?_⟩
  obtain ⟨-, -, -, -, -, -, -, -, -, -, p8, p9⟩ := places ⟨_, ht⟩
  show i ∈ ((View.whole main_v4).slice (win0_8.rect ⟨_, ht⟩)).set
  rw [View.set_slice_whole, Rect.mem_set_unit]
  intro a
  match a with
  | ⟨0, _⟩ => show win0_8.index _ 0 * 1024 ≤ (i 0 : Nat) ∧ (i 0 : Nat) < win0_8.index _ 0 * 1024 + 1024
              rw [p8]; dsimp only; omega
  | ⟨1, _⟩ => show win0_8.index _ 1 * 256 ≤ (i 1 : Nat) ∧ (i 1 : Nat) < win0_8.index _ 1 * 256 + 256
              rw [p9]; dsimp only; omega

/-- The result array after the run. -/
theorem final (c : Dev nD) : (dats m 0 c).arrAt 8 cfg0.N
    = total (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) :=
  (dats m 0 c).arrAt_eq_of_cover 8 _ (fun t _ => flushed_eq m c t) cover

end Cert.OutIdeal.Product

namespace Cert.OutRefIdeal.Product

open Cert.OutRefIdeal Cert.OutRefIdeal.Gen Idealize.ShloMosaic Idealize.ShloMosaic.TcCoe Idealize.SL.Sem

/-- The reference's result: the whole rows against the weight, the residual added first. -/
theorem value (a : (⟨S8192x2048, .bf16⟩ : BufTy).Contents (Elt Ideal)) (b : (⟨S1024x2048, .bf16⟩ : BufTy).Contents (Elt Ideal))
    (c : (⟨S8192x2048, .bf16⟩ : BufTy).Contents (Elt Ideal)) (d : (⟨S1024x2048, .bf16⟩ : BufTy).Contents (Elt Ideal))
    (w : (⟨S1x4096x4096, .f32⟩ : BufTy).Contents (Elt Ideal)) (x : (⟨S4x2048x4096, .f32⟩ : BufTy).Contents (Elt Ideal)) (y : (⟨S16x64x4096, .f32⟩ : BufTy).Contents (Elt Ideal)) :
    Read.val_main_v14 (F := Ideal) a b c d w x y = Cert.OutIdeal.Product.total a b c d w x y := by
  funext i
  obtain ⟨r, q, rfl⟩ : ∃ (r : Fin 9216) (q : Fin 4096), i = ix2 r q := ⟨i 0, i 1, eq_ix2 i⟩
  unfold Read.val_main_v14
  by_cases h : r.val < 8192
  · pointwise [Cert.OutIdeal.Product.total, Cert.OutIdeal.Product.stacked, h, Read.val_main_v8, Read.val_main_v7, Read.val_main_v6, Read.val_main_v5, Read.val_main_v2, Read.val_main_v0, Read.val_main_v4]
    exact add_comm _ _
  · pointwise [Cert.OutIdeal.Product.total, Cert.OutIdeal.Product.stacked, h, Read.val_main_v13, Read.val_main_v12, Read.val_main_v11, Read.val_main_v10, Read.val_main_v3, Read.val_main_v1, Read.val_main_v9]
    exact add_comm _ _

end Cert.OutRefIdeal.Product

end
-- ==== Proof.CsValue.lean ====
/- What the sample's convolution call hands on to the next step: the last thirty-two gated rows of every stream, the
   convolution's value channel times the logistic function of its gate channel, and that the reference hands on the
   same rows. -/
module

public import proofs.«01_k».proof.Proof.Gen.CsIdeal.Value
public import proofs.«01_k».proof.Proof.Gen.CsRefIdeal.Run
public import proofs.«01_k».proof.Proof.Gen.CsRefIdeal.Read
public import Idealize.ShloMosaic.Lib.Pointwise
public import Idealize.ShloMosaic.Lib.ValueIdx
public import Idealize.ShloMosaic.Lib.VecWindow
public import Idealize.ShloMosaic.Lib.StableHlo.Run

@[expose] public section

set_option maxRecDepth 16384

noncomputable section

namespace Cert.CsIdeal.Rows

open Cert.CsIdeal Cert.CsIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One gated entry: the value channel `q` of row `r` times the logistic function of its gate channel. -/
def gated (z : S9216x10240.Idx → EReal) (r : Fin 9216) (q : Fin 2048) : EReal :=
  z (ix2 r ⟨6144 + q.val, by omega⟩) * Ideal.logistic (z (ix2 r ⟨8192 + q.val, by omega⟩))

/-- The last thirty-two gated rows of each sample stream. -/
def last (z : S9216x10240.Idx → EReal) (i : S16x32x2048.Idx) : EReal :=
  gated z ⟨8192 + 64 * (i 0).val + 32 + (i 1).val, by have h0 : (i 0).val < 16 := (i 0).isLt; have h1 : (i 1).val < 32 := (i 1).isLt; omega⟩ (i 2)

theorem start_zero : (![0, 0] : Fin 2 → Nat) = fun _ => 0 := funext fun a => by fin_cases a <;> rfl

theorem pay_apply (v g : Vec Ideal S64x2048 .f32) (r : Fin 32) (q : Fin 2048) :
    k0_pay5 (F := Ideal) v g (ix3 0 r q)
      = v (ix2 (⟨32 + r.val, by omega⟩ : Fin 64) q) * Ideal.logistic (g (ix2 (⟨32 + r.val, by omega⟩ : Fin 64) q)) := by
  pointwise [k0_pay5, k0_pay1]

/-- The store of the state covers its window with the payload of the two staged blocks. -/
theorem state_eq (c : Dev nD) (t : Fin cfg0.N) :
    (outsAt0 m c t).2 = k0_pay5 (F := Ideal) (iblk m c 0 t) (iblk m c 1 t) := by
  unfold outsAt0 out0_A_9
  delta kernelRun0_A
  dsimp only
  rw [View.read_writes_full]
  rw [View.readAt_eq_ld, View.readAt_eq_ld, Memref.IsWhole.read_unread, Memref.IsWhole.read_unread, View.ld_unit_zero start_zero, View.ld_unit_zero start_zero]

/-- A point takes its stream's value and gate blocks and returns its stream's rows. -/
theorem positions : ∀ t : Fin cfg0.N, win0_0.index t 0 = 128 + t.val ∧ win0_0.index t 1 = 3
    ∧ win0_1.index t 0 = 128 + t.val ∧ win0_1.index t 1 = 4
    ∧ win0_9.index t 0 = t.val ∧ win0_9.index t 1 = 0 ∧ win0_9.index t 2 = 0 :=
  (by decide +kernel : ∀ t : Fin grid0.N, win0_0.index t 0 = 128 + t.val ∧ win0_0.index t 1 = 3
    ∧ win0_1.index t 0 = 128 + t.val ∧ win0_1.index t 1 = 4
    ∧ win0_9.index t 0 = t.val ∧ win0_9.index t 1 = 0 ∧ win0_9.index t 2 = 0)

/-- What a point writes back is its block of those rows. -/
theorem flushed_eq (c : Dev nD) (t : Fin cfg0.N) :
    (dats m 0 c).flushed 9 t = (win0_9.blk t).view.read (Elt Ideal) (last (m ((c : Thread nD τ).loc main_arg0))) := by
  rw [Value.flushed9, state_eq]
  obtain ⟨p0, p1, p2, p3, p4, p5, p6⟩ := positions t
  have ht : t.val < 16 := lt_of_lt_of_eq t.isLt N_0
  funext y
  show k0_pay5 (F := Ideal) (iblk m c 0 t) (iblk m c 1 t) y = last _ ((win0_9.blk t).view.emb y)
  obtain ⟨z, r, q, rfl⟩ : ∃ (z : Fin 1) (r : Fin 32) (q : Fin 2048), y = ix3 z r q := ⟨y 0, y 1, y 2, eq_ix3 y⟩
  obtain rfl : z = 0 := Subsingleton.elim _ _
  have hy : (win0_9.blk t).view.emb (ix3 0 r q) = ix3 ⟨t.val, ht⟩ r q := by
    funext a
    apply Fin.ext
    match a with
    | ⟨0, _⟩ => show win0_9.index t 0 * 1 + 1 * 0 = t.val; rw [p4]; omega
    | ⟨1, _⟩ => show win0_9.index t 1 * 32 + 1 * r.val = r.val; rw [p5]; omega
    | ⟨2, _⟩ => show win0_9.index t 2 * 2048 + 1 * q.val = q.val; rw [p6]; omega
  rw [hy]
  refine (pay_apply _ _ r q).trans ?_
  have hv : iblk m c 0 t (ix2 (⟨32 + r.val, by omega⟩ : Fin 64) q)
      = m ((c : Thread nD τ).loc main_arg0) (ix2 ⟨8192 + 64 * t.val + 32 + r.val, by omega⟩ ⟨6144 + q.val, by omega⟩) := by
    show V m c main_arg0 ((win0_0.blk t).view.emb _) = _
    rw [V_main_arg0]
    congr 1
    funext a
    apply Fin.ext
    match a with
    | ⟨0, _⟩ => show win0_0.index t 0 * 64 + 1 * (32 + r.val) = 8192 + 64 * t.val + 32 + r.val; rw [p0]; omega
    | ⟨1, _⟩ => show win0_0.index t 1 * 2048 + 1 * q.val = 6144 + q.val; rw [p1]; omega
  have hg : iblk m c 1 t (ix2 (⟨32 + r.val, by omega⟩ : Fin 64) q)
      = m ((c : Thread nD τ).loc main_arg0) (ix2 ⟨8192 + 64 * t.val + 32 + r.val, by omega⟩ ⟨8192 + q.val, by omega⟩) := by
    show V m c main_arg0 ((win0_1.blk t).view.emb _) = _
    rw [V_main_arg0]
    congr 1
    funext a
    apply Fin.ext
    match a with
    | ⟨0, _⟩ => show win0_1.index t 0 * 64 + 1 * (32 + r.val) = 8192 + 64 * t.val + 32 + r.val; rw [p2]; omega
    | ⟨1, _⟩ => show win0_1.index t 1 * 2048 + 1 * q.val = 8192 + q.val; rw [p3]; omega
  rw [hv, hg]
  rfl

/-- The blocks fill the result. -/
theorem cover (i : S16x32x2048.Idx) :
    ∃ t : Fin cfg0.N, (cfg0.win 9).flush t = true ∧ i ∈ ((cfg0.win 9).blk t).view.set := by
  have h0 : (i 0 : Nat) < 16 := (i 0).isLt
  have h1 : (i 1 : Nat) < 32 := (i 1).isLt
  have h2 : (i 2 : Nat) < 2048 := (i 2).isLt
  have hN : cfg0.N = 16 := N_0
  have ht : (i 0 : Nat) < cfg0.N := by omega
  refine ⟨⟨(i 0 : Nat), ht⟩, flush0_9 _, ?_⟩
  obtain ⟨-, -, -, -, p4, p5, p6⟩ := positions ⟨(i 0 : Nat), ht⟩
  replace p4 : win0_9.index ⟨(i 0 : Nat), ht⟩ 0 = (i 0 : Nat) := p4
  show i ∈ ((View.whole main_v11_1).slice (win0_9.rect ⟨(i 0 : Nat), ht⟩)).set
  rw [View.set_slice_whole, Rect.mem_set_unit]
  intro a
  match a with
  | ⟨0, _⟩ => show win0_9.index _ 0 * 1 ≤ (i 0 : Nat) ∧ (i 0 : Nat) < win0_9.index _ 0 * 1 + 1
              rw [p4]; omega
  | ⟨1, _⟩ => show win0_9.index _ 1 * 32 ≤ (i 1 : Nat) ∧ (i 1 : Nat) < win0_9.index _ 1 * 32 + 32
              rw [p5]; omega
  | ⟨2, _⟩ => show win0_9.index _ 2 * 2048 ≤ (i 2 : Nat) ∧ (i 2 : Nat) < win0_9.index _ 2 * 2048 + 2048
              rw [p6]; omega

/-- The handed-on array after the run. -/
theorem final (c : Dev nD) : (dats m 0 c).arrAt 9 cfg0.N = last (m ((c : Thread nD τ).loc main_arg0)) :=
  (dats m 0 c).arrAt_eq_of_cover 9 _ (fun t _ => flushed_eq m c t) cover

end Cert.CsIdeal.Rows

namespace Cert.CsRefIdeal.Rows

open Cert.CsRefIdeal Cert.CsRefIdeal.Gen Idealize.ShloMosaic Idealize.ShloMosaic.TcCoe Idealize.SL.Sem

/-- The reference hands on the same rows. -/
theorem value (z : (⟨S9216x10240, .f32⟩ : BufTy).Contents (Elt Ideal)) (past : (⟨S1x16x30x2048, .f32⟩ : BufTy).Contents (Elt Ideal)) :
    Read.val_main_v12 (F := Ideal) z past = Cert.CsIdeal.Rows.last z := by
  funext i
  obtain ⟨b, r, q, rfl⟩ : ∃ (b : Fin 16) (r : Fin 32) (q : Fin 2048), i = ix3 b r q := ⟨i 0, i 1, i 2, eq_ix3 i⟩
  have h : ¬ 62 + r.val < 30 := by omega
  pointwise [Cert.CsIdeal.Rows.last, Cert.CsIdeal.Rows.gated, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, h]
  have e : (⟨8192 + (b.val * 64 + (62 + r.val - 30)), by omega⟩ : Fin 9216) = ⟨8192 + 64 * b.val + 32 + r.val, by omega⟩ :=
    Fin.ext (by show 8192 + (b.val * 64 + (62 + r.val - 30)) = 8192 + 64 * b.val + 32 + r.val; omega)
  rw [e]
  rfl

end Cert.CsRefIdeal.Rows

end
-- ==== Proof.CpValue.lean ====
/- What the prompt's convolution call hands on to the next step: the last thirty-two gated rows of every stream, the
   convolution's value channel times the logistic function of its gate channel, and that the reference hands on the
   same rows. -/
module

public import proofs.«01_k».proof.Proof.CsValue
public import proofs.«01_k».proof.Proof.Gen.CpIdeal.Value
public import proofs.«01_k».proof.Proof.Gen.CpRefIdeal.Run
public import proofs.«01_k».proof.Proof.Gen.CpRefIdeal.Read
public import Idealize.ShloMosaic.Lib.Pointwise
public import Idealize.ShloMosaic.Lib.ValueIdx
public import Idealize.ShloMosaic.Lib.VecWindow
public import Idealize.ShloMosaic.Lib.StableHlo.Run

@[expose] public section

set_option maxRecDepth 16384

noncomputable section

namespace Cert.CpIdeal.Rows

open Cert.CpIdeal Cert.CpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The last thirty-two gated rows of each prompt. -/
def last (z : S9216x10240.Idx → EReal) (i : S4x32x2048.Idx) : EReal :=
  Cert.CsIdeal.Rows.gated z ⟨2048 * (i 0).val + 2016 + (i 1).val, by have h0 : (i 0).val < 4 := (i 0).isLt; have h1 : (i 1).val < 32 := (i 1).isLt; omega⟩ (i 2)

theorem pay_apply (v g : Vec Ideal S256x2048 .f32) (r : Fin 32) (q : Fin 2048) :
    k0_pay6 (F := Ideal) v g (ix3 0 r q)
      = v (ix2 (⟨224 + r.val, by omega⟩ : Fin 256) q) * Ideal.logistic (g (ix2 (⟨224 + r.val, by omega⟩ : Fin 256) q)) := by
  pointwise [k0_pay6, k0_pay2]

/-- The store of the state covers its window with the payload of the two staged blocks. -/
theorem state_eq (c : Dev nD) (t : Fin cfg0.N) :
    (outsAt0 m c t).2 = k0_pay6 (F := Ideal) (iblk m c 0 t) (iblk m c 1 t) := by
  unfold outsAt0 out0_A_10
  delta kernelRun0_A
  dsimp only
  rw [View.read_writes_full]
  rw [View.readAt_eq_ld, View.readAt_eq_ld, Memref.IsWhole.read_unread, Memref.IsWhole.read_unread, View.ld_unit_zero Cert.CsIdeal.Rows.start_zero, View.ld_unit_zero Cert.CsIdeal.Rows.start_zero]

/-- A point takes its eighth of a prompt's value and gate blocks; all eight return into the prompt's rows. -/
theorem positions : ∀ t : Fin cfg0.N, win0_0.index t 0 = t.val ∧ win0_0.index t 1 = 3
    ∧ win0_1.index t 0 = t.val ∧ win0_1.index t 1 = 4
    ∧ win0_10.index t 0 = t.val / 8 ∧ win0_10.index t 1 = 0 ∧ win0_10.index t 2 = 0 :=
  (by decide +kernel : ∀ t : Fin grid0.N, win0_0.index t 0 = t.val ∧ win0_0.index t 1 = 3
    ∧ win0_1.index t 0 = t.val ∧ win0_1.index t 1 = 4
    ∧ win0_10.index t 0 = t.val / 8 ∧ win0_10.index t 1 = 0 ∧ win0_10.index t 2 = 0)

/-- What the last point of a prompt writes back is its block of those rows. -/
theorem flushed_eq (c : Dev nD) (t : Fin cfg0.N) (hf : (cfg0.win 10).flush t = true) :
    (dats m 0 c).flushed 10 t = (win0_10.blk t).view.read (Elt Ideal) (last (m ((c : Thread nD τ).loc main_arg0))) := by
  rw [Value.flushed10, state_eq]
  obtain ⟨p0, p1, p2, p3, p4, p5, p6⟩ := positions t
  have ht : t.val < 32 := lt_of_lt_of_eq t.isLt N_0
  have h7 : t.val % 8 = 7 := (flush0_10 t).1 hf
  funext y
  show k0_pay6 (F := Ideal) (iblk m c 0 t) (iblk m c 1 t) y = last _ ((win0_10.blk t).view.emb y)
  obtain ⟨z, r, q, rfl⟩ : ∃ (z : Fin 1) (r : Fin 32) (q : Fin 2048), y = ix3 z r q := ⟨y 0, y 1, y 2, eq_ix3 y⟩
  obtain rfl : z = 0 := Subsingleton.elim _ _
  have hy : (win0_10.blk t).view.emb (ix3 0 r q) = ix3 ⟨t.val / 8, by omega⟩ r q := by
    funext a
    apply Fin.ext
    match a with
    | ⟨0, _⟩ => show win0_10.index t 0 * 1 + 1 * 0 = t.val / 8; rw [p4]; omega
    | ⟨1, _⟩ => show win0_10.index t 1 * 32 + 1 * r.val = r.val; rw [p5]; omega
    | ⟨2, _⟩ => show win0_10.index t 2 * 2048 + 1 * q.val = q.val; rw [p6]; omega
  rw [hy]
  refine (pay_apply _ _ r q).trans ?_
  have hv : iblk m c 0 t (ix2 (⟨224 + r.val, by omega⟩ : Fin 256) q)
      = m ((c : Thread nD τ).loc main_arg0) (ix2 ⟨2048 * (t.val / 8) + 2016 + r.val, by omega⟩ ⟨6144 + q.val, by omega⟩) := by
    show V m c main_arg0 ((win0_0.blk t).view.emb _) = _
    rw [V_main_arg0]
    congr 1
    funext a
    apply Fin.ext
    match a with
    | ⟨0, _⟩ => show win0_0.index t 0 * 256 + 1 * (224 + r.val) = 2048 * (t.val / 8) + 2016 + r.val; rw [p0]; omega
    | ⟨1, _⟩ => show win0_0.index t 1 * 2048 + 1 * q.val = 6144 + q.val; rw [p1]; omega
  have hg : iblk m c 1 t (ix2 (⟨224 + r.val, by omega⟩ : Fin 256) q)
      = m ((c : Thread nD τ).loc main_arg0) (ix2 ⟨2048 * (t.val / 8) + 2016 + r.val, by omega⟩ ⟨8192 + q.val, by omega⟩) := by
    show V m c main_arg0 ((win0_1.blk t).view.emb _) = _
    rw [V_main_arg0]
    congr 1
    funext a
    apply Fin.ext
    match a with
    | ⟨0, _⟩ => show win0_1.index t 0 * 256 + 1 * (224 + r.val) = 2048 * (t.val / 8) + 2016 + r.val; rw [p2]; omega
    | ⟨1, _⟩ => show win0_1.index t 1 * 2048 + 1 * q.val = 8192 + q.val; rw [p3]; omega
  rw [hv, hg]
  rfl

/-- The blocks of the prompts' last points fill the result. -/
theorem cover (i : S4x32x2048.Idx) :
    ∃ t : Fin cfg0.N, (cfg0.win 10).flush t = true ∧ i ∈ ((cfg0.win 10).blk t).view.set := by
  have h0 : (i 0 : Nat) < 4 := (i 0).isLt
  have h1 : (i 1 : Nat) < 32 := (i 1).isLt
  have h2 : (i 2 : Nat) < 2048 := (i 2).isLt
  have hN : cfg0.N = 32 := N_0
  have ht : 8 * (i 0 : Nat) + 7 < cfg0.N := by omega
  refine ⟨⟨8 * (i 0 : Nat) + 7, ht⟩, (flush0_10 _).2 (by show (8 * (i 0 : Nat) + 7) % 8 = 7; omega), ?_⟩
  obtain ⟨-, -, -, -, p4, p5, p6⟩ := positions ⟨8 * (i 0 : Nat) + 7, ht⟩
  replace p4 : win0_10.index ⟨8 * (i 0 : Nat) + 7, ht⟩ 0 = (i 0 : Nat) :=
    p4.trans (by show (8 * (i 0 : Nat) + 7) / 8 = (i 0 : Nat); omega)
  show i ∈ ((View.whole main_v9_1).slice (win0_10.rect ⟨8 * (i 0 : Nat) + 7, ht⟩)).set
  rw [View.set_slice_whole, Rect.mem_set_unit]
  intro a
  match a with
  | ⟨0, _⟩ => show win0_10.index _ 0 * 1 ≤ (i 0 : Nat) ∧ (i 0 : Nat) < win0_10.index _ 0 * 1 + 1
              rw [p4]; omega
  | ⟨1, _⟩ => show win0_10.index _ 1 * 32 ≤ (i 1 : Nat) ∧ (i 1 : Nat) < win0_10.index _ 1 * 32 + 32
              rw [p5]; omega
  | ⟨2, _⟩ => show win0_10.index _ 2 * 2048 ≤ (i 2 : Nat) ∧ (i 2 : Nat) < win0_10.index _ 2 * 2048 + 2048
              rw [p6]; omega

/-- The handed-on array after the run. -/
theorem final (c : Dev nD) : (dats m 0 c).arrAt 10 cfg0.N = last (m ((c : Thread nD τ).loc main_arg0)) :=
  (dats m 0 c).arrAt_eq_of_cover 10 _ (fun t h => flushed_eq m c t h) cover

end Cert.CpIdeal.Rows

namespace Cert.CpRefIdeal.Rows

open Cert.CpRefIdeal Cert.CpRefIdeal.Gen Idealize.ShloMosaic Idealize.ShloMosaic.TcCoe Idealize.SL.Sem

/-- The reference hands on the same rows. -/
theorem value (z : (⟨S9216x10240, .f32⟩ : BufTy).Contents (Elt Ideal)) :
    Read.val_main_v12 (F := Ideal) z = Cert.CpIdeal.Rows.last z := by
  funext i
  obtain ⟨b, r, q, rfl⟩ : ∃ (b : Fin 4) (r : Fin 32) (q : Fin 2048), i = ix3 b r q := ⟨i 0, i 1, i 2, eq_ix3 i⟩
  have h : ¬ 2046 + r.val < 30 := by omega
  pointwise [Cert.CpIdeal.Rows.last, Cert.CsIdeal.Rows.gated, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, h]
  have e : (⟨b.val * 2048 + (2046 + r.val - 30), by omega⟩ : Fin 9216) = ⟨2048 * b.val + 2016 + r.val, by omega⟩ :=
    Fin.ext (by show b.val * 2048 + (2046 + r.val - 30) = 2048 * b.val + 2016 + r.val; omega)
  rw [e]
  rfl

end Cert.CpRefIdeal.Rows

end
-- ==== Proof.MaMath.lean ====
/- Softmax attention over the extended reals: dividing the weighted sum by the weights' sum, or every weight by it
   first, gives the same number when the scores are real. -/
module

public import Idealize.ShloMosaic.Lib.Pointwise
public import Idealize.ShloMosaic.Lib.ValueIdx
public import Mathlib.Data.EReal.Operations
public import Mathlib.Data.Finset.Fold

@[expose] public section

noncomputable section

namespace Cert.Softmax

open Idealize.ShloMosaic

/-- The largest of the scores, from minus infinity up. -/
def top {n : Nat} (s : Fin n → EReal) : EReal := Finset.fold max (Ideal.ofBits .f32 4286578688#32) s Finset.univ

/-- The weight of one score. -/
def weight {n : Nat} (s : Fin n → EReal) (j : Fin n) : EReal := Ideal.exp (s j - top s)

/-- The weighted mean, divided once at the end. -/
def mean {n : Nat} (s v : Fin n → EReal) : EReal := Ideal.div (∑ j, weight s j * v j) (∑ j, weight s j)

theorem start_bot : Ideal.ofBits .f32 4286578688#32 = ⊥ := by simp [Ideal.ofBits, Ideal.ieee]

theorem max_top {n : Nat} (s : Fin n → EReal) : max (Ideal.ofBits .f32 4286578688#32) (top s) = top s := by
  rw [start_bot]; exact max_eq_right bot_le

/-- The largest of finitely many real scores is real. -/
theorem top_real {n : Nat} (s : Fin (n + 1) → EReal) (hs : ∀ j, ∃ r : ℝ, s j = r) : ∃ r : ℝ, top s = r := by
  have h1 : top s ≠ ⊤ := by
    refine ne_of_lt ((Finset.fold_max_lt _).mpr ⟨by rw [start_bot]; exact bot_lt_top, fun j _ => ?_⟩)
    obtain ⟨r, hr⟩ := hs j
    rw [hr]; exact EReal.coe_lt_top r
  have h2 : top s ≠ ⊥ := by
    obtain ⟨r, hr⟩ := hs 0
    have : (r : EReal) ≤ top s := (Finset.le_fold_max _).mpr (Or.inr ⟨0, Finset.mem_univ _, by rw [hr]⟩)
    intro h
    rw [h] at this
    exact EReal.coe_ne_bot r (le_bot_iff.mp this)
  exact ⟨(top s).toReal, (EReal.coe_toReal h1 h2).symm⟩

theorem weight_real {n : Nat} (s : Fin (n + 1) → EReal) (hs : ∀ j, ∃ r : ℝ, s j = r) :
    ∃ w : Fin (n + 1) → ℝ, (∀ j, 0 < w j) ∧ ∀ j, weight s j = w j := by
  obtain ⟨M, hM⟩ := top_real s hs
  choose r hr using hs
  refine ⟨fun j => Real.exp (r j - M), fun j => Real.exp_pos _, fun j => ?_⟩
  unfold weight
  rw [hM, hr, ← EReal.coe_sub, Ideal.exp_coe]

theorem sum_real {ι : Type} (t : Finset ι) (w : ι → ℝ) : ∑ j ∈ t, (w j : EReal) = ((∑ j ∈ t, w j : ℝ) : EReal) := by
  classical
  induction t using Finset.induction with
  | empty => rfl
  | insert a t ha ih => rw [Finset.sum_insert ha, Finset.sum_insert ha, ih, EReal.coe_add]

theorem sum_mul {ι : Type} (t : Finset ι) (f : ι → EReal) (c : ℝ) (hc : 0 ≤ c) :
    (∑ j ∈ t, f j) * (c : EReal) = ∑ j ∈ t, f j * c := by
  classical
  induction t using Finset.induction with
  | empty => simp
  | insert a t ha ih =>
    rw [Finset.sum_insert ha, Finset.sum_insert ha, ← ih]
    exact EReal.right_distrib_of_nonneg_of_ne_top (EReal.coe_nonneg.mpr hc) (EReal.coe_ne_top c) _ _

/-- Dividing every weight first gives the same mean. -/
theorem mean_eq {n : Nat} (s v : Fin (n + 1) → EReal) (hs : ∀ j, ∃ r : ℝ, s j = r) :
    mean s v = ∑ j, v j * Ideal.div (weight s j) (∑ k, weight s k) := by
  obtain ⟨w, hw, e⟩ := weight_real s hs
  have hl : ∑ k, weight s k = ((∑ k, w k : ℝ) : EReal) := by
    rw [← sum_real]; exact Finset.sum_congr rfl fun k _ => e k
  have hp : 0 < ∑ k, w k := Finset.sum_pos (fun k _ => hw k) Finset.univ_nonempty
  unfold mean
  rw [hl, Ideal.div_coe hp.ne', sum_mul _ _ _ (one_div_pos.mpr hp).le]
  refine Finset.sum_congr rfl fun j _ => ?_
  rw [Ideal.div_coe hp.ne', mul_comm (weight s j), mul_assoc]

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_sum {n : Nat} (f : Fin n → EReal) (hf : ∀ j, ∃ r : ℝ, f j = r) : ∃ r : ℝ, ∑ j, f j = r := by
  choose r hr using hf
  exact ⟨∑ j, r j, by rw [← sum_real]; exact Finset.sum_congr rfl fun k _ => hr k⟩

/-- The scores' factor, one over the square root of the heads' width. -/
theorem scale_real : ∃ r : ℝ, Ideal.ofBits .f32 1035273459#32 = r := by
  have e : Ideal.ofBits .f32 1035273459#32 = ((11863283 * (2 ^ 27)⁻¹ : ℝ) : EReal) := by
    simp [Ideal.ofBits, Ideal.ieee, EReal.coe_mul]
  exact ⟨_, e⟩

/-- A number whose absolute value lies below infinity is real. -/
theorem real_of_abs {x : EReal} (h : max x (-x) < ⊤) : ∃ r : ℝ, x = r := by
  have h1 : x ≠ ⊤ := fun e => by rw [e] at h; simp at h
  have h2 : x ≠ ⊥ := fun e => by rw [e] at h; simp at h
  exact ⟨x.toReal, (EReal.coe_toReal h1 h2).symm⟩

theorem inf_top : Ideal.ofBits .f32 2139095040#32 = ⊤ := by simp [Ideal.ofBits, Ideal.ieee]

end Cert.Softmax

end
-- ==== Proof.MaRef.lean ====
/- What the reference's memory attention leaves, read one element at a time. -/
module

public import proofs.«01_k».proof.Proof.Gen.MaRefIdeal.Run
public import proofs.«01_k».proof.Proof.Gen.MaRefIdeal.Read
public import proofs.«01_k».proof.Proof.MaMath
public import Idealize.ShloMosaic.Lib.Pointwise
public import Idealize.ShloMosaic.Lib.ValueIdx
public import Idealize.ShloMosaic.Lib.StableHlo.Run

@[expose] public section

set_option maxRecDepth 16384

noncomputable section

namespace Cert.MaRefIdeal.Memory

open Cert.MaRefIdeal Cert.MaRefIdeal.Gen Idealize.ShloMosaic Idealize.ShloMosaic.TcCoe Idealize.SL.Sem Cert.Softmax

/-- The score of memory position `j` for row `r` in head `h`. -/
def score (q : S9216x512.Idx → EReal) (kv : S4x256x1024.Idx → EReal) (b : Fin 4) (h : Fin 4) (r : Fin 2048) (j : Fin 256) : EReal :=
  (∑ e : Fin 128, q (ix2 ⟨b.val * 2048 + r.val, by omega⟩ ⟨h.val * 128 + e.val, by omega⟩)
    * kv (ix3 b j ⟨h.val * 128 + e.val, by omega⟩)) * Ideal.ofBits .f32 1035273459#32

/-- The memory's values in head `h`, column `d`. -/
def val (kv : S4x256x1024.Idx → EReal) (b : Fin 4) (h : Fin 4) (d : Fin 128) (j : Fin 256) : EReal :=
  kv (ix3 b j ⟨512 + (h.val * 128 + d.val), by omega⟩)

variable (q : S9216x512.Idx → EReal) (kv : S4x256x1024.Idx → EReal)

theorem score_eq (b h : Fin 4) (r : Fin 2048) (j : Fin 256) : Read.val_main_v8 (F := Ideal) q kv (ix4 b h r j) = score q kv b h r j := by
  rw [Read.val_main_v8_apply, Read.val_main_v6_apply, Read.val_main_v7_apply]
  show (∑ e : Fin 128, _) * Ideal.ofBits .f32 1035273459#32 = _
  unfold score
  refine congrArg (· * _) (Finset.sum_congr rfl fun e _ => ?_)
  rw [Read.val_main_v1_apply, Read.val_main_v0_apply, Read.val_main_v3_apply, Read.val_main_v2_apply]
  congr 2
  · funext a
    apply Fin.ext
    match a with
    | ⟨0, _⟩ => show (((b.val * 2048 + r.val) * 4 + h.val) * 128 + e.val) / 512 = b.val * 2048 + r.val; omega
    | ⟨1, _⟩ => show (((b.val * 2048 + r.val) * 4 + h.val) * 128 + e.val) % 512 = h.val * 128 + e.val; omega
  · funext a
    apply Fin.ext
    match a with
    | ⟨0, _⟩ => show (((b.val * 256 + j.val) * 4 + h.val) * 128 + e.val) / 131072 = b.val; omega
    | ⟨1, _⟩ => show (((b.val * 256 + j.val) * 4 + h.val) * 128 + e.val) / 512 % 256 = j.val; omega
    | ⟨2, _⟩ => show (((b.val * 256 + j.val) * 4 + h.val) * 128 + e.val) % 512 = h.val * 128 + e.val; omega

theorem val_eq (b h : Fin 4) (d : Fin 128) (j : Fin 256) : Read.val_main_v5 (F := Ideal) kv (ix4 b j h d) = val kv b h d j := by
  rw [Read.val_main_v5_apply, Read.val_main_v4_apply]
  unfold val
  congr 1
  funext a
  apply Fin.ext
  match a with
  | ⟨0, _⟩ => show (((b.val * 256 + j.val) * 4 + h.val) * 128 + d.val) / 131072 = b.val; omega
  | ⟨1, _⟩ => show (((b.val * 256 + j.val) * 4 + h.val) * 128 + d.val) / 512 % 256 = j.val; omega
  | ⟨2, _⟩ => show 512 + (((b.val * 256 + j.val) * 4 + h.val) * 128 + d.val) % 512 = 512 + (h.val * 128 + d.val); omega

theorem top_eq (b h : Fin 4) (r : Fin 2048) : Read.val_main_v9 (F := Ideal) q kv (ix3 b h r) = top (score q kv b h r) := by
  have e : score q kv b h r = fun j => Read.val_main_v8 (F := Ideal) q kv (ix4 b h r j) := funext fun j => (score_eq q kv b h r j).symm
  rw [e]
  unfold Read.val_main_v9
  generalize Read.val_main_v8 (F := Ideal) q kv = s
  pointwise [top, Read.val_main_cst_0]

theorem weight_eq (b h : Fin 4) (r : Fin 2048) (j : Fin 256) : Read.val_main_v15 (F := Ideal) q kv (ix4 b h r j) = weight (score q kv b h r) j := by
  rw [Read.val_main_v15_apply, Read.val_main_v14_apply, Read.val_main_v13_apply, Read.val_main_v12_apply, Read.val_main_v11_apply]
  show Ideal.exp (_ - max (Ideal.ofBits .f32 4286578688#32) (Read.val_main_v9 (F := Ideal) q kv (Read.idx_main_v12 (Read.idx_main_v13 (ix4 b h r j))))) = _
  rw [show Read.idx_main_v12 (Read.idx_main_v13 (ix4 b h r j)) = ix3 b h r from by
    funext a; match a with | ⟨0, _⟩ => rfl | ⟨1, _⟩ => rfl | ⟨2, _⟩ => rfl]
  rw [top_eq, max_top, score_eq]
  rfl

theorem sum_eq (b h : Fin 4) (r : Fin 2048) : Read.val_main_v16 (F := Ideal) q kv (ix3 b h r) = ∑ j, weight (score q kv b h r) j := by
  rw [Read.val_main_v16_apply]
  show Ideal.ofBits .f32 0x00000000#32 + _ = _
  rw [Ideal.ofBits_zero_f32, zero_add]
  refine Finset.sum_congr rfl fun j _ => ?_
  rw [← weight_eq]
  congr 1
  funext a; match a with | ⟨0, _⟩ => rfl | ⟨1, _⟩ => rfl | ⟨2, _⟩ => rfl | ⟨3, _⟩ => rfl

/-- One element of the reference's result. -/
theorem value (b h : Fin 4) (r : Fin 2048) (d : Fin 128) :
    Read.val_main_v23 (F := Ideal) q kv (ix2 ⟨b.val * 2048 + r.val, by omega⟩ ⟨h.val * 128 + d.val, by omega⟩)
      = ∑ j, val kv b h d j * Ideal.div (weight (score q kv b h r) j) (∑ k, weight (score q kv b h r) k) := by
  rw [Read.val_main_v23_apply, Read.val_main_v22_apply, Read.val_main_v21_apply]
  refine Eq.trans (Read.val_main_v20_apply q kv _) (Finset.sum_congr rfl fun j _ => ?_)
  congr 1
  · rw [← val_eq]
    congr 1
    funext a
    apply Fin.ext
    match a with
    | ⟨0, _⟩ => show ((b.val * 2048 + r.val) * 512 + (h.val * 128 + d.val)) / 1048576 = b.val; omega
    | ⟨1, _⟩ => rfl
    | ⟨2, _⟩ => show ((b.val * 2048 + r.val) * 512 + (h.val * 128 + d.val)) / 128 % 4 = h.val; omega
    | ⟨3, _⟩ => show ((b.val * 2048 + r.val) * 512 + (h.val * 128 + d.val)) % 128 = d.val; omega
  · rw [← weight_eq, ← sum_eq, Read.val_main_v19_apply, Read.val_main_v18_apply, Read.val_main_v17_apply]
    show Ideal.div _ _ = Ideal.div _ _
    congr 2
    · funext a
      apply Fin.ext
      match a with
      | ⟨0, _⟩ => show ((b.val * 2048 + r.val) * 512 + (h.val * 128 + d.val)) / 1048576 = b.val; omega
      | ⟨1, _⟩ => show ((b.val * 2048 + r.val) * 512 + (h.val * 128 + d.val)) / 128 % 4 = h.val; omega
      | ⟨2, _⟩ => show ((b.val * 2048 + r.val) * 512 + (h.val * 128 + d.val)) / 512 % 2048 = r.val; omega
      | ⟨3, _⟩ => rfl
    · funext a
      apply Fin.ext
      match a with
      | ⟨0, _⟩ => show ((b.val * 2048 + r.val) * 512 + (h.val * 128 + d.val)) / 1048576 = b.val; omega
      | ⟨1, _⟩ => show ((b.val * 2048 + r.val) * 512 + (h.val * 128 + d.val)) / 128 % 4 = h.val; omega
      | ⟨2, _⟩ => show ((b.val * 2048 + r.val) * 512 + (h.val * 128 + d.val)) / 512 % 2048 = r.val; omega

end Cert.MaRefIdeal.Memory

end
-- ==== Proof.MaValue.lean ====
/- What the memory attention's call leaves: for every row and head, the softmax-weighted mean of the memory's values,
   and that this is the reference's attention when the queries and the keys are finite. -/
module

public import proofs.«01_k».proof.Proof.Gen.MaIdeal.Value
public import proofs.«01_k».proof.Proof.MaRef
public import proofs.«01_k».proof.Proof.Gen.Pre_finite_ma
public import Idealize.ShloMosaic.Lib.Pointwise
public import Idealize.ShloMosaic.Lib.Pipeline.ValueKit.Tiles
public import Idealize.ShloMosaic.Lib.ReduceAll
public import Idealize.ShloMosaic.Lib.ValueIdx

@[expose] public section

set_option maxRecDepth 16384

noncomputable section

namespace Cert.MaIdeal.Memory

open Cert.MaIdeal Cert.MaIdeal.Gen Idealize.ShloMosaic Idealize.ShloMosaic.TcCoe Idealize.SL.Sem Cert.Softmax
open Idealize.ShloMosaic.Pipeline (Dat)
open Cert.MaRefIdeal.Memory (score val)

/-- One head's attention, from its queries and its keys and values. -/
def head (q : FVec Ideal S512x128 .f32) (k v : FVec Ideal S256x128 .bf16) : FVec Ideal S512x128 .bf16 :=
  have s : FVec Ideal S512x256 .f32 := mulf (matmul dot_S512x128_S256x128_S512x256_1_1_0_0_n_n none (truncf .bf16 q bitsLt_bf16_f32) k (constant S512x256 .f32 0x00000000#32)) (broadcast S512x256 (Scalar.ofBits .f32 0x3DB504F3#32))
  have p : FVec Ideal S512x256 .f32 := exp (subf s (broadcastTo S512x256 (shapeCast S512x1 (multiReduction .maximumf [1] S512 s 0xFF800000#32 reduces_S512x256_S512 (.inl rfl) rfl) shapeCasts_S512_S512x1) broadcasts_S512x1_S512x256))
  truncf .bf16 (divf (matmul dot_S512x256_S256x128_S512x128_1_0_0_1_n_n none (truncf .bf16 p bitsLt_bf16_f32) v (constant S512x128 .f32 0x00000000#32))
    (broadcastTo S512x128 (shapeCast S512x1 (multiReduction .add [1] S512 p 0x00000000#32 reduces_S512x256_S512 (.inl rfl) rfl) shapeCasts_S512_S512x1) broadcasts_S512x1_S512x128)) bitsLt_bf16_f32

/-- One head's columns of the block's queries, keys and values, attended. -/
def part (x0 : Vec Ideal S512x512 .f32) (x1 x2 : Vec Ideal S1x256x512 .f32) (o : Nat)
    (inb : ∀ a, (![0, o] : Fin 2 → Nat) a + S512x128.size a ≤ S512x512.size a) (sl : S256x512.Slices ![0, o] S256x128) : FVec Ideal S512x128 .bf16 :=
  head (View.ld x0 (Rect.unit (s := S512x512) ![0, o] S512x128.size inb)) (extractStridedSlice S256x128 ![0, o] (k0_pay2 (F := Ideal) (View.ld x1 r0_0)) sl)
    (extractStridedSlice S256x128 ![0, o] (k0_pay3 (F := Ideal) (View.ld x2 r0_0)) sl)

/-- The point stores the four heads side by side. -/
theorem out_eq (x0 : Vec Ideal S512x512 .f32) (x1 x2 : Vec Ideal S1x256x512 .f32) : out0_3 (F := Ideal) x0 x1 x2 =
    View.canon [⟨r0_4, part x0 x1 x2 384 inb_S512x512_S512x128_0_384 slices_S256x512_o0_384_S256x128⟩,
      ⟨r0_3, part x0 x1 x2 256 inb_S512x512_S512x128_0_256 slices_S256x512_o0_256_S256x128⟩,
      ⟨r0_2, part x0 x1 x2 128 inb_S512x512_S512x128_0_128 slices_S256x512_o0_128_S256x128⟩,
      ⟨r0_1, part x0 x1 x2 0 inb_S512x512_S512x128_0_0 slices_S256x512_o0_0_S256x128⟩] := rfl

/-- One element of a head's attention. -/
theorem head_apply (q : FVec Ideal S512x128 .f32) (k v : FVec Ideal S256x128 .bf16) (r : Fin 512) (d : Fin 128) :
    head q k v (ix2 r d) = mean (fun j : Fin 256 => (∑ e : Fin 128, q (ix2 r e) * k (ix2 j e)) * Ideal.ofBits .f32 1035273459#32) (fun j => v (ix2 j d)) := by
  pointwise [head, mean, weight, top]

theorem keys_apply (x : Vec Ideal S1x256x512 .f32) (j : Fin 256) (e : Fin 512) :
    k0_pay2 (F := Ideal) (View.ld x r0_0) (ix2 j e) = x (ix3 0 j e) := by
  rw [View.ld_unit_zero (funext fun a => by fin_cases a <;> rfl)]
  pointwise [k0_pay2]

theorem vals_apply (x : Vec Ideal S1x256x512 .f32) (j : Fin 256) (e : Fin 512) :
    k0_pay3 (F := Ideal) (View.ld x r0_0) (ix2 j e) = x (ix3 0 j e) := by
  rw [View.ld_unit_zero (funext fun a => by fin_cases a <;> rfl)]
  pointwise [k0_pay3]

/-- A block's attention at one row, head and column. -/
def block (x0 : Vec Ideal S512x512 .f32) (x1 x2 : Vec Ideal S1x256x512 .f32) (r : Fin 512) (h : Fin 4) (d : Fin 128) : EReal :=
  mean (fun j : Fin 256 => (∑ e : Fin 128, x0 (ix2 r ⟨h.val * 128 + e.val, by omega⟩) * x1 (ix3 0 j ⟨h.val * 128 + e.val, by omega⟩)) * Ideal.ofBits .f32 1035273459#32)
    (fun j => x2 (ix3 0 j ⟨h.val * 128 + d.val, by omega⟩))

theorem slice_apply (o : Nat) (k : FVec Ideal S256x512 .bf16) (sl : S256x512.Slices ![0, o] S256x128) (ho : o + 128 ≤ 512) (j : Fin 256) (e : Fin 128) :
    extractStridedSlice S256x128 ![0, o] k sl (ix2 j e) = k (ix2 j ⟨o + e.val, by omega⟩) := by
  pointwise

theorem part_apply (x0 : Vec Ideal S512x512 .f32) (x1 x2 : Vec Ideal S1x256x512 .f32) (o : Nat)
    (inb : ∀ a, (![0, o] : Fin 2 → Nat) a + S512x128.size a ≤ S512x512.size a) (sl : S256x512.Slices ![0, o] S256x128)
    (h : Fin 4) (ho : o = h.val * 128) (r : Fin 512) (d : Fin 128) : part x0 x1 x2 o inb sl (ix2 r d) = block x0 x1 x2 r h d := by
  subst ho
  have hh : h.val * 128 + 128 ≤ 512 := by omega
  refine (head_apply _ _ _ r d).trans ?_
  unfold block
  congr 1
  · funext j
    refine congrArg (· * _) (Finset.sum_congr rfl fun e _ => ?_)
    rw [slice_apply _ _ _ hh, keys_apply]
    congr 1
    show x0 _ = x0 _
    congr 1
    funext a
    apply Fin.ext
    match a with
    | ⟨0, _⟩ => show 0 + 1 * r.val = r.val; omega
    | ⟨1, _⟩ => show h.val * 128 + 1 * e.val = h.val * 128 + e.val; omega
  · funext j
    rw [slice_apply _ _ _ hh, vals_apply]

theorem tile (x0 : Vec Ideal S512x512 .f32) (x1 x2 : Vec Ideal S1x256x512 .f32) (o : Nat)
    (inb : ∀ a, (![0, o] : Fin 2 → Nat) a + S512x128.size a ≤ S512x512.size a) (sl : S256x512.Slices ![0, o] S256x128)
    (k : Fin 4) (ho : o = k.val * 128) (r : Fin 512) (h : Fin 4) (d : Fin 128) :
    View.TileAt (Val := Elt Ideal) (e := .bf16) (S := S512x512) (ix2 r ⟨h.val * 128 + d.val, by omega⟩) ![0, o] S512x128.size (part x0 x1 x2 o inb sl) (block x0 x1 x2 r h d) := by
  intro x hx
  have e0 : r.val = 0 + (x 0 : Nat) := hx 0
  have e1 : h.val * 128 + d.val = o + (x 1 : Nat) := hx 1
  have h1 : (x 1 : Nat) < 128 := (x 1).isLt
  have hk : k = h := Fin.ext (by omega)
  subst hk
  have ex : x = ix2 r d := by
    funext a
    apply Fin.ext
    match a with
    | ⟨0, _⟩ => show (x 0 : Nat) = r.val; omega
    | ⟨1, _⟩ => show (x 1 : Nat) = d.val; omega
  rw [ex]
  exact part_apply x0 x1 x2 o inb sl k ho r d

/-- What a point leaves, at one row, head and column. -/
theorem out_apply (x0 : Vec Ideal S512x512 .f32) (x1 x2 : Vec Ideal S1x256x512 .f32) (r : Fin 512) (h : Fin 4) (d : Fin 128) :
    out0_3 (F := Ideal) x0 x1 x2 (ix2 r ⟨h.val * 128 + d.val, by omega⟩) = block x0 x1 x2 r h d := by
  rw [out_eq]
  refine View.canon_eq_of_allAt _ _ _ (View.cover_of_tiled_head _ _ _ rfl _) ?_
  refine View.allAt_cons_unit _ _ _ _ _ (tile x0 x1 x2 384 _ _ 3 rfl r h d) ?_
  refine View.allAt_cons_unit _ _ _ _ _ (tile x0 x1 x2 256 _ _ 2 rfl r h d) ?_
  refine View.allAt_cons_unit _ _ _ _ _ (tile x0 x1 x2 128 _ _ 1 rfl r h d) ?_
  exact View.allAt_cons_unit _ _ _ _ _ (tile x0 x1 x2 0 _ _ 0 rfl r h d) (View.allAt_nil _ _)

variable (m : (ℓ : Loc nD τ sig) → Buf (Elt Ideal) ℓ) (ρ : Dev nD → PrngReg)

/-- The softmax-weighted mean of the memory's values for row `i 0`, in the head and column of `i 1`. -/
def att (q : S9216x512.Idx → EReal) (kv : S4x256x1024.Idx → EReal) (i : S8192x512.Idx) : EReal :=
  have h0 : (i 0 : Nat) < 8192 := (i 0).isLt
  have h1 : (i 1 : Nat) < 512 := (i 1).isLt
  mean (score q kv ⟨(i 0 : Nat) / 2048, by omega⟩ ⟨(i 1 : Nat) / 128, by omega⟩ ⟨(i 0 : Nat) % 2048, by omega⟩)
    (val kv ⟨(i 0 : Nat) / 2048, by omega⟩ ⟨(i 1 : Nat) / 128, by omega⟩ ⟨(i 1 : Nat) % 128, by omega⟩)

/-- Point `t` takes block `t` of the queries and of the result, and the keys and the values of batch `t / 4`. -/
theorem positions : ∀ t : Fin cfg0.N, (win0_0.index t 0 = t.val ∧ win0_0.index t 1 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 1)
    ∧ win0_3.index t 0 = t.val ∧ win0_3.index t 1 = 0 :=
  (by decide +kernel : ∀ t : Fin grid0.N, (win0_0.index t 0 = t.val ∧ win0_0.index t 1 = 0)
    ∧ (win0_1.index t 0 = t.val / 4 ∧ win0_1.index t 1 = 0 ∧ win0_1.index t 2 = 0)
    ∧ (win0_2.index t 0 = t.val / 4 ∧ win0_2.index t 1 = 0 ∧ win0_2.index t 2 = 1)
    ∧ win0_3.index t 0 = t.val ∧ win0_3.index t 1 = 0)

/-- What a point writes back is its rows of the attention. -/
theorem flushed_eq (c : Dev nD) (t : Fin cfg0.N) :
    (dats m 0 c).flushed 3 t = (win0_3.blk t).view.read (Elt Ideal)
      (att (m ((c : Thread nD τ).loc main_arg0)) (m ((c : Thread nD τ).loc main_arg1))) := by
  show (cfg0.win 3).cut (grid0.coords t) ((dats m 0 c).after 3 t) = _
  rw [after0_3]
  obtain ⟨⟨p0, p1⟩, ⟨k0, k1, k2⟩, ⟨v0, v1, v2⟩, o0, o1⟩ := positions t
  have ht : t.val < 16 := lt_of_lt_of_eq t.isLt N_0
  funext y
  show out0_3 (F := Ideal) (iblk m c 0 t) (iblk m c 1 t) (iblk m c 2 t) y = att _ _ ((win0_3.blk t).view.emb y)
  obtain ⟨r, s, rfl⟩ : ∃ (r : Fin 512) (s : Fin 512), y = ix2 r s := ⟨y 0, y 1, eq_ix2 y⟩
  obtain ⟨h, d, rfl⟩ : ∃ (h : Fin 4) (d : Fin 128), s = ⟨h.val * 128 + d.val, by omega⟩ :=
    ⟨⟨s.val / 128, by omega⟩, ⟨s.val % 128, by omega⟩, Fin.ext (by show s.val = s.val / 128 * 128 + s.val % 128; omega)⟩
  have hy : (win0_3.blk t).view.emb (ix2 r (⟨h.val * 128 + d.val, by omega⟩ : Fin 512))
      = (ix2 ⟨t.val * 512 + r.val, by omega⟩ ⟨h.val * 128 + d.val, by omega⟩ : S8192x512.Idx) := by
    funext a
    apply Fin.ext
    match a with
    | ⟨0, _⟩ => show win0_3.index t 0 * 512 + 1 * r.val = t.val * 512 + r.val; rw [o0]; omega
    | ⟨1, _⟩ => show win0_3.index t 1 * 512 + 1 * (h.val * 128 + d.val) = h.val * 128 + d.val; rw [o1]; omega
  rw [hy]
  refine (out_apply _ _ _ r h d).trans ?_
  unfold block att
  congr 1
  · funext j
    unfold score
    refine congrArg (· * _) (Finset.sum_congr rfl fun e _ => ?_)
    congr 1
    · show V m c main_arg0 ((win0_0.blk t).view.emb (ix2 r (⟨h.val * 128 + e.val, by omega⟩ : Fin 512))) = _
      rw [V_main_arg0]
      congr 1
      funext a
      apply Fin.ext
      match a with
      | ⟨0, _⟩ => show win0_0.index t 0 * 512 + 1 * r.val = (t.val * 512 + r.val) / 2048 * 2048 + (t.val * 512 + r.val) % 2048; rw [p0]; omega
      | ⟨1, _⟩ => show win0_0.index t 1 * 512 + 1 * (h.val * 128 + e.val) = (h.val * 128 + d.val) / 128 * 128 + e.val; rw [p1]; omega
    · show V m c main_arg1 ((win0_1.blk t).view.emb (ix3 0 j (⟨h.val * 128 + e.val, by omega⟩ : Fin 512))) = _
      rw [V_main_arg1]
      congr 1
      funext a
      apply Fin.ext
      match a with
      | ⟨0, _⟩ => show win0_1.index t 0 * 1 + 1 * 0 = (t.val * 512 + r.val) / 2048; rw [k0]; omega
      | ⟨1, _⟩ => show win0_1.index t 1 * 256 + 1 * j.val = j.val; rw [k1]; omega
      | ⟨2, _⟩ => show win0_1.index t 2 * 512 + 1 * (h.val * 128 + e.val) = (h.val * 128 + d.val) / 128 * 128 + e.val; rw [k2]; omega
  · funext j
    unfold val
    show V m c main_arg1 ((win0_2.blk t).view.emb (ix3 0 j (⟨h.val * 128 + d.val, by omega⟩ : Fin 512))) = _
    rw [V_main_arg1]
    congr 1
    funext a
    apply Fin.ext
    match a with
    | ⟨0, _⟩ => show win0_2.index t 0 * 1 + 1 * 0 = (t.val * 512 + r.val) / 2048; rw [v0]; omega
    | ⟨1, _⟩ => show win0_2.index t 1 * 256 + 1 * j.val = j.val; rw [v1]; omega
    | ⟨2, _⟩ => show win0_2.index t 2 * 512 + 1 * (h.val * 128 + d.val) = 512 + ((h.val * 128 + d.val) / 128 * 128 + (h.val * 128 + d.val) % 128); rw [v2]; omega

/-- Every row lies in some point's block. -/
theorem cover (i : S8192x512.Idx) :
    ∃ t : Fin cfg0.N, (cfg0.win 3).flush t = true ∧ i ∈ ((cfg0.win 3).blk t).view.set := by
  have h0 : (i 0 : Nat) < 8192 := (i 0).isLt
  have h1 : (i 1 : Nat) < 512 := (i 1).isLt
  have hN : cfg0.N = 16 := N_0
  have ht : (i 0 : Nat) / 512 < cfg0.N := by omega
  refine ⟨⟨(i 0 : Nat) / 512, ht⟩, flush0_3 _, ?_⟩
  obtain ⟨-, -, -, o0, o1⟩ := positions ⟨(i 0 : Nat) / 512, ht⟩
  replace o0 : win0_3.index ⟨(i 0 : Nat) / 512, ht⟩ 0 = (i 0 : Nat) / 512 := o0
  show i ∈ ((View.whole main_v0).slice (win0_3.rect ⟨(i 0 : Nat) / 512, ht⟩)).set
  rw [View.set_slice_whole, Rect.mem_set_unit]
  intro a
  match a with
  | ⟨0, _⟩ => show win0_3.index _ 0 * 512 ≤ (i 0 : Nat) ∧ (i 0 : Nat) < win0_3.index _ 0 * 512 + 512
              rw [o0]; omega
  | ⟨1, _⟩ => show win0_3.index _ 1 * 512 ≤ (i 1 : Nat) ∧ (i 1 : Nat) < win0_3.index _ 1 * 512 + 512
              rw [o1]; omega

/-- The result array after the run. -/
theorem final (c : Dev nD) : (dats m 0 c).arrAt 3 cfg0.N
    = att (m ((c : Thread nD τ).loc main_arg0)) (m ((c : Thread nD τ).loc main_arg1)) :=
  (dats m 0 c).arrAt_eq_of_cover 3 _ (fun t _ => flushed_eq m c t) cover

end Cert.MaIdeal.Memory

namespace Cert.MaRefIdeal.Memory

open Cert.MaRefIdeal Cert.MaRefIdeal.Gen Idealize.ShloMosaic Idealize.ShloMosaic.TcCoe Idealize.SL.Sem Cert.Softmax

theorem real_of_lt {x : EReal} (h : FloatOps.cmpf (F := Ideal) (φ := .f32) .olt (max x (-x)) (Ideal.ofBits .f32 2139095040#32) = 1#1) :
    ∃ r : ℝ, x = r := by
  rw [inf_top] at h
  refine real_of_abs ?_
  by_contra hn
  have e : FloatOps.cmpf (F := Ideal) (φ := .f32) .olt (max x (-x)) (⊤ : EReal) = 0#1 := by
    simp [Ideal.cmpf_def, Ideal.cmp, hn]
  rw [e] at h
  exact absurd h (by decide)

/-- The precondition: the prompt's queries and the keys are real. -/
theorem finite (q : S9216x512.Idx → EReal) (kv : S4x256x1024.Idx → EReal)
    (h : Cert.Pre_finite_ma.fn (F := Ideal) q kv = fun _ => 1#1) :
    (∀ (i : Fin 8192) (e : Fin 512), ∃ r : ℝ, q (ix2 ⟨i.val, by omega⟩ e) = r) ∧ ∀ (b : Fin 4) (j : Fin 256) (e : Fin 512), ∃ r : ℝ, kv (ix3 b j ⟨e.val, by omega⟩) = r := by
  have e := congrFun h (fun a => a.elim0)
  obtain ⟨e0, e1⟩ := IntOp.andi_eq_one.mp e
  refine ⟨fun i e => ?_, fun b j e => ?_⟩
  · obtain ⟨r, hr⟩ := real_of_lt (Host.reduce_andi_all _ _ _ _ _ e0 (ix2 i e))
    refine ⟨r, Eq.trans (congrArg q ?_) hr⟩
    funext a
    apply Fin.ext
    match a with
    | ⟨0, _⟩ => show i.val = 0 + i.val; omega
    | ⟨1, _⟩ => show e.val = 0 + e.val; omega
  · obtain ⟨r, hr⟩ := real_of_lt (Host.reduce_andi_all _ _ _ _ _ e1 (ix3 b j e))
    refine ⟨r, Eq.trans (congrArg kv ?_) hr⟩
    funext a
    apply Fin.ext
    match a with
    | ⟨0, _⟩ => show b.val = 0 + b.val; omega
    | ⟨1, _⟩ => show j.val = 0 + j.val; omega
    | ⟨2, _⟩ => show e.val = 0 + e.val; omega

theorem score_real (q : S9216x512.Idx → EReal) (kv : S4x256x1024.Idx → EReal)
    (hq : ∀ (i : Fin 8192) (e : Fin 512), ∃ r : ℝ, q (ix2 ⟨i.val, by omega⟩ e) = r) (hk : ∀ (b : Fin 4) (j : Fin 256) (e : Fin 512), ∃ r : ℝ, kv (ix3 b j ⟨e.val, by omega⟩) = r)
    (b h : Fin 4) (r : Fin 2048) (j : Fin 256) : ∃ x : ℝ, score q kv b h r j = x :=
  real_mul (real_sum _ fun e => real_mul (hq ⟨b.val * 2048 + r.val, by omega⟩ ⟨h.val * 128 + e.val, by omega⟩) (hk b j ⟨h.val * 128 + e.val, by omega⟩)) scale_real

/-- With finite queries and keys the reference's attention is the kernel's. -/
theorem agrees (q : S9216x512.Idx → EReal) (kv : S4x256x1024.Idx → EReal)
    (h : Cert.Pre_finite_ma.fn (F := Ideal) q kv = fun _ => 1#1) :
    Read.val_main_v23 (F := Ideal) q kv = Cert.MaIdeal.Memory.att q kv := by
  obtain ⟨hq, hk⟩ := finite q kv h
  funext i
  have h0 : (i 0 : Nat) < 8192 := (i 0).isLt
  have h1 : (i 1 : Nat) < 512 := (i 1).isLt
  have ei : i = ix2 ⟨(⟨(i 0 : Nat) / 2048, by omega⟩ : Fin 4).val * 2048 + (⟨(i 0 : Nat) % 2048, by omega⟩ : Fin 2048).val, by omega⟩
      ⟨(⟨(i 1 : Nat) / 128, by omega⟩ : Fin 4).val * 128 + (⟨(i 1 : Nat) % 128, by omega⟩ : Fin 128).val, by omega⟩ := by
    funext a
    apply Fin.ext
    match a with
    | ⟨0, _⟩ => show (i 0 : Nat) = (i 0 : Nat) / 2048 * 2048 + (i 0 : Nat) % 2048; omega
    | ⟨1, _⟩ => show (i 1 : Nat) = (i 1 : Nat) / 128 * 128 + (i 1 : Nat) % 128; omega
  refine (congrArg (Read.val_main_v23 (F := Ideal) q kv) ei).trans ((value q kv _ _ _ _).trans ?_)
  exact (mean_eq _ _ (score_real q kv hq hk _ _ _)).symm

end Cert.MaRefIdeal.Memory

end
-- ==== Proof.AttnIdealFrame.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame of the band attention with the mask named: the body runs at every grid point whatever its two scratch
buffers hold, so nothing of what it writes is followed and the output's contents are left unstated. -/

@[expose] public section

set_option maxRecDepth 16384

noncomputable section

namespace Cert.Proof.AttnIdealFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body fills the bias table: the point is the grid's first. -/
abbrev fills (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- The body closes a block of rows: the point works on the second half of the heads. -/
abbrev closes (i : grid0.Coords) : Prop := k0_cond2 i = 1#1

set_option maxHeartbeats 4000000 in
/-- One run of the body: the inputs come back as they were, the output and the scratch at some contents. -/
theorem run_body (c : Dev nD) (i : grid0.Coords) (arg3 : Memref sig .tc .vmem S16x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S1x2048 .f32) (harg11 : arg11.IsWhole) (arg12 : Memref sig .tc .vmem S256x2048 .bf16) (harg12 : arg12.IsWhole) (arg13 : Memref sig .tc .vmem S16x256x768 .f32) (harg13 : arg13.IsWhole) (arg14 : Memref sig .tc .vmem S2x256x1024 .f32) (harg14 : arg14.IsWhole)
    (x0 : Vec F S16x1024 .f32) (x1 : Vec F S256x1024 .f32) (x2 : Vec F S256x1024 .f32) (x3 : Vec F S256x1024 .f32) (x4 : Vec F S256x1024 .f32) (x5 : Vec F S256x1024 .f32) (x6 : Vec F S256x1024 .f32) (x7 : Vec F S256x1024 .f32) (x8 : Vec F S1x2048 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14) K := by
  simp only [cc0_attn_prompt_eq_skeleton]; unfold cc0_attn_prompt_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
  by_cases hc0 : fills i <;> by_cases hc1 : closes i
  all_goals
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

/-- The output's staging buffer is the one window whose contents are left unstated. -/
def unstated : Fin 10 → Bool := fun w => w.val == 9

/-- Each input's buffer keeps its block, the scratch stays at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
  Φ _ := Pipeline.ΦA spec0 c
  q w := Pipeline.shareOf spec0 w
  owed _ := 0

theorem arrays (c : Dev nD) (w : Fin cfg0.W) : (dats m 0 c).A w = V m c (Pipeline.arrRef spec0 w) := by
  dsimp only [dats]

theorem keep0 (c : Dev nD) (t : Fin cfg0.N) (d) : (dats m 0 c).before 0 t d = iblk m c 0 t :=
  before0_0_of m (dats m 0 c) (arrays m c 0) (fun t => by dsimp only [dats]) t d
theorem keep1 (c : Dev nD) (t : Fin cfg0.N) (d) : (dats m 0 c).before 1 t d = iblk m c 1 t :=
  before0_1_of m (dats m 0 c) (arrays m c 1) (fun t => by dsimp only [dats]) t d
theorem keep2 (c : Dev nD) (t : Fin cfg0.N) (d) : (dats m 0 c).before 2 t d = iblk m c 2 t :=
  before0_2_of m (dats m 0 c) (arrays m c 2) (fun t => by dsimp only [dats]) t d
theorem keep3 (c : Dev nD) (t : Fin cfg0.N) (d) : (dats m 0 c).before 3 t d = iblk m c 3 t :=
  before0_3_of m (dats m 0 c) (arrays m c 3) (fun t => by dsimp only [dats]) t d
theorem keep4 (c : Dev nD) (t : Fin cfg0.N) (d) : (dats m 0 c).before 4 t d = iblk m c 4 t :=
  before0_4_of m (dats m 0 c) (arrays m c 4) (fun t => by dsimp only [dats]) t d
theorem keep5 (c : Dev nD) (t : Fin cfg0.N) (d) : (dats m 0 c).before 5 t d = iblk m c 5 t :=
  before0_5_of m (dats m 0 c) (arrays m c 5) (fun t => by dsimp only [dats]) t d
theorem keep6 (c : Dev nD) (t : Fin cfg0.N) (d) : (dats m 0 c).before 6 t d = iblk m c 6 t :=
  before0_6_of m (dats m 0 c) (arrays m c 6) (fun t => by dsimp only [dats]) t d
theorem keep7 (c : Dev nD) (t : Fin cfg0.N) (d) : (dats m 0 c).before 7 t d = iblk m c 7 t :=
  before0_7_of m (dats m 0 c) (arrays m c 7) (fun t => by dsimp only [dats]) t d
theorem keep8 (c : Dev nD) (t : Fin cfg0.N) (d) : (dats m 0 c).before 8 t d = iblk m c 8 t :=
  before0_8_of m (dats m 0 c) (arrays m c 8) (fun t => by dsimp only [dats]) t d

/-- The two scratch buffers and the generator's register, spelled out. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

set_option maxHeartbeats 4000000 in
/-- The body at any point. -/
theorem body (c : Dev nD) : BodyObligation (dats (F := F) m 0 c) (defs₀ (F := F)) Variants.none () Set.univ unstated := fun t => by
  rw [bigSep_W0, bigSep_W0, show defs₀ (F := F) .tc cfg0.body (cfg0.bodyArgs t (cfg0.slots t)) = bodyAt0 t from by
    unfold defs₀; rw [Defs.onTc_tc]]
  have key : iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare d))
    ⊢ wp frame (wpE (defs₀ (F := F)) Variants.none c none) Set.univ (bodyAt0 t) (fun _ => iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (win0_9.stage (cfg0.slots t 9)) fullShare d))) := by
    unfold bodyAt0
    rw [show (dats m 0 c).owesAt () t.succ = (dats m 0 c).owesAt () t.castSucc from rfl,
      show (dats m 0 c).Φ t.succ = Pipeline.ΦA spec0 c from rfl, show (dats m 0 c).Φ t.castSucc = Pipeline.ΦA spec0 c from rfl, scratch_eq]
    rw [show (dats m 0 c).leavesExact 0 t = owns (c : Thread nD τ) (win0_0.stage (cfg0.slots t 0)) fullShare (iblk m c 0 t) from by
      unfold Dat.leavesExact; rw [show cfg0.idle 0 (grid0.coords t) = false from rfl]; dsimp only [dats]]
    rw [show (dats m 0 c).leavesExact 1 t = owns (c : Thread nD τ) (win0_1.stage (cfg0.slots t 1)) fullShare (iblk m c 1 t) from by
      unfold Dat.leavesExact; rw [show cfg0.idle 1 (grid0.coords t) = false from rfl]; dsimp only [dats]]
    rw [show (dats m 0 c).leavesExact 2 t = owns (c : Thread nD τ) (win0_2.stage (cfg0.slots t 2)) fullShare (iblk m c 2 t) from by
      unfold Dat.leavesExact; rw [show cfg0.idle 2 (grid0.coords t) = false from rfl]; dsimp only [dats]]
    rw [show (dats m 0 c).leavesExact 3 t = owns (c : Thread nD τ) (win0_3.stage (cfg0.slots t 3)) fullShare (iblk m c 3 t) from by
      unfold Dat.leavesExact; rw [show cfg0.idle 3 (grid0.coords t) = false from rfl]; dsimp only [dats]]
    rw [show (dats m 0 c).leavesExact 4 t = owns (c : Thread nD τ) (win0_4.stage (cfg0.slots t 4)) fullShare (iblk m c 4 t) from by
      unfold Dat.leavesExact; rw [show cfg0.idle 4 (grid0.coords t) = false from rfl]; dsimp only [dats]]
    rw [show (dats m 0 c).leavesExact 5 t = owns (c : Thread nD τ) (win0_5.stage (cfg0.slots t 5)) fullShare (iblk m c 5 t) from by
      unfold Dat.leavesExact; rw [show cfg0.idle 5 (grid0.coords t) = false from rfl]; dsimp only [dats]]
    rw [show (dats m 0 c).leavesExact 6 t = owns (c : Thread nD τ) (win0_6.stage (cfg0.slots t 6)) fullShare (iblk m c 6 t) from by
      unfold Dat.leavesExact; rw [show cfg0.idle 6 (grid0.coords t) = false from rfl]; dsimp only [dats]]
    rw [show (dats m 0 c).leavesExact 7 t = owns (c : Thread nD τ) (win0_7.stage (cfg0.slots t 7)) fullShare (iblk m c 7 t) from by
      unfold Dat.leavesExact; rw [show cfg0.idle 7 (grid0.coords t) = false from rfl]; dsimp only [dats]]
    rw [show (dats m 0 c).leavesExact 8 t = owns (c : Thread nD τ) (win0_8.stage (cfg0.slots t 8)) fullShare (iblk m c 8 t) from by
      unfold Dat.leavesExact; rw [show cfg0.idle 8 (grid0.coords t) = false from rfl]; dsimp only [dats]]
    simp only [keep0, keep1, keep2, keep3, keep4, keep5, keep6, keep7, keep8]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply run_body c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  exact triple_restated key rfl .rfl fun _ => .rfl

set_option backward.isDefEq.respectTransparency.types false in
/-- The launch: every array but the output as the region found it, every counter at zero. -/
theorem launch : θ_run defs (onTc (τ := τ) (main (F := F))) (s₀ m ρ) (fun r => (Pipeline.RDat.FramePost (cfgs 0) (fun c => (dats m 0 c).toRForget unstated) (V m)) r ∧ r.2.sem = fun _ => 0) :=
  Pipeline.θ_run_frame_track_forget_shared (Q' := _) cfgs (dats m) (0 : Fin 1) launch₀0 defs₀ Variants.none unstated m ρ main
    (hbody := fun c => (body m c).loose) (hq := fun _ _ _ => rfl)
    (howed := fun _ _ => rfl) (V := V m) (hmain := hmain m Variants.none) (hA := arrays m)
    (hin := fun c => .rfl) (hout := fun c => .rfl)

/-- The arguments end as they were given, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 7 rfl).trans ((arrays m c 7).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (launch m ρ)

end Cert.Proof.AttnIdealFrame

end
-- ==== Proof.Same.lean ====
/- The expert products as idealized are the programs themselves read in extended reals: the same text under another
   name. What is proved of a run of the one therefore holds of the other. -/
module

public import proofs.«01_k».proof.Proof.Gen.Down.Launch
public import proofs.«01_k».proof.Proof.Gen.DownIdeal.Launch
public import proofs.«01_k».proof.Proof.Gen.Up.Launch
public import proofs.«01_k».proof.Proof.Gen.UpIdeal.Launch
public import Idealize.ShloMosaic.Lib.Pointwise

@[expose] public section

set_option maxHeartbeats 4000000

noncomputable section

namespace Cert.Proof.Same

open Idealize.ShloMosaic Idealize.SL.Sem

namespace Down

theorem bd : @Cert.DownIdeal.cc0_moe_down Ideal _ _ = @Cert.Down.cc0_moe_down Ideal _ _ := rfl

theorem kernels : @Cert.DownIdeal.defs₀ Ideal _ _ = @Cert.Down.defs₀ Ideal _ _ := by
  funext p ℓ a
  match p, ℓ, a with
  | .tc, ⟨0, _⟩, ⟨b, q, s⟩ =>
    exact congrFun (congrFun (congrFun (congrFun (congrFun (congrFun (congrFun (congrFun (congrFun (congrFun (congrFun (congrFun (congrFun (congrFun (congrFun bd _) _) _) _) _) _) _) _) _) _) _) _) _) _) _
  | .scScalar _, _, _ => rfl
  | .scVector _ _, _, _ => rfl

theorem procs : @Cert.DownIdeal.defs Ideal _ _ = @Cert.Down.defs Ideal _ _ := by
  unfold Cert.DownIdeal.defs Cert.Down.defs
  exact congrArg (Pipeline.defs (@Cert.Down.pcfgs Ideal _ _)) kernels

theorem host : @Cert.DownIdeal.main Ideal _ _ = @Cert.Down.main Ideal _ _ := rfl

/-- What holds of every run of the program holds of every run of its idealization. -/
theorem run (s : MemSt Cert.Down.nD Cert.Down.τ Cert.Down.sig (Elt Ideal)) (Q : PUnit × MemSt Cert.Down.nD Cert.Down.τ Cert.Down.sig (Elt Ideal) → Prop)
    (h : θ_run (Cert.Down.defs (F := Ideal)) (onTc (τ := Cert.Down.τ) (Cert.Down.main (F := Ideal))) s Q) :
    θ_run (Cert.DownIdeal.defs (F := Ideal)) (onTc (τ := Cert.DownIdeal.τ) (Cert.DownIdeal.main (F := Ideal))) s Q := by
  have e := procs
  have e' := host
  generalize @Cert.DownIdeal.defs Ideal _ _ = D at e ⊢
  generalize @Cert.DownIdeal.main Ideal _ _ = M at e' ⊢
  subst e e'
  exact h

end Down

namespace Up

theorem bd : @Cert.UpIdeal.cc0_moe_up Ideal _ _ = @Cert.Up.cc0_moe_up Ideal _ _ := rfl

theorem kernels : @Cert.UpIdeal.defs₀ Ideal _ _ = @Cert.Up.defs₀ Ideal _ _ := by
  funext p ℓ a
  match p, ℓ, a with
  | .tc, ⟨0, _⟩, ⟨b, q, s⟩ =>
    exact congrFun (congrFun (congrFun (congrFun (congrFun (congrFun (congrFun (congrFun (congrFun (congrFun (congrFun (congrFun (congrFun (congrFun (congrFun (congrFun (congrFun bd _) _) _) _) _) _) _) _) _) _) _) _) _) _) _) _) _
  | .scScalar _, _, _ => rfl
  | .scVector _ _, _, _ => rfl

theorem procs : @Cert.UpIdeal.defs Ideal _ _ = @Cert.Up.defs Ideal _ _ := by
  unfold Cert.UpIdeal.defs Cert.Up.defs
  exact congrArg (Pipeline.defs (@Cert.Up.pcfgs Ideal _ _)) kernels

theorem host : @Cert.UpIdeal.main Ideal _ _ = @Cert.Up.main Ideal _ _ := rfl

/-- What holds of every run of the program holds of every run of its idealization. -/
theorem run (s : MemSt Cert.Up.nD Cert.Up.τ Cert.Up.sig (Elt Ideal)) (Q : PUnit × MemSt Cert.Up.nD Cert.Up.τ Cert.Up.sig (Elt Ideal) → Prop)
    (h : θ_run (Cert.Up.defs (F := Ideal)) (onTc (τ := Cert.Up.τ) (Cert.Up.main (F := Ideal))) s Q) :
    θ_run (Cert.UpIdeal.defs (F := Ideal)) (onTc (τ := Cert.UpIdeal.τ) (Cert.UpIdeal.main (F := Ideal))) s Q := by
  have e := procs
  have e' := host
  generalize @Cert.UpIdeal.defs Ideal _ _ = D at e ⊢
  generalize @Cert.UpIdeal.main Ideal _ _ = M at e' ⊢
  subst e e'
  exact h

end Up

end Cert.Proof.Same

end
-- ==== Proof.Tables.lean ====
/- The routing's tables, read as both expert products read them: what the precondition says of their words, what the
   mask says of a row, and the reference's gathers at an expert's number. -/
module

public import proofs.«01_k».proof.Pre_ranges_down
public import proofs.«01_k».proof.Pre_ranges_up
public import proofs.«01_k».proof.On_used_down
public import proofs.«01_k».proof.On_used_up
public import Idealize.ShloMosaic.Lib.ReduceAll
public import Idealize.ShloMosaic.Lib.WordCmp
public import Idealize.ShloMosaic.Lib.Affine
public import Idealize.ShloMosaic.Lib.Pointwise
public import Idealize.ShloMosaic.Lib.ValueIdx

@[expose] public section

set_option maxRecDepth 16384

noncomputable section

namespace Cert.Proof.Tables

open Idealize.ShloMosaic

/-! ## Words -/

/-- A word between zero and a bound as a signed number is so as a natural number. -/
theorem le_of_signed (x : BitVec 32) (n : Nat) (h0 : 0 ≤ x.toInt) (h1 : x.toInt ≤ n) : x.toNat ≤ n := by
  rw [BitVec.toInt_eq_toNat_cond] at h0 h1
  have := x.isLt
  split at h0 <;> split at h1 <;> omega

/-- Three tables within their ranges, as the predicate over them computes it. -/
theorem ranges_of {s1 s56 : Shape} (a0 a1 : IVec s56 32) (a2 : IVec s1 32) (b56 : (⟨0, ![]⟩ : Shape).BroadcastsInDim s56 (![] : Fin 0 → Fin s56.rank))
    (b1 : (⟨0, ![]⟩ : Shape).BroadcastsInDim s1 (![] : Fin 0 → Fin s1.rank))
    {x56 : List (Fin s56.rank)} {x1 : List (Fin s1.rank)} (r56 : s56.ReducesTo x56 ⟨0, ![]⟩) (r1 : s1.ReducesTo x1 ⟨0, ![]⟩) (h : 0 < (⟨0, ![]⟩ : Shape).numel)
    (c : IVec ⟨0, ![]⟩ 32 → IVec s56 32) (d : IVec ⟨0, ![]⟩ 32 → IVec s1 32) (hc : c = broadcastInDim s56 ![] b56) (hd : d = broadcastInDim s1 ![] b1)
    (e : andi (andi
        (Host.reduce IntOp.andi (andi (cmpi .sge a0 (c (constantI ⟨0, ![]⟩ 32 0#32))) (cmpi .slt a0 (c (constantI ⟨0, ![]⟩ 32 32#32)))) (constantI ⟨0, ![]⟩ 1 1#1) r56 h)
        (Host.reduce IntOp.andi (andi (cmpi .sge a1 (c (constantI ⟨0, ![]⟩ 32 0#32))) (cmpi .sle a1 (c (constantI ⟨0, ![]⟩ 32 1536#32)))) (constantI ⟨0, ![]⟩ 1 1#1) r56 h))
        (Host.reduce IntOp.andi (andi (cmpi .sge a2 (d (constantI ⟨0, ![]⟩ 32 0#32))) (cmpi .sle a2 (d (constantI ⟨0, ![]⟩ 32 56#32)))) (constantI ⟨0, ![]⟩ 1 1#1) r1 h)
      = fun _ => 1#1) :
    (∀ s, (a0 s).toNat < 32) ∧ (∀ s, (a1 s).toNat ≤ 1536) ∧ (∀ s, (a2 s).toNat ≤ 56) := by
  subst hc hd
  haveI : Subsingleton (⟨0, ![]⟩ : Shape).Idx := ⟨fun a b => funext fun x => x.elim0⟩
  have e := congrFun e (fun a => a.elim0)
  obtain ⟨e01, e2⟩ := IntOp.andi_eq_one.mp e
  obtain ⟨e0, e1⟩ := IntOp.andi_eq_one.mp e01
  refine ⟨fun s => ?_, fun s => ?_, fun s => ?_⟩
  · obtain ⟨p, q⟩ := IntOp.andi_eq_one.mp (Host.reduce_andi_all _ _ _ _ _ e0 s)
    have p := IntOp.cmpi_sge.1 p
    have q := IntOp.cmpi_slt.1 q
    exact Nat.lt_succ_of_le (le_of_signed _ 31 p (Int.lt_add_one_iff.mp q))
  · obtain ⟨p, q⟩ := IntOp.andi_eq_one.mp (Host.reduce_andi_all _ _ _ _ _ e1 s)
    exact le_of_signed _ 1536 (IntOp.cmpi_sge.1 p) (IntOp.cmpi_sle.1 q)
  · obtain ⟨p, q⟩ := IntOp.andi_eq_one.mp (Host.reduce_andi_all _ _ _ _ _ e2 s)
    exact le_of_signed _ 56 (IntOp.cmpi_sge.1 p) (IntOp.cmpi_sle.1 q)

theorem ranges_down {F : FTy → Type} [FloatOps F] [Cert.Pre_ranges_down.Facts] (a0 a1 a2 a3 a4 a5)
    (e : Cert.Pre_ranges_down.fn (F := F) a0 a1 a2 a3 a4 a5 = fun _ => 1#1) :
    (∀ s, (a0 s).toNat < 32) ∧ (∀ s, (a1 s).toNat ≤ 1536) ∧ (∀ s, (a2 s).toNat ≤ 56) :=
  ranges_of a0 a1 a2 _ _ _ _ _ _ _ rfl rfl e

theorem ranges_up {F : FTy → Type} [FloatOps F] [Cert.Pre_ranges_up.Facts] (a0 a1 a2 a3 a4 a5)
    (e : Cert.Pre_ranges_up.fn (F := F) a0 a1 a2 a3 a4 a5 = fun _ => 1#1) :
    (∀ s, (a0 s).toNat < 32) ∧ (∀ s, (a1 s).toNat ≤ 1536) ∧ (∀ s, (a2 s).toNat ≤ 56) :=
  ranges_of a0 a1 a2 _ _ _ _ _ _ _ rfl rfl e

/-! ## The mask -/

/-- The row `r` of the stretch `s` is in use. -/
def Used (a1 : IVec ⟨1, ![56]⟩ 32) (a2 : IVec ⟨1, ![1]⟩ 32) (s : Fin 56) (r : Fin 1536) : Prop :=
  r.val < (a1 (ix1 s)).toNat ∧ s.val < (a2 (ix1 0)).toNat

theorem used_of (w v : BitVec 32) (hw : w.toNat ≤ 1536) (hv : v.toNat ≤ 56) (r : Fin 1536) (s : Fin 56)
    (h : IntOp.andi (IntOp.cmpi .slt (BitVec.ofNat 32 r.val) w) (IntOp.cmpi .slt (BitVec.ofNat 32 s.val) v) = 1#1) :
    r.val < w.toNat ∧ s.val < v.toNat := by
  obtain ⟨p, q⟩ := IntOp.andi_eq_one.mp h
  have e : ∀ x : BitVec 32, x.toNat ≤ 1536 → x.toInt = x.toNat := fun x hx => by
    rw [BitVec.toInt_eq_toNat_cond, if_pos (by omega)]
  have p := IntOp.cmpi_slt.1 p
  have q := IntOp.cmpi_slt.1 q
  have er : (BitVec.ofNat 32 r.val).toNat = r.val := by rw [BitVec.toNat_ofNat, Nat.mod_eq_of_lt (by omega)]
  have es : (BitVec.ofNat 32 s.val).toNat = s.val := by rw [BitVec.toNat_ofNat, Nat.mod_eq_of_lt (by omega)]
  rw [e _ (by omega), e _ (by omega)] at p q
  omega

theorem used_down {F : FTy → Type} [FloatOps F] [Cert.On_used_down.Facts] (a0 a1 a2 a3 a4 a5) (s : Fin 56) (r : Fin 1536) (q : Fin 4096) :
    Cert.On_used_down.fn (F := F) a0 a1 a2 a3 a4 a5 (ix2 ⟨1536 * s.val + r.val, by omega⟩ q)
      = IntOp.andi (IntOp.cmpi .slt (BitVec.ofNat 32 r.val) (a1 (ix1 s))) (IntOp.cmpi .slt (BitVec.ofNat 32 s.val) (a2 (ix1 0))) := by
  pointwise [Cert.On_used_down.fn]

theorem used_up {F : FTy → Type} [FloatOps F] [Cert.On_used_up.Facts] (a0 a1 a2 a3 a4 a5) (s : Fin 56) (r : Fin 1536) (q : Fin 4096) :
    Cert.On_used_up.fn (F := F) a0 a1 a2 a3 a4 a5 (ix2 ⟨1536 * s.val + r.val, by omega⟩ q)
      = IntOp.andi (IntOp.cmpi .slt (BitVec.ofNat 32 r.val) (a1 (ix1 s))) (IntOp.cmpi .slt (BitVec.ofNat 32 s.val) (a2 (ix1 0))) := by
  pointwise [Cert.On_used_up.fn]

/-! ## The gathers -/

/-- The wrap of a negative index leaves a number in range alone. -/
theorem wrap_in_range (x : BitVec 32) (hx : x.toNat < 32) : Scalar.select (IntOp.cmpi .slt x 0#32) (IntOp.addi x 32#32) x = x := by
  have : IntOp.cmpi .slt x 0#32 = 0#1 := by
    rw [WordCmp.cmpi_slt_eq, decide_eq_false]
    · rfl
    · rw [BitVec.toInt_eq_toNat_cond, if_pos (by omega)]
      show ¬ ((x.toNat : Int) < 0)
      omega
  rw [this]; rfl

theorem signed_of_small (x : BitVec 32) (hx : x.toNat < 32) : min x.toInt.toNat 31 = x.toNat := by
  rw [BitVec.toInt_eq_toNat_cond, if_pos (by omega)]; omega

/-- The gather of whole matrices, one for each number of a list. -/
def matrices (N n A B : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The gather of whole rows, one for each number of a list. -/
def rows (N n A : Nat) (wf : GatherDims.WF ⟨2, ![N, A]⟩ ⟨2, ![n, 1]⟩ ⟨2, ![n, A]⟩ [1] [0] [] [0] [] 1 ![1, A]) :
    GatherDims ⟨2, ![N, A]⟩ ⟨2, ![n, 1]⟩ ⟨2, ![n, A]⟩ where
  offsetDims := [1]
  collapsedSliceDims := [0]
  operandBatchingDims := []
  startIndicesBatchingDims := []
  startIndexMap := [0]
  indexVectorDim := 1
  sliceSizes := ![1, A]
  wf := wf

theorem matrices_at {α : Type} {n A B : Nat} (wf) (x : (⟨3, ![32, A, B]⟩ : Shape).Idx → α) (idx : IVec ⟨2, ![n, 1]⟩ 32) (s : Fin n) (a : Fin A) (b : Fin B)
    (e : BitVec 32) (he : idx (ix2 s 0) = e) (hlt : e.toNat < 32) :
    Host.gather (matrices 32 n A B wf) x idx (ix3 s a b) = x (ix3 ⟨e.toNat, hlt⟩ a b) := by
  unfold Host.gather
  refine congrArg x (funext fun i => Fin.ext ?_)
  have hb : ∀ i, (matrices 32 n A B wf).batchCoord (ix3 s a b) i = 0 := fun i => GatherDims.batchCoord_eq_zero _ _ _ List.not_mem_nil
  show (matrices 32 n A B wf).start (ix3 s a b) idx i + (matrices 32 n A B wf).batchCoord (ix3 s a b) i + (matrices 32 n A B wf).offCoord (ix3 s a b) i = _
  rw [hb, Nat.add_zero]
  match i with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin _) ∈ (matrices 32 n A B wf).startIndexMap from List.mem_singleton.mpr rfl)]
    have hsi : (matrices 32 n A B wf).siIdx (ix3 s a b) ⟨List.idxOf (⟨0, h0⟩ : Fin _) (matrices 32 n A B wf).startIndexMap,
        List.idxOf_lt_length_iff.2 (List.mem_singleton.mpr rfl)⟩ = ix2 s 0 := by
      funext c; refine Fin.ext ?_
      match c with
      | ⟨0, _⟩ => rfl
      | ⟨1, _⟩ => rfl
    rw [hsi, he]
    exact signed_of_small e hlt
  | ⟨1, h1⟩ =>
    unfold GatherDims.start
    rw [dif_neg (show (⟨1, h1⟩ : Fin _) ∉ (matrices 32 n A B wf).startIndexMap from by simp [matrices]), Nat.zero_add]
    rfl
  | ⟨2, h2⟩ =>
    unfold GatherDims.start
    rw [dif_neg (show (⟨2, h2⟩ : Fin _) ∉ (matrices 32 n A B wf).startIndexMap from by simp [matrices]), Nat.zero_add]
    rfl

theorem rows_at {α : Type} {n A : Nat} (wf) (x : (⟨2, ![32, A]⟩ : Shape).Idx → α) (idx : IVec ⟨2, ![n, 1]⟩ 32) (s : Fin n) (a : Fin A)
    (e : BitVec 32) (he : idx (ix2 s 0) = e) (hlt : e.toNat < 32) :
    Host.gather (rows 32 n A wf) x idx (ix2 s a) = x (ix2 ⟨e.toNat, hlt⟩ a) := by
  unfold Host.gather
  refine congrArg x (funext fun i => Fin.ext ?_)
  have hb : ∀ i, (rows 32 n A wf).batchCoord (ix2 s a) i = 0 := fun i => GatherDims.batchCoord_eq_zero _ _ _ List.not_mem_nil
  show (rows 32 n A wf).start (ix2 s a) idx i + (rows 32 n A wf).batchCoord (ix2 s a) i + (rows 32 n A wf).offCoord (ix2 s a) i = _
  rw [hb, Nat.add_zero]
  match i with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin _) ∈ (rows 32 n A wf).startIndexMap from List.mem_singleton.mpr rfl)]
    have hsi : (rows 32 n A wf).siIdx (ix2 s a) ⟨List.idxOf (⟨0, h0⟩ : Fin _) (rows 32 n A wf).startIndexMap,
        List.idxOf_lt_length_iff.2 (List.mem_singleton.mpr rfl)⟩ = ix2 s 0 := by
      funext c; refine Fin.ext ?_
      match c with
      | ⟨0, _⟩ => rfl
      | ⟨1, _⟩ => rfl
    rw [hsi, he]
    exact signed_of_small e hlt
  | ⟨1, h1⟩ =>
    unfold GatherDims.start
    rw [dif_neg (show (⟨1, h1⟩ : Fin _) ∉ (rows 32 n A wf).startIndexMap from by simp [rows]), Nat.zero_add]
    rfl

end Cert.Proof.Tables

end
-- ==== Proof.DownBody.lean ====
module

public import proofs.«01_k».proof.Proof.Gen.Down
public import proofs.«01_k».proof.Proof.Gen.Down.Skeleton
public import proofs.«01_k».proof.Proof.Gen.Down.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic

/-! One run of the body of the second expert product. The count of live rows of a stretch, read from the second
table, selects how many groups of 128 rows are multiplied; the run is made once for every such number. -/

@[expose] public section

set_option maxRecDepth 16384
set_option Elab.async false

noncomputable section

namespace Cert.Proof.DownBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Down Cert.Down.Gen

variable {F : FTy → Type} [FloatOps F]

local notation "𝕄" => MT nD τ sig Unit (Elt F) ℕ (UR sig nD τ) ℕ

/-- The twelve conditions of the body, on the count it reads. -/
def cond : Fin 12 → BitVec 32 → BitVec 1 :=
  ![k0_cond1, k0_cond2, k0_cond3, k0_cond4, k0_cond5, k0_cond6, k0_cond7, k0_cond8, k0_cond9, k0_cond10, k0_cond11, k0_cond12]

/-- A count of at most 1536 meets exactly the condition of its number of groups, none if it is zero. -/
theorem groups_of_count (n : Fin 1537) :
    n.val ≤ 128 * ((n.val + 127) / 128) ∧ (n.val + 127) / 128 ≤ 12 ∧
      ∀ k : Fin 12, (cond k (BitVec.ofNat 32 n.val) = 1#1 ↔ k.val + 1 = (n.val + 127) / 128) := by
  revert n; decide +kernel

theorem groups (w : BitVec 32) (h : w.toNat ≤ 1536) :
    ∃ N : Fin 13, w.toNat ≤ 128 * N.val ∧ ∀ k : Fin 12, (cond k w = 1#1 ↔ k.val + 1 = N.val) := by
  obtain ⟨h1, h2, h3⟩ := groups_of_count ⟨w.toNat, by omega⟩
  refine ⟨⟨(w.toNat + 127) / 128, by omega⟩, h1, ?_⟩
  rwa [show BitVec.ofNat 32 w.toNat = w from BitVec.eq_of_toNat_eq (by simp)] at h3

/-- The count the body reads from the table `T` at the stretch `arg0`. -/
abbrev count (T : S56.Idx → Elt F .i32) (arg0 : BitVec 32) (h : k0_chk1 arg0) : BitVec 32 :=
  View.readAt (Elt F) (Memref.whole main_arg1 : Memref sig .tc .smem S56 .i32).view
    (Rect.unit (s := S56) (k0_off2 arg0) S1.size (k0_off2_inb arg0 h)).toLoadRect T (Shape.Idx.first (numel1_S1.symm ▸ Nat.one_pos))

/-- What a run leaves in the output block: under each condition, the product of the rows it multiplies plus the bias. -/
def Tile (i : grid0.Static) (w : BitVec 32) (x0 : S1536x4096.Idx → Elt F .bf16) (x1 : S1x4096x512.Idx → Elt F .f32)
    (x2 : S1x1x4096.Idx → Elt F .f32) (X : S1536x512.Idx → Elt F .f32) : Prop :=
  (k0_cond1 w = 1#1 → ∀ y, X ((Rect.unit (s := S1536x512) ![0, 0] S128x512.size inb_S1536x512_S128x512_0_0).emb y)
      = k0_pay9 (View.ld x0 (Rect.unit (s := S1536x4096) ![0, 0] S128x4096.size inb_S1536x4096_S128x4096_0_0))
          (View.ld x1 (Rect.unit (s := S1x4096x512) ![0, 0, 0] S1x4096x512.size inb_S1x4096x512_S1x4096x512_0_0_0))
          (View.ld x2 (Rect.unit (s := S1x1x4096) (k0_off3 i) S1x1x512.size (k0_off3_inb i))) y) ∧
  (k0_cond2 w = 1#1 → ∀ y, X ((Rect.unit (s := S1536x512) ![0, 0] S256x512.size inb_S1536x512_S256x512_0_0).emb y)
      = k0_pay10 (View.ld x0 (Rect.unit (s := S1536x4096) ![0, 0] S256x4096.size inb_S1536x4096_S256x4096_0_0))
          (View.ld x1 (Rect.unit (s := S1x4096x512) ![0, 0, 0] S1x4096x512.size inb_S1x4096x512_S1x4096x512_0_0_0))
          (View.ld x2 (Rect.unit (s := S1x1x4096) (k0_off4 i) S1x1x512.size (k0_off4_inb i))) y) ∧
  (k0_cond3 w = 1#1 → ∀ y, X ((Rect.unit (s := S1536x512) ![0, 0] S384x512.size inb_S1536x512_S384x512_0_0).emb y)
      = k0_pay11 (View.ld x0 (Rect.unit (s := S1536x4096) ![0, 0] S384x4096.size inb_S1536x4096_S384x4096_0_0))
          (View.ld x1 (Rect.unit (s := S1x4096x512) ![0, 0, 0] S1x4096x512.size inb_S1x4096x512_S1x4096x512_0_0_0))
          (View.ld x2 (Rect.unit (s := S1x1x4096) (k0_off5 i) S1x1x512.size (k0_off5_inb i))) y) ∧
  (k0_cond4 w = 1#1 → ∀ y, X ((Rect.unit (s := S1536x512) ![0, 0] S512x512.size inb_S1536x512_S512x512_0_0).emb y)
      = k0_pay12 (View.ld x0 (Rect.unit (s := S1536x4096) ![0, 0] S512x4096.size inb_S1536x4096_S512x4096_0_0))
          (View.ld x1 (Rect.unit (s := S1x4096x512) ![0, 0, 0] S1x4096x512.size inb_S1x4096x512_S1x4096x512_0_0_0))
          (View.ld x2 (Rect.unit (s := S1x1x4096) (k0_off6 i) S1x1x512.size (k0_off6_inb i))) y) ∧
  (k0_cond5 w = 1#1 → ∀ y, X ((Rect.unit (s := S1536x512) ![0, 0] S640x512.size inb_S1536x512_S640x512_0_0).emb y)
      = k0_pay1 (View.ld x0 (Rect.unit (s := S1536x4096) ![0, 0] S640x4096.size inb_S1536x4096_S640x4096_0_0))
          (View.ld x1 (Rect.unit (s := S1x4096x512) ![0, 0, 0] S1x4096x512.size inb_S1x4096x512_S1x4096x512_0_0_0))
          (View.ld x2 (Rect.unit (s := S1x1x4096) (k0_off7 i) S1x1x512.size (k0_off7_inb i))) y) ∧
  (k0_cond6 w = 1#1 → ∀ y, X ((Rect.unit (s := S1536x512) ![0, 0] S768x512.size inb_S1536x512_S768x512_0_0).emb y)
      = k0_pay2 (View.ld x0 (Rect.unit (s := S1536x4096) ![0, 0] S768x4096.size inb_S1536x4096_S768x4096_0_0))
          (View.ld x1 (Rect.unit (s := S1x4096x512) ![0, 0, 0] S1x4096x512.size inb_S1x4096x512_S1x4096x512_0_0_0))
          (View.ld x2 (Rect.unit (s := S1x1x4096) (k0_off8 i) S1x1x512.size (k0_off8_inb i))) y) ∧
  (k0_cond7 w = 1#1 → ∀ y, X ((Rect.unit (s := S1536x512) ![0, 0] S896x512.size inb_S1536x512_S896x512_0_0).emb y)
      = k0_pay3 (View.ld x0 (Rect.unit (s := S1536x4096) ![0, 0] S896x4096.size inb_S1536x4096_S896x4096_0_0))
          (View.ld x1 (Rect.unit (s := S1x4096x512) ![0, 0, 0] S1x4096x512.size inb_S1x4096x512_S1x4096x512_0_0_0))
          (View.ld x2 (Rect.unit (s := S1x1x4096) (k0_off9 i) S1x1x512.size (k0_off9_inb i))) y) ∧
  (k0_cond8 w = 1#1 → ∀ y, X ((Rect.unit (s := S1536x512) ![0, 0] S1024x512.size inb_S1536x512_S1024x512_0_0).emb y)
      = k0_pay4 (View.ld x0 (Rect.unit (s := S1536x4096) ![0, 0] S1024x4096.size inb_S1536x4096_S1024x4096_0_0))
          (View.ld x1 (Rect.unit (s := S1x4096x512) ![0, 0, 0] S1x4096x512.size inb_S1x4096x512_S1x4096x512_0_0_0))
          (View.ld x2 (Rect.unit (s := S1x1x4096) (k0_off10 i) S1x1x512.size (k0_off10_inb i))) y) ∧
  (k0_cond9 w = 1#1 → ∀ y, X ((Rect.unit (s := S1536x512) ![0, 0] S1152x512.size inb_S1536x512_S1152x512_0_0).emb y)
      = k0_pay5 (View.ld x0 (Rect.unit (s := S1536x4096) ![0, 0] S1152x4096.size inb_S1536x4096_S1152x4096_0_0))
          (View.ld x1 (Rect.unit (s := S1x4096x512) ![0, 0, 0] S1x4096x512.size inb_S1x4096x512_S1x4096x512_0_0_0))
          (View.ld x2 (Rect.unit (s := S1x1x4096) (k0_off11 i) S1x1x512.size (k0_off11_inb i))) y) ∧
  (k0_cond10 w = 1#1 → ∀ y, X ((Rect.unit (s := S1536x512) ![0, 0] S1280x512.size inb_S1536x512_S1280x512_0_0).emb y)
      = k0_pay6 (View.ld x0 (Rect.unit (s := S1536x4096) ![0, 0] S1280x4096.size inb_S1536x4096_S1280x4096_0_0))
          (View.ld x1 (Rect.unit (s := S1x4096x512) ![0, 0, 0] S1x4096x512.size inb_S1x4096x512_S1x4096x512_0_0_0))
          (View.ld x2 (Rect.unit (s := S1x1x4096) (k0_off12 i) S1x1x512.size (k0_off12_inb i))) y) ∧
  (k0_cond11 w = 1#1 → ∀ y, X ((Rect.unit (s := S1536x512) ![0, 0] S1408x512.size inb_S1536x512_S1408x512_0_0).emb y)
      = k0_pay7 (View.ld x0 (Rect.unit (s := S1536x4096) ![0, 0] S1408x4096.size inb_S1536x4096_S1408x4096_0_0))
          (View.ld x1 (Rect.unit (s := S1x4096x512) ![0, 0, 0] S1x4096x512.size inb_S1x4096x512_S1x4096x512_0_0_0))
          (View.ld x2 (Rect.unit (s := S1x1x4096) (k0_off13 i) S1x1x512.size (k0_off13_inb i))) y) ∧
  (k0_cond12 w = 1#1 → ∀ y, X ((Rect.unit (s := S1536x512) ![0, 0] S1536x512.size inb_S1536x512_S1536x512_0_0).emb y)
      = k0_pay8 (View.ld x0 (Rect.unit (s := S1536x4096) ![0, 0] S1536x4096.size inb_S1536x4096_S1536x4096_0_0))
          (View.ld x1 (Rect.unit (s := S1x4096x512) ![0, 0, 0] S1x4096x512.size inb_S1x4096x512_S1x4096x512_0_0_0))
          (View.ld x2 (Rect.unit (s := S1x1x4096) (k0_off14 i) S1x1x512.size (k0_off14_inb i))) y)

set_option maxHeartbeats 16000000 in
/-- One run of the body on a count that meets the condition of `N` groups and no other. -/
theorem run_body (c : Dev nD) (b : grid0.Bounds) (i : grid0.Static) (arg0 : BitVec 32)
    (arg2 : Memref sig .tc .smem S56 .i32) (harg2 : arg2.IsWhole)
    (arg4 : Memref sig .tc .vmem S1536x4096 .bf16) (harg4 : arg4.IsWhole) (arg5 : Memref sig .tc .vmem S1x4096x512 .f32) (harg5 : arg5.IsWhole)
    (arg6 : Memref sig .tc .vmem S1x1x4096 .f32) (harg6 : arg6.IsWhole) (arg7 : Memref sig .tc .vmem S1536x512 .f32) (harg7 : arg7.IsWhole)
    (T : S56.Idx → Elt F .i32) (x0 : S1536x4096.Idx → Elt F .bf16) (x1 : S1x4096x512.Idx → Elt F .f32)
    (x2 : S1x1x4096.Idx → Elt F .f32) (x3 : S1536x512.Idx → Elt F .f32)
    (hw : k0_chk1 arg0) (N : Fin 13) (hN : ∀ k : Fin 12, (cond k (count T arg0 hw) = 1#1 ↔ k.val + 1 = N.val)) (E : Set ℕ) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ ((Memref.whole main_arg1 : Memref sig .tc .smem S56 .i32).view.loc (c : Thread nD τ) ↦{fullShare.right} T)
      ∗ (arg7.view.loc (c : Thread nD τ) ↦[arg7.view.set]{fullShare} arg7.view.rep x3)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ ((Memref.whole main_arg1 : Memref sig .tc .smem S56 .i32).view.loc (c : Thread nD τ) ↦{fullShare.right} T)
          ∗ (∃ X, ⌜Tile i (count T arg0 hw) x0 x1 x2 X⌝ ∗ owns (c : Thread nD τ) arg7 fullShare X)) -∗ K ⟨⟩))
      ⊢ wp frame (wpE (defs₀ (F := F)) Variants.none c none) E (cc0_moe_down b i arg0 arg2 harg2 (Memref.whole main_arg1) (Memref.isWhole_whole _) arg4 harg4 arg5 harg5 arg6 harg6 arg7 harg7) K := by
  rw [cc0_moe_down_eq_skeleton]; unfold cc0_moe_down_skel
  have hT : (Memref.whole main_arg1 : Memref sig .tc .smem S56 .i32).IsWhole := Memref.isWhole_whole _
  have hc : ∀ k : Fin 12, (k.val + 1 = N.val ∧ cond k (count T arg0 hw) = 1#1) ∨ (k.val + 1 ≠ N.val ∧ ¬ cond k (count T arg0 hw) = 1#1) := fun k => by
    by_cases h : k.val + 1 = N.val
    · exact .inl ⟨h, (hN k).mpr h⟩
    · exact .inr ⟨h, fun e => h ((hN k).mp e)⟩

  have c1 : (1 = N.val ∧ k0_cond1 (count T arg0 hw) = 1#1) ∨ (1 ≠ N.val ∧ ¬ k0_cond1 (count T arg0 hw) = 1#1) := hc 0
  have c2 : (2 = N.val ∧ k0_cond2 (count T arg0 hw) = 1#1) ∨ (2 ≠ N.val ∧ ¬ k0_cond2 (count T arg0 hw) = 1#1) := hc 1
  have c3 : (3 = N.val ∧ k0_cond3 (count T arg0 hw) = 1#1) ∨ (3 ≠ N.val ∧ ¬ k0_cond3 (count T arg0 hw) = 1#1) := hc 2
  have c4 : (4 = N.val ∧ k0_cond4 (count T arg0 hw) = 1#1) ∨ (4 ≠ N.val ∧ ¬ k0_cond4 (count T arg0 hw) = 1#1) := hc 3
  have c5 : (5 = N.val ∧ k0_cond5 (count T arg0 hw) = 1#1) ∨ (5 ≠ N.val ∧ ¬ k0_cond5 (count T arg0 hw) = 1#1) := hc 4
  have c6 : (6 = N.val ∧ k0_cond6 (count T arg0 hw) = 1#1) ∨ (6 ≠ N.val ∧ ¬ k0_cond6 (count T arg0 hw) = 1#1) := hc 5
  have c7 : (7 = N.val ∧ k0_cond7 (count T arg0 hw) = 1#1) ∨ (7 ≠ N.val ∧ ¬ k0_cond7 (count T arg0 hw) = 1#1) := hc 6
  have c8 : (8 = N.val ∧ k0_cond8 (count T arg0 hw) = 1#1) ∨ (8 ≠ N.val ∧ ¬ k0_cond8 (count T arg0 hw) = 1#1) := hc 7
  have c9 : (9 = N.val ∧ k0_cond9 (count T arg0 hw) = 1#1) ∨ (9 ≠ N.val ∧ ¬ k0_cond9 (count T arg0 hw) = 1#1) := hc 8
  have c10 : (10 = N.val ∧ k0_cond10 (count T arg0 hw) = 1#1) ∨ (10 ≠ N.val ∧ ¬ k0_cond10 (count T arg0 hw) = 1#1) := hc 9
  have c11 : (11 = N.val ∧ k0_cond11 (count T arg0 hw) = 1#1) ∨ (11 ≠ N.val ∧ ¬ k0_cond11 (count T arg0 hw) = 1#1) := hc 10
  have c12 : (12 = N.val ∧ k0_cond12 (count T arg0 hw) = 1#1) ∨ (12 ≠ N.val ∧ ¬ k0_cond12 (count T arg0 hw) = 1#1) := hc 11
  clear hc hN
  iintro ⟨H0, H1, H2, HT, H3, Hk⟩
  obtain ⟨N, hN⟩ := N
  dsimp only at c1 c2 c3 c4 c5 c6 c7 c8 c9 c10 c11 c12
  obtain rfl | rfl | rfl | rfl | rfl | rfl | rfl | rfl | rfl | rfl | rfl | rfl | rfl : N = 0 ∨ N = 1 ∨ N = 2 ∨ N = 3 ∨ N = 4 ∨ N = 5 ∨ N = 6 ∨ N = 7 ∨ N = 8 ∨ N = 9 ∨ N = 10 ∨ N = 11 ∨ N = 12 := by omega
  all_goals
    sl_exec! (disch := first | (guard_target = k0_chk1 _; exact hw) | (guard_target = k0_cond1 _ = _; exact (c1.resolve_right fun h => h.1 rfl).2) | (guard_target = ¬(k0_cond1 _ = _); exact (c1.resolve_left fun h => absurd h.1 (by decide)).2) | (guard_target = k0_cond2 _ = _; exact (c2.resolve_right fun h => h.1 rfl).2) | (guard_target = ¬(k0_cond2 _ = _); exact (c2.resolve_left fun h => absurd h.1 (by decide)).2) | (guard_target = k0_cond3 _ = _; exact (c3.resolve_right fun h => h.1 rfl).2) | (guard_target = ¬(k0_cond3 _ = _); exact (c3.resolve_left fun h => absurd h.1 (by decide)).2) | (guard_target = k0_cond4 _ = _; exact (c4.resolve_right fun h => h.1 rfl).2) | (guard_target = ¬(k0_cond4 _ = _); exact (c4.resolve_left fun h => absurd h.1 (by decide)).2) | (guard_target = k0_cond5 _ = _; exact (c5.resolve_right fun h => h.1 rfl).2) | (guard_target = ¬(k0_cond5 _ = _); exact (c5.resolve_left fun h => absurd h.1 (by decide)).2) | (guard_target = k0_cond6 _ = _; exact (c6.resolve_right fun h => h.1 rfl).2) | (guard_target = ¬(k0_cond6 _ = _); exact (c6.resolve_left fun h => absurd h.1 (by decide)).2) | (guard_target = k0_cond7 _ = _; exact (c7.resolve_right fun h => h.1 rfl).2) | (guard_target = ¬(k0_cond7 _ = _); exact (c7.resolve_left fun h => absurd h.1 (by decide)).2) | (guard_target = k0_cond8 _ = _; exact (c8.resolve_right fun h => h.1 rfl).2) | (guard_target = ¬(k0_cond8 _ = _); exact (c8.resolve_left fun h => absurd h.1 (by decide)).2) | (guard_target = k0_cond9 _ = _; exact (c9.resolve_right fun h => h.1 rfl).2) | (guard_target = ¬(k0_cond9 _ = _); exact (c9.resolve_left fun h => absurd h.1 (by decide)).2) | (guard_target = k0_cond10 _ = _; exact (c10.resolve_right fun h => h.1 rfl).2) | (guard_target = ¬(k0_cond10 _ = _); exact (c10.resolve_left fun h => absurd h.1 (by decide)).2) | (guard_target = k0_cond11 _ = _; exact (c11.resolve_right fun h => h.1 rfl).2) | (guard_target = ¬(k0_cond11 _ = _); exact (c11.resolve_left fun h => absurd h.1 (by decide)).2) | (guard_target = k0_cond12 _ = _; exact (c12.resolve_right fun h => h.1 rfl).2) | (guard_target = ¬(k0_cond12 _ = _); exact (c12.resolve_left fun h => absurd h.1 (by decide)).2))
    sl_step
    iapply Hk
    isplitl [H0]; · iexact H0
    isplitl [H1]; · iexact H1
    isplitl [H2]; · iexact H2
    isplitl [HT]; · iexact HT
  · iexists x3; isplitr
    · ipureintro
      exact ⟨fun h => absurd h (c1.resolve_left fun e => absurd e.1 (by decide)).2, fun h => absurd h (c2.resolve_left fun e => absurd e.1 (by decide)).2, fun h => absurd h (c3.resolve_left fun e => absurd e.1 (by decide)).2, fun h => absurd h (c4.resolve_left fun e => absurd e.1 (by decide)).2, fun h => absurd h (c5.resolve_left fun e => absurd e.1 (by decide)).2, fun h => absurd h (c6.resolve_left fun e => absurd e.1 (by decide)).2, fun h => absurd h (c7.resolve_left fun e => absurd e.1 (by decide)).2, fun h => absurd h (c8.resolve_left fun e => absurd e.1 (by decide)).2, fun h => absurd h (c9.resolve_left fun e => absurd e.1 (by decide)).2, fun h => absurd h (c10.resolve_left fun e => absurd e.1 (by decide)).2, fun h => absurd h (c11.resolve_left fun e => absurd e.1 (by decide)).2, fun h => absurd h (c12.resolve_left fun e => absurd e.1 (by decide)).2⟩
    · iapply owns_of_rep; iexact H3
  all_goals
    unfold owns
    iexists _; isplitr; swap
    · iexists _; isplitr; swap
      · iexact H3
      · ipureintro; rfl
    · ipureintro
      refine ⟨?_, ?_, ?_, ?_, ?_, ?_, ?_, ?_, ?_, ?_, ?_, ?_⟩
      all_goals first
        | exact fun h => absurd h (c1.resolve_left fun e => absurd e.1 (by decide)).2
        | exact fun h => absurd h (c2.resolve_left fun e => absurd e.1 (by decide)).2
        | exact fun h => absurd h (c3.resolve_left fun e => absurd e.1 (by decide)).2
        | exact fun h => absurd h (c4.resolve_left fun e => absurd e.1 (by decide)).2
        | exact fun h => absurd h (c5.resolve_left fun e => absurd e.1 (by decide)).2
        | exact fun h => absurd h (c6.resolve_left fun e => absurd e.1 (by decide)).2
        | exact fun h => absurd h (c7.resolve_left fun e => absurd e.1 (by decide)).2
        | exact fun h => absurd h (c8.resolve_left fun e => absurd e.1 (by decide)).2
        | exact fun h => absurd h (c9.resolve_left fun e => absurd e.1 (by decide)).2
        | exact fun h => absurd h (c10.resolve_left fun e => absurd e.1 (by decide)).2
        | exact fun h => absurd h (c11.resolve_left fun e => absurd e.1 (by decide)).2
        | exact fun h => absurd h (c12.resolve_left fun e => absurd e.1 (by decide)).2
        | (intro _ y
           refine (View.read_writes_cons_hit _ _ _ _ _ y _ rfl).trans ?_
           simp only [View.readAt_rep])

end Cert.Proof.DownBody

end
-- ==== Proof.DownRun.lean ====
module

public import proofs.«01_k».proof.Proof.DownBody
public import Idealize.ShloMosaic.Lib.Pipeline.Frame
public import Idealize.ShloMosaic.Lib.StableHlo

/-! The run of the second expert product, over the tables it is given: the experts' numbers in range and at most 56
stretches make every block lie inside its array. What each point leaves in its output block is kept as a relation,
since the rows past the live ones hold whatever the buffer held. -/

@[expose] public section

set_option maxRecDepth 16384
set_option Elab.async false

noncomputable section

namespace Cert.Proof.DownRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Down Cert.Down.Gen Cert.Proof.DownBody

variable {F : FTy → Type} [FloatOps F]

local notation "𝕄" => MT nD τ sig Unit (Elt F) ℕ (UR sig nD τ) ℕ

/-! ## The tables -/

section Tables

variable (pf : pre0.Contents (Elt F)) (h0 : (pf 0 fun a => a.elim0 : BitVec 32).toNat ≤ 56) (h1 : ∀ s, (pf 1 s : BitVec 32).toNat < 32)

include h0 in
theorem stretch_lt (i : (grid0.at (dynb0 pf)).Coords) : (i 0).val < 56 := by
  have h : (i 0).val < (pf 0 fun a => a.elim0 : BitVec 32).toNat := (i 0).isLt
  omega

theorem column_lt (i : (grid0.at (dynb0 pf)).Coords) : (i 1).val < 8 := (i 1).isLt

include h1 in
theorem expert_lt (off : Fin 1 → Nat) : (pf.atD 1 off : BitVec 32).toNat < 32 := by
  unfold Pipeline.Prefetch.Contents.atD
  split
  · exact h1 _
  · show (0#32 : BitVec 32).toNat < 32
    decide

include h0 in
theorem index0 (i : (grid0.at (dynb0 pf)).Coords) : cc0_transform_0 (dynb0 pf) i = ![(i 0).val, 0] := by
  have := stretch_lt pf h0 i
  show ![(BitVec.ofNat 32 (i 0).val).toNat, 0] = _
  rw [BitVec.toNat_ofNat, Nat.mod_eq_of_lt (by omega)]

include h0 in
theorem index1 (i : (grid0.at (dynb0 pf)).Coords) :
    cc0_transform_1 pf (dynb0 pf) i = ![(pf.atD 1 ![(i 0).val] : BitVec 32).toNat, 0, (i 1).val] := by
  have := stretch_lt pf h0 i
  have := column_lt pf i
  show ![(pf.atD 1 ![(BitVec.ofNat 32 (i 0).val).toNat] : BitVec 32).toNat, 0, (0#32 + BitVec.ofNat 32 (i 1).val).toNat] = _
  rw [BitVec.zero_add, BitVec.toNat_ofNat, BitVec.toNat_ofNat, Nat.mod_eq_of_lt (by omega), Nat.mod_eq_of_lt (by omega)]

include h0 in
theorem index2 (i : (grid0.at (dynb0 pf)).Coords) :
    cc0_transform_2 pf (dynb0 pf) i = ![(pf.atD 1 ![(i 0).val] : BitVec 32).toNat, 0, 0] := by
  have := stretch_lt pf h0 i
  show ![(pf.atD 1 ![(BitVec.ofNat 32 (i 0).val).toNat] : BitVec 32).toNat, 0, 0] = _
  rw [BitVec.toNat_ofNat, Nat.mod_eq_of_lt (by omega)]

include h0 in
theorem index3 (i : (grid0.at (dynb0 pf)).Coords) : cc0_transform_3 (dynb0 pf) i = ![(i 0).val, (i 1).val] := by
  have := stretch_lt pf h0 i
  have := column_lt pf i
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

include h0 in
theorem table_inb (i : (grid0.at (dynb0 pf)).Coords) : k0_chk1 (BitVec.ofNat 32 (i 0).val) := by
  have := stretch_lt pf h0 i
  intro a
  show ![(BitVec.ofNat 32 (i 0).val).toNat] a + S1.size a ≤ S56.size a
  rw [BitVec.toNat_ofNat, Nat.mod_eq_of_lt (by omega)]
  fin_cases a
  show (i 0).val + 1 ≤ 56
  omega

/-- A stretch's block of rows starts at a whole word. -/
theorem rows_whole (s : Fin 56) : ∃ h : (∀ a, ((![s.val, 0] : Fin 2 → Nat) a + 1) * S1536x4096.size a ≤ S86016x4096.size a),
    (Rect.block (s := S86016x4096) S1536x4096.size ![s.val, 0] h).WholeWords (EltTy.packing .bf16) := by
  revert s; decide +kernel

include h0 h1 in
/-- The tables are admissible. -/
theorem admissible : ok0 pf := by
  refine ⟨?_, ?_, ?_, ?_, ?_, ?_⟩
  · show (grid0.at (dynb0 pf)).N + 2 < 2 ^ 31
    rw [show (grid0.at (dynb0 pf)).N = (pf 0 fun a => a.elim0 : BitVec 32).toNat * 8 from by
      unfold Pipeline.Grid.N; simp [Pipeline.Grid.at, Fin.prod_univ_two, dynb0, Pipeline.Grid.boundAt]]
    omega
  · intro i a
    exact table_inb pf h0 i a
  · intro i
    rw [index0 pf h0 i]
    obtain ⟨h, hw⟩ := rows_whole ⟨(i 0).val, stretch_lt pf h0 i⟩
    exact ⟨h, .inr hw⟩
  · intro i
    rw [index1 pf h0 i]
    have := expert_lt pf h1 ![(i 0).val]
    have := column_lt pf i
    refine ⟨fun a => ?_, .inl rfl⟩
    fin_cases a
    · show ((pf.atD 1 ![(i 0).val] : BitVec 32).toNat + 1) * 1 ≤ 32
      omega
    · show (0 + 1) * 4096 ≤ 4096
      omega
    · show ((i 1).val + 1) * 512 ≤ 4096
      omega
  · intro i
    rw [index2 pf h0 i]
    have := expert_lt pf h1 ![(i 0).val]
    refine ⟨fun a => ?_, .inl rfl⟩
    fin_cases a
    · show ((pf.atD 1 ![(i 0).val] : BitVec 32).toNat + 1) * 1 ≤ 32
      omega
    · show (0 + 1) * 1 ≤ 1
      omega
    · show (0 + 1) * 4096 ≤ 4096
      omega
  · intro i
    rw [index3 pf h0 i]
    have := stretch_lt pf h0 i
    have := column_lt pf i
    refine ⟨fun a => ?_, .inl rfl⟩
    fin_cases a
    · show ((i 0).val + 1) * 1536 ≤ 86016
      omega
    · show ((i 1).val + 1) * 512 ≤ 4096
      omega

end Tables

/-! ## The pipeline at the tables of a launch memory -/

variable (m : (ℓ : Loc nD τ sig) → Buf (Elt F) ℓ) (ρ : Dev nD → PrngReg)

/-- What every buffer holds when the pipeline starts. -/
def V (c : Dev nD) (b : Ref sig .tc) : Buf (Elt F) ((c : Thread nD τ).loc b) := StableHlo.after hostOps0 (fun b => m (c, b)) b

/-- The three tables. -/
def tables : pre0.Contents (Elt F) := fun k => V m 0 (pre0.ref k)

theorem V_of_device (c : Dev nD) (k : Fin 3) : V m c (pre0.ref k) = tables m k := by
  obtain rfl : c = 0 := Subsingleton.elim _ _
  rfl

/-- What the argument arrays must satisfy for the kernel to stay inside its arrays. -/
structure Ranges : Prop where
  expert : ∀ s, (m (((0 : Dev nD) : Thread nD τ).loc main_arg0) s : BitVec 32).toNat < 32
  rows : ∀ s, (m (((0 : Dev nD) : Thread nD τ).loc main_arg1) s : BitVec 32).toNat ≤ 1536
  live : ∀ s, (m (((0 : Dev nD) : Thread nD τ).loc main_arg2) s : BitVec 32).toNat ≤ 56

theorem V_arg0 (c : Dev nD) : V m c main_arg0 = m ((c : Thread nD τ).loc main_arg0) := by
  delta V hostOps0; after_results <;> rfl
theorem V_arg1 (c : Dev nD) : V m c main_arg1 = m ((c : Thread nD τ).loc main_arg1) := by
  delta V hostOps0; after_results <;> rfl
theorem V_arg2 (c : Dev nD) : V m c main_arg2 = m ((c : Thread nD τ).loc main_arg2) := by
  delta V hostOps0; after_results <;> rfl
theorem V_arg3 (c : Dev nD) : V m c main_arg3 = m ((c : Thread nD τ).loc main_arg3) := by
  delta V hostOps0; after_results <;> rfl
theorem V_arg4 (c : Dev nD) : V m c main_arg4 = m ((c : Thread nD τ).loc main_arg4) := by
  delta V hostOps0; after_results <;> rfl
theorem V_arg5 (c : Dev nD) : V m c main_arg5 = m ((c : Thread nD τ).loc main_arg5) := by
  delta V hostOps0; after_results <;> rfl
theorem V_v0 (c : Dev nD) : V m c main_v0 = shapeCast S32x4096x4096 (m ((c : Thread nD τ).loc main_arg4)) shapeCasts_S1x32x4096x4096_S32x4096x4096 := by
  delta V hostOps0; after_results <;> rfl
theorem V_v2 (c : Dev nD) : V m c main_v2 = shapeCast S_ (m ((c : Thread nD τ).loc main_arg2)) shapeCasts_S1_S_ := by
  delta V hostOps0; after_results <;> rfl
theorem V_v3 (c : Dev nD) : V m c main_v3
    = shapeCast S32x1x4096 (shapeCast S32x4096 (m ((c : Thread nD τ).loc main_arg5)) shapeCasts_S1x32x4096_S32x4096) shapeCasts_S32x4096_S32x1x4096 := by
  delta V hostOps0; after_results <;> rfl

variable (hR : Ranges m)

include hR in
theorem live_le : (tables m 0 fun a => a.elim0 : BitVec 32).toNat ≤ 56 := by
  rw [show tables m 0 = V m 0 main_v2 from rfl, V_v2]
  exact hR.live _

include hR in
theorem expert_of (s : S56.Idx) : (tables m 1 s : BitVec 32).toNat < 32 := by
  rw [show tables m 1 = V m 0 main_arg0 from rfl, V_arg0]
  exact hR.expert s

/-- The pipeline's admissible contents. -/
def adm : (pcfg0 (F := F)).Adm := ⟨tables m, admissible (tables m) (live_le m hR) (expert_of m hR)⟩

abbrev cfgA : Cfg sig Λ₀ := cfg0 (adm m hR)

/-- A point's coordinates as the body is handed them. -/
abbrev crd (t : Fin (cfgA m hR).N) : (cfgA m hR).grid.Coords := (cfgA m hR).grid.coords t
abbrev fixed (t : Fin (cfgA m hR).N) : grid0.Static := Pipeline.Grid.Coords.static grid0 (crd m hR t)
abbrev word (t : Fin (cfgA m hR).N) : BitVec 32 := BitVec.ofNat 32 ((crd m hR t) 0).val

theorem check (t : Fin (cfgA m hR).N) : k0_chk1 (word m hR t) := table_inb (tables m) (live_le m hR) (crd m hR t)

/-- The staging memrefs at a point. -/
abbrev ms0 (t : Fin (cfgA m hR).N) : Memref sig .tc .vmem S1536x4096 .bf16 := spec0_0.stage ((cfgA m hR).slots t (0 : Fin 4))
abbrev ms1 (t : Fin (cfgA m hR).N) : Memref sig .tc .vmem S1x4096x512 .f32 := spec0_1.stage ((cfgA m hR).slots t (1 : Fin 4))
abbrev ms2 (t : Fin (cfgA m hR).N) : Memref sig .tc .vmem S1x1x4096 .f32 := spec0_2.stage ((cfgA m hR).slots t (2 : Fin 4))
abbrev ms3 (t : Fin (cfgA m hR).N) : Memref sig .tc .vmem S1536x512 .f32 := spec0_3.stage ((cfgA m hR).slots t (3 : Fin 4))
abbrev hs0 (t : Fin (cfgA m hR).N) : (ms0 m hR t).IsWhole := hstage0_0 (((cfgA m hR).slots t (0 : Fin 4)).cast nbuf0_0)
abbrev hs1 (t : Fin (cfgA m hR).N) : (ms1 m hR t).IsWhole := hstage0_1 (((cfgA m hR).slots t (1 : Fin 4)).cast nbuf0_1)
abbrev hs2 (t : Fin (cfgA m hR).N) : (ms2 m hR t).IsWhole := hstage0_2 (((cfgA m hR).slots t (2 : Fin 4)).cast nbuf0_2)
abbrev hs3 (t : Fin (cfgA m hR).N) : (ms3 m hR t).IsWhole := hstage0_3 (((cfgA m hR).slots t (3 : Fin 4)).cast nbuf0_3)

/-- A window's block at a point. -/
def blockAt (c : Dev nD) (w : Fin (cfgA m hR).W) (t : Fin (cfgA m hR).N) : (((cfgA m hR).win w).xblock (crd m hR t)).Idx → Elt F ((cfgA m hR).win w).elt :=
  (((cfgA m hR).win w).blk t).view.read (Elt F) (V m c (Pipeline.arrRef spec0 w))

/-- What the body leaves of the output block at a point. -/
def Left (c : Dev nD) (t : Fin (cfgA m hR).N) (X : S1536x512.Idx → Elt F .f32) : Prop :=
  Tile (fixed m hR t) (count (tables m 2) (word m hR t) (check m hR t)) (blockAt m hR c (0 : Fin 4) t) (blockAt m hR c (1 : Fin 4) t) (blockAt m hR c (2 : Fin 4) t) X

/-- The proof data: an input's buffer stays as it is, the output's is related to the blocks. -/
def data (c : Dev nD) : RDat τ (Elt F) Unit ℕ (UR sig nD τ) ℕ (cfgA m hR) c where
  A w := V m c (Pipeline.arrRef spec0 w)
  after w t Y X := match w with
    | ⟨0, _⟩ => X = Y
    | ⟨1, _⟩ => X = Y
    | ⟨2, _⟩ => X = Y
    | ⟨3, _⟩ => Left m hR c t X
  Φ _ := iprop(Pipeline.ΦA spec0 c ∗ Pipeline.ΦT pre0 (tables m) c)
  q _ := fullShare
  owed _ := 0

theorem finds0 (c : Dev nD) (t : Fin (cfgA m hR).N) (Y) (h : (data m hR c).Finds (0 : Fin 4) t Y) : Y = blockAt m hR c (0 : Fin 4) t := by
  obtain ⟨d, rfl⟩ := (data m hR c).finds_in_eq_fetched (0 : Fin 4) rfl (fun _ _ _ => rfl) (fun _ _ _ h => h) t Y h
  unfold RDat.fetched RDat.blockOf blockAt; rfl
theorem finds1 (c : Dev nD) (t : Fin (cfgA m hR).N) (Y) (h : (data m hR c).Finds (1 : Fin 4) t Y) : Y = blockAt m hR c (1 : Fin 4) t := by
  obtain ⟨d, rfl⟩ := (data m hR c).finds_in_eq_fetched (1 : Fin 4) rfl (fun _ _ _ => rfl) (fun _ _ _ h => h) t Y h
  unfold RDat.fetched RDat.blockOf blockAt; rfl
theorem finds2 (c : Dev nD) (t : Fin (cfgA m hR).N) (Y) (h : (data m hR c).Finds (2 : Fin 4) t Y) : Y = blockAt m hR c (2 : Fin 4) t := by
  obtain ⟨d, rfl⟩ := (data m hR c).finds_in_eq_fetched (2 : Fin 4) rfl (fun _ _ _ => rfl) (fun _ _ _ h => h) t Y h
  unfold RDat.fetched RDat.blockOf blockAt; rfl

/-- The tables, one by one. -/
theorem tables_eq (c : Dev nD) (v : pre0.Contents (Elt F)) :
    (Pipeline.ΦT (U := UR sig nD τ) pre0 v c : sProp 𝕄)
      = iprop((((c : Thread nD τ).loc main_v2) ↦{fullShare.right} v 0) ∗ (((c : Thread nD τ).loc main_arg0) ↦{fullShare.right} v 1) ∗ (((c : Thread nD τ).loc main_arg1) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at a point. -/
abbrev bodyAt (t : Fin (cfgA m hR).N) : Prog (TpuEff nD τ sig (Elt F) Λ₀ .tc) PUnit :=
  cc0_moe_down (dynb0 (tables m)) (fixed m hR t) (word m hR t) (Memref.whole main_arg0) (Memref.isWhole_whole _) (Memref.whole main_arg1) (Memref.isWhole_whole _) (ms0 m hR t) (hs0 m hR t) (ms1 m hR t) (hs1 m hR t) (ms2 m hR t) (hs2 m hR t) (ms3 m hR t) (hs3 m hR t)

include hR in
theorem count_le (a : BitVec 32) (h : k0_chk1 a) : (count (F := F) (tables m 2) a h).toNat ≤ 1536 := by
  rw [show tables m 2 = V m 0 main_arg1 from rfl, V_arg1]
  exact hR.rows _

set_option maxHeartbeats 4000000 in
theorem run_point (c : Dev nD) (t : Fin (cfgA m hR).N) (x3 : S1536x512.Idx → Elt F .f32) :
    iprop(iprop(Pipeline.ΦA spec0 c ∗ Pipeline.ΦT pre0 (tables m) c) ∗ (data m hR c).owesAt () t.castSucc
        ∗ owns (c : Thread nD τ) (ms0 m hR t) fullShare (blockAt m hR c (0 : Fin 4) t)
        ∗ owns (c : Thread nD τ) (ms1 m hR t) fullShare (blockAt m hR c (1 : Fin 4) t)
        ∗ owns (c : Thread nD τ) (ms2 m hR t) fullShare (blockAt m hR c (2 : Fin 4) t)
        ∗ owns (c : Thread nD τ) (ms3 m hR t) fullShare x3)
      ⊢ wp frame (wpE (defs₀ (F := F)) Variants.none c none) Set.univ (bodyAt m hR t) fun _ =>
          iprop(iprop(Pipeline.ΦA spec0 c ∗ Pipeline.ΦT pre0 (tables m) c) ∗ (data m hR c).owesAt () t.castSucc
            ∗ (∃ X, ⌜X = blockAt m hR c (0 : Fin 4) t⌝ ∗ owns (c : Thread nD τ) (ms0 m hR t) fullShare X)
            ∗ (∃ X, ⌜X = blockAt m hR c (1 : Fin 4) t⌝ ∗ owns (c : Thread nD τ) (ms1 m hR t) fullShare X)
            ∗ (∃ X, ⌜X = blockAt m hR c (2 : Fin 4) t⌝ ∗ owns (c : Thread nD τ) (ms2 m hR t) fullShare X)
            ∗ (∃ X, ⌜Left m hR c t X⌝ ∗ owns (c : Thread nD τ) (ms3 m hR t) fullShare X)) := by
  obtain ⟨N, -, hN⟩ := groups (count (F := F) (tables m 2) (word m hR t) (check m hR t)) (count_le m hR _ _)
  rw [tables_eq]
  iintro ⟨⟨HA, HT0, HT1, HT2⟩, Ho, H0, H1, H2, H3⟩
  iapply (run_body c (dynb0 (tables m)) (fixed m hR t) (word m hR t) (Memref.whole main_arg0) (Memref.isWhole_whole _) (ms0 m hR t) (hs0 m hR t) (ms1 m hR t) (hs1 m hR t) (ms2 m hR t) (hs2 m hR t) (ms3 m hR t) (hs3 m hR t)
    (tables m 2) (blockAt m hR c (0 : Fin 4) t) (blockAt m hR c (1 : Fin 4) t) (blockAt m hR c (2 : Fin 4) t) x3 (check m hR t) N hN Set.univ _)
  isplitl [H0]; · iapply rep_of_owns; iexact H0
  isplitl [H1]; · iapply rep_of_owns; iexact H1
  isplitl [H2]; · iapply rep_of_owns; iexact H2
  isplitl [HT2]; · iexact HT2
  isplitl [H3]; · iapply rep_of_owns; iexact H3
  iintro ⟨H0, H1, H2, HT2, H3⟩
  isplitl [HA HT0 HT1 HT2]
  · isplitl [HA]; · iexact HA
    isplitl [HT0]; · iexact HT0
    isplitl [HT1]; · iexact HT1
    iexact HT2
  isplitl [Ho]; · iexact Ho
  isplitl [H0]
  · iexists _; isplitr; · ipureintro; rfl
    iapply owns_of_rep; iexact H0
  isplitl [H1]
  · iexists _; isplitr; · ipureintro; rfl
    iapply owns_of_rep; iexact H1
  isplitl [H2]
  · iexists _; isplitr; · ipureintro; rfl
    iapply owns_of_rep; iexact H2
  iexact H3

theorem body (c : Dev nD) : (data m hR c).BodyObligation (defs₀ (F := F)) Variants.none () Set.univ := by
  intro t Y hY
  rw [bigSep_W0, bigSep_W0]
  have e0 := finds0 m hR c t _ (hY (0 : Fin 4))
  have e1 := finds1 m hR c t _ (hY (1 : Fin 4))
  have e2 := finds2 m hR c t _ (hY (2 : Fin 4))
  rw [e0, e1, e2]
  exact run_point m hR c t (Y (3 : Fin 4))

/-- The run: every array at what the points may leave, every other buffer as the pipeline found it, the counters at zero. -/
theorem run : θ_run (defs (F := F)) (onTc (τ := τ) (main (F := F))) ⟨m, fun _ => 0, ρ⟩
    (fun r => RDat.FramePost (cfgA m hR) (data m hR) (V m) r ∧ r.2.sem = fun _ => 0) :=
  RDat.θ_run_frameP (pcfgs (F := F)) (fun _ => adm m hR) (0 : Fin 1) (launch0 (F := F)) defs₀ Variants.none (data m hR) m ρ main
    (hbody := body m hR) (hshare := fun c w => by unfold RDat.share; split <;> rfl) (howed := fun _ _ => rfl)
    (V := V m)
    (hmain := Pipeline.hmainP_prefix (pcfgs (F := F)) (0 : Fin 1) defs₀ Variants.none m main hostOps0 hostOps0_sub ⟨rfl, rfl, rfl, rfl⟩ main_chain)
    (hA := fun _ _ => rfl) (hpf := fun c k => V_of_device m c k) (hΦ := fun _ _ => rfl)
    (Q' := fun r => RDat.FramePost (cfgA m hR) (data m hR) (V m) r ∧ r.2.sem = fun _ => 0) (hQ' := fun _ h => h)

/-- The argument arrays end as they began. -/
theorem args_of_post (r : PUnit × MemSt nD τ sig (Elt F)) (h : RDat.FramePost (cfgA m hR) (data m hR) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have hr : ∀ b ∈ Pipeline.restRefs sig spec0, r.2.mem ((c.tc : Thread nD τ).loc b) = V m c b := (h c).2
  have h3 : r.2.mem ((c.tc : Thread nD τ).loc main_arg3) = V m c main_arg3 := by
    have := (h c).1 (0 : Fin 4)
    rw [(data m hR c).ArrAt_in (0 : Fin 4) rfl] at this
    exact this
  exact ⟨(hr main_arg0 (by decide)).trans (V_arg0 m c), (hr main_arg1 (by decide)).trans (V_arg1 m c), (hr main_arg2 (by decide)).trans (V_arg2 m c),
    h3.trans (V_arg3 m c), (hr main_arg4 (by decide)).trans (V_arg4 m c), (hr main_arg5 (by decide)).trans (V_arg5 m c)⟩

include hR in
/-- The frame. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨args_of_post m hR r h.1, h.2⟩) (run m ρ hR)

end Cert.Proof.DownRun

end
-- ==== Proof.DownRef.lean ====
/- What the reference of the second expert product computes: a row times its stretch's expert's matrix, plus the
   expert's bias. -/
module

public import proofs.«01_k».proof.Proof.Tables
public import proofs.«01_k».proof.Proof.Gen.DownRefIdeal.Run
public import proofs.«01_k».proof.Proof.Gen.DownRefIdeal.Read

@[expose] public section

set_option maxRecDepth 16384

noncomputable section

namespace Cert.Proof.DownRef

open Cert.DownRefIdeal Cert.DownRefIdeal.Gen Cert.DownRefIdeal.Read Idealize.ShloMosaic Idealize.ShloMosaic.TcCoe

/-- A row times an expert's matrix, plus the expert's bias. -/
def entry (x : S86016x4096.Idx → EReal) (W : S1x32x4096x4096.Idx → EReal) (b : S1x32x4096.Idx → EReal) (e : Fin 32) (R : Fin 86016) (Q : Fin 4096) : EReal :=
  (∑ k : Fin 4096, x (ix2 R k) * W (ix4 0 e k Q)) + b (ix3 0 e Q)

variable (x0 : S56.Idx → BitVec 32) (h0 : ∀ s, (x0 s).toNat < 32)

include h0 in
theorem number (s : Fin 56) : val_main_v8 (F := Ideal) x0 (ix2 s 0) = x0 (ix1 s) := by
  rw [val_main_v8_apply, show idx_main_v8 (ix2 s 0) = ix1 s from funext fun a => match a with | ⟨0, _⟩ => rfl,
    val_main_v7_apply, val_main_v4_apply, val_main_v6_apply, val_main_v3_apply, val_main_v5_apply]
  exact Tables.wrap_in_range _ (h0 _)

theorem number' (s : Fin 56) : val_main_v17 (F := Ideal) x0 (ix2 s 0) = val_main_v8 (F := Ideal) x0 (ix2 s 0) := rfl

include h0 in
theorem matrix (x4 : S1x32x4096x4096.Idx → EReal) (s : Fin 56) (k Q : Fin 4096) :
    val_main_v9 (F := Ideal) x0 x4 (ix3 s k Q) = x4 (ix4 0 ⟨(x0 (ix1 s)).toNat, h0 _⟩ k Q) := by
  refine (Tables.matrices_at gather_S32x4096x4096_S56x1_S56x4096x4096_12_0_n_n_0_1_140964096.wf
    (val_main_v2 (F := Ideal) x4) (val_main_v8 (F := Ideal) x0) s k Q _ (number x0 h0 s) (h0 _)).trans ?_
  rw [val_main_v2_apply]
  refine congrArg x4 (funext fun a => Fin.ext ?_)
  have := h0 (ix1 s)
  match a with
  | ⟨0, _⟩ => rfl
  | ⟨1, _⟩ => show (((x0 (ix1 s)).toNat * 4096 + k.val) * 4096 + Q.val) / 16777216 % 32 = (x0 (ix1 s)).toNat; omega
  | ⟨2, _⟩ => show (((x0 (ix1 s)).toNat * 4096 + k.val) * 4096 + Q.val) / 4096 % 4096 = k.val; omega
  | ⟨3, _⟩ => show (((x0 (ix1 s)).toNat * 4096 + k.val) * 4096 + Q.val) % 4096 = Q.val; omega

include h0 in
theorem bias (x5 : S1x32x4096.Idx → EReal) (s : Fin 56) (Q : Fin 4096) :
    val_main_v18 (F := Ideal) x0 x5 (ix2 s Q) = x5 (ix3 0 ⟨(x0 (ix1 s)).toNat, h0 _⟩ Q) := by
  refine (Tables.rows_at gather_S32x4096_S56x1_S56x4096_1_0_n_n_0_1_14096.wf
    (val_main_v11 (F := Ideal) x5) (val_main_v17 (F := Ideal) x0) s Q _ ((number' x0 s).trans (number x0 h0 s)) (h0 _)).trans ?_
  rw [val_main_v11_apply]
  refine congrArg x5 (funext fun a => Fin.ext ?_)
  have := h0 (ix1 s)
  match a with
  | ⟨0, _⟩ => rfl
  | ⟨1, _⟩ => show ((x0 (ix1 s)).toNat * 4096 + Q.val) / 4096 % 32 = (x0 (ix1 s)).toNat; omega
  | ⟨2, _⟩ => show ((x0 (ix1 s)).toNat * 4096 + Q.val) % 4096 = Q.val; omega

include h0 in
/-- The reference's result at a row of a stretch. -/
theorem value (x3 : S86016x4096.Idx → EReal) (x4 : S1x32x4096x4096.Idx → EReal) (x5 : S1x32x4096.Idx → EReal) (s : Fin 56) (r : Fin 1536) (Q : Fin 4096) :
    val_main_v22 (F := Ideal) x0 x3 x4 x5 (ix2 ⟨1536 * s.val + r.val, by omega⟩ Q)
      = entry x3 x4 x5 ⟨(x0 (ix1 s)).toNat, h0 _⟩ ⟨1536 * s.val + r.val, by omega⟩ Q := by
  rw [val_main_v22_apply, show idx_main_v22 (ix2 ⟨1536 * s.val + r.val, by omega⟩ Q) = ix3 s r Q from funext fun a => Fin.ext (by
    match a with
    | ⟨0, _⟩ => show ((1536 * s.val + r.val) * 4096 + Q.val) / 6291456 = s.val; omega
    | ⟨1, _⟩ => show ((1536 * s.val + r.val) * 4096 + Q.val) / 4096 % 1536 = r.val; omega
    | ⟨2, _⟩ => show ((1536 * s.val + r.val) * 4096 + Q.val) % 4096 = Q.val; omega),
    val_main_v21_apply, val_main_v20_apply, val_main_v19_apply, val_main_v10_apply]
  have hb : val_main_v18 (F := Ideal) x0 x5 (idx_main_v19 (idx_main_v20 (ix3 s r Q))) = x5 (ix3 0 ⟨(x0 (ix1 s)).toNat, h0 _⟩ Q) :=
    (congrArg _ (funext fun a => match a with | ⟨0, _⟩ => rfl | ⟨1, _⟩ => rfl)).trans (bias x0 h0 x5 s Q)
  rw [hb]
  refine congrArg₂ (· + ·) (Finset.sum_congr rfl fun k _ => congrArg₂ (· * ·) ?_ ?_) rfl
  · rw [val_main_v1_apply]
    refine congrArg x3 (funext fun a => Fin.ext ?_)
    match a with
    | ⟨0, _⟩ => show ((s.val * 1536 + r.val) * 4096 + k.val) / 4096 = 1536 * s.val + r.val; omega
    | ⟨1, _⟩ => show ((s.val * 1536 + r.val) * 4096 + k.val) % 4096 = k.val; omega
  · exact (congrArg _ (funext fun a => match a with | ⟨0, _⟩ => rfl | ⟨1, _⟩ => rfl | ⟨2, _⟩ => rfl)).trans (matrix x0 h0 x4 s k Q)

end Cert.Proof.DownRef

end
-- ==== Proof.DownValue.lean ====
/- What the second expert product leaves on the rows in use: each row times its stretch's expert's matrix, plus the
   expert's bias. Every number of row groups writes the same values, on more or fewer rows. -/
module

public import proofs.«01_k».proof.Proof.DownRun
public import proofs.«01_k».proof.Proof.DownRef
public import Idealize.ShloMosaic.Lib.Pipeline.ArrRel
public import Idealize.ShloMosaic.Lib.Pipeline.Covers

@[expose] public section

set_option maxRecDepth 16384

noncomputable section

namespace Cert.Proof.DownValue

open Cert.Down Cert.Down.Gen Idealize.ShloMosaic Idealize.ShloMosaic.TcCoe Idealize.SL.Sem
open Idealize.ShloMosaic.Pipeline (RDat Dat Cfg Window)
open Cert.Proof.DownBody Cert.Proof.DownRun
open Cert.Proof.DownRef (entry)

/-! ## One block -/

/-- A row of a block times the block's columns, plus the bias at the columns' place. -/
def cell (x0 : S1536x4096.Idx → EReal) (x1 : S1x4096x512.Idx → EReal) (x2 : S1x1x4096.Idx → EReal) (j : Fin 8) (r : Fin 1536) (q : Fin 512) : EReal :=
  (∑ k : Fin 4096, x0 (ix2 r k) * x1 (ix3 0 k q)) + x2 (ix3 0 0 ⟨j.val * 512 + q.val, by omega⟩)

/-- What is stored for `M` rows, at an index. -/
def Pays {M : Nat} (pay : ((⟨2, ![M, 4096]⟩ : Shape).Idx → EReal) → (S1x4096x512.Idx → EReal) → (S1x1x512.Idx → EReal) → (⟨2, ![M, 512]⟩ : Shape).Idx → EReal) : Prop :=
  ∀ a b d r q, pay a b d (ix2 r q) = (∑ k : Fin 4096, a (ix2 r k) * b (ix3 0 k q)) + d (ix3 0 0 q)

theorem pays1 : Pays (k0_pay9 (F := Ideal)) := fun a b d r q => by pointwise [k0_pay9]
theorem pays2 : Pays (k0_pay10 (F := Ideal)) := fun a b d r q => by pointwise [k0_pay10]
theorem pays3 : Pays (k0_pay11 (F := Ideal)) := fun a b d r q => by pointwise [k0_pay11]
theorem pays4 : Pays (k0_pay12 (F := Ideal)) := fun a b d r q => by pointwise [k0_pay12]
theorem pays5 : Pays (k0_pay1 (F := Ideal)) := fun a b d r q => by pointwise [k0_pay1]
theorem pays6 : Pays (k0_pay2 (F := Ideal)) := fun a b d r q => by pointwise [k0_pay2]
theorem pays7 : Pays (k0_pay3 (F := Ideal)) := fun a b d r q => by pointwise [k0_pay3]
theorem pays8 : Pays (k0_pay4 (F := Ideal)) := fun a b d r q => by pointwise [k0_pay4]
theorem pays9 : Pays (k0_pay5 (F := Ideal)) := fun a b d r q => by pointwise [k0_pay5]
theorem pays10 : Pays (k0_pay6 (F := Ideal)) := fun a b d r q => by pointwise [k0_pay6]
theorem pays11 : Pays (k0_pay7 (F := Ideal)) := fun a b d r q => by pointwise [k0_pay7]
theorem pays12 : Pays (k0_pay8 (F := Ideal)) := fun a b d r q => by pointwise [k0_pay8]

/-- Where a column's biases begin. -/
theorem place (i : grid0.Static) : k0_off3 i = ![0, 0, (i 1).val * 512] := by
  have h : (i 1).val < 8 := (i 1).isLt
  have e : (BitVec.ofNat 32 (i 1).val * 512#32).toNat = (i 1).val * 512 := by
    rw [BitVec.toNat_mul, BitVec.toNat_ofNat, BitVec.toNat_ofNat]; omega
  show ![0, 0, (BitVec.ofNat 32 (i 1).val * 512#32).toNat] = _
  rw [e]

/-- A store of `M` rows leaves the products on them. -/
theorem rows_of {M : Nat} {pay : ((⟨2, ![M, 4096]⟩ : Shape).Idx → EReal) → (S1x4096x512.Idx → EReal) → (S1x1x512.Idx → EReal) → (⟨2, ![M, 512]⟩ : Shape).Idx → EReal}
    (hp : Pays pay) (x0 : S1536x4096.Idx → EReal) (x1 : S1x4096x512.Idx → EReal) (x2 : S1x1x4096.Idx → EReal) (X : S1536x512.Idx → EReal) (j : Fin 8)
    {off : Fin 3 → Nat} (ho : off = ![0, 0, j.val * 512]) (i3 i0 i1 i2)
    (h : ∀ y, X ((Rect.unit (s := S1536x512) ![0, 0] ![M, 512] i3).emb y)
      = pay (View.ld (Val := Elt Ideal) (e' := .bf16) x0 (Rect.unit (s := S1536x4096) ![0, 0] ![M, 4096] i0))
          (View.ld (Val := Elt Ideal) (e' := .f32) x1 (Rect.unit (s := S1x4096x512) ![0, 0, 0] S1x4096x512.size i1))
          (View.ld (Val := Elt Ideal) (e' := .f32) x2 (Rect.unit (s := S1x1x4096) off S1x1x512.size i2)) y)
    (r : Fin 1536) (q : Fin 512) (hr : r.val < M) : X (ix2 r q) = cell x0 x1 x2 j r q := by
  subst ho
  have e : (Rect.unit (s := S1536x512) ![0, 0] ![M, 512] i3).emb (ix2 ⟨r.val, hr⟩ q) = ix2 r q := funext fun a => Fin.ext (by
    match a with
    | ⟨0, _⟩ => show 0 + 1 * r.val = r.val; omega
    | ⟨1, _⟩ => show 0 + 1 * q.val = q.val; omega)
  rw [← e, h, hp]
  unfold cell
  refine congrArg₂ (· + ·) (Finset.sum_congr rfl fun k _ => congrArg₂ (· * ·) ?_ ?_) ?_
  · refine congrArg x0 (funext fun a => Fin.ext ?_)
    match a with
    | ⟨0, _⟩ => show 0 + 1 * r.val = r.val; omega
    | ⟨1, _⟩ => show 0 + 1 * k.val = k.val; omega
  · refine congrArg x1 (funext fun a => Fin.ext ?_)
    match a with
    | ⟨0, _⟩ => rfl
    | ⟨1, _⟩ => show 0 + 1 * k.val = k.val; omega
    | ⟨2, _⟩ => show 0 + 1 * q.val = q.val; omega
  · refine congrArg x2 (funext fun a => Fin.ext ?_)
    match a with
    | ⟨0, _⟩ => rfl
    | ⟨1, _⟩ => rfl
    | ⟨2, _⟩ => show j.val * 512 + 1 * q.val = j.val * 512 + q.val; omega

/-- What a run leaves on the rows in use. -/
theorem cell_of_tile (i : grid0.Static) (w : BitVec 32) (hw : w.toNat ≤ 1536) (x0 : S1536x4096.Idx → EReal) (x1 : S1x4096x512.Idx → EReal)
    (x2 : S1x1x4096.Idx → EReal) (X : S1536x512.Idx → EReal) (h : Tile (F := Ideal) i w x0 x1 x2 X) (r : Fin 1536) (q : Fin 512) (hr : r.val < w.toNat) :
    X (ix2 r q) = cell x0 x1 x2 (i 1) r q := by
  obtain ⟨N, hle, hN⟩ := groups w hw
  obtain ⟨h1, h2, h3, h4, h5, h6, h7, h8, h9, h10, h11, h12⟩ := h
  match N, hle, hN with
  | ⟨0, _⟩, hle, _ => exact absurd hr (by dsimp only at hle; omega)
  | ⟨1, _⟩, hle, hN => exact rows_of pays1 x0 x1 x2 X (i 1) (place i) _ _ _ _ (h1 ((hN 0).2 rfl)) r q (lt_of_lt_of_le hr hle)
  | ⟨2, _⟩, hle, hN => exact rows_of pays2 x0 x1 x2 X (i 1) (place i) _ _ _ _ (h2 ((hN 1).2 rfl)) r q (lt_of_lt_of_le hr hle)
  | ⟨3, _⟩, hle, hN => exact rows_of pays3 x0 x1 x2 X (i 1) (place i) _ _ _ _ (h3 ((hN 2).2 rfl)) r q (lt_of_lt_of_le hr hle)
  | ⟨4, _⟩, hle, hN => exact rows_of pays4 x0 x1 x2 X (i 1) (place i) _ _ _ _ (h4 ((hN 3).2 rfl)) r q (lt_of_lt_of_le hr hle)
  | ⟨5, _⟩, hle, hN => exact rows_of pays5 x0 x1 x2 X (i 1) (place i) _ _ _ _ (h5 ((hN 4).2 rfl)) r q (lt_of_lt_of_le hr hle)
  | ⟨6, _⟩, hle, hN => exact rows_of pays6 x0 x1 x2 X (i 1) (place i) _ _ _ _ (h6 ((hN 5).2 rfl)) r q (lt_of_lt_of_le hr hle)
  | ⟨7, _⟩, hle, hN => exact rows_of pays7 x0 x1 x2 X (i 1) (place i) _ _ _ _ (h7 ((hN 6).2 rfl)) r q (lt_of_lt_of_le hr hle)
  | ⟨8, _⟩, hle, hN => exact rows_of pays8 x0 x1 x2 X (i 1) (place i) _ _ _ _ (h8 ((hN 7).2 rfl)) r q (lt_of_lt_of_le hr hle)
  | ⟨9, _⟩, hle, hN => exact rows_of pays9 x0 x1 x2 X (i 1) (place i) _ _ _ _ (h9 ((hN 8).2 rfl)) r q (lt_of_lt_of_le hr hle)
  | ⟨10, _⟩, hle, hN => exact rows_of pays10 x0 x1 x2 X (i 1) (place i) _ _ _ _ (h10 ((hN 9).2 rfl)) r q (lt_of_lt_of_le hr hle)
  | ⟨11, _⟩, hle, hN => exact rows_of pays11 x0 x1 x2 X (i 1) (place i) _ _ _ _ (h11 ((hN 10).2 rfl)) r q (lt_of_lt_of_le hr hle)
  | ⟨12, _⟩, hle, hN => exact rows_of pays12 x0 x1 x2 X (i 1) (place i) _ _ _ _ (h12 ((hN 11).2 rfl)) r q (lt_of_lt_of_le hr hle)

/-! ## The blocks of a point -/

variable (m : (ℓ : Loc nD τ sig) → Buf (Elt Ideal) ℓ) (ρ : Dev nD → PrngReg) (hR : Ranges m)

abbrev stretch (t : Fin (cfgA m hR).N) : Fin 56 := ⟨(crd m hR t 0).val, stretch_lt (tables m) (live_le m hR) (crd m hR t)⟩
abbrev column (t : Fin (cfgA m hR).N) : Fin 8 := ⟨(crd m hR t 1).val, column_lt (tables m) (crd m hR t)⟩
abbrev expert (c : Dev nD) (hE : ∀ s, (m ((c : Thread nD τ).loc main_arg0) s : BitVec 32).toNat < 32) (s : Fin 56) : Fin 32 :=
  ⟨(m ((c : Thread nD τ).loc main_arg0) (ix1 s) : BitVec 32).toNat, hE _⟩

include hR in
theorem experts (c : Dev nD) : ∀ s, (m ((c : Thread nD τ).loc main_arg0) s : BitVec 32).toNat < 32 := by
  obtain rfl : c = 0 := Subsingleton.elim _ _
  exact hR.expert

/-- The expert's number as the windows read it. -/
theorem word_of (c : Dev nD) (s : Fin 56) : ((tables m).atD 1 ![s.val] : BitVec 32) = m ((c : Thread nD τ).loc main_arg0) (ix1 s) := by
  obtain rfl : c = 0 := Subsingleton.elim _ _
  unfold Pipeline.Prefetch.Contents.atD
  have hs : ∀ a : Fin 1, (![s.val] : Fin 1 → Nat) a + 1 ≤ S56.size a := fun a => by fin_cases a; exact s.isLt
  refine (dif_pos fun a => hs a).trans ?_
  show V m 0 main_arg0 _ = _
  rw [V_arg0]
  exact congrArg _ (funext fun a => match a with | ⟨0, _⟩ => rfl)

theorem count_of (c : Dev nD) (t : Fin (cfgA m hR).N) :
    count (F := Ideal) (tables m 2) (word m hR t) (check m hR t) = m ((c : Thread nD τ).loc main_arg1) (ix1 (stretch m hR t)) := by
  obtain rfl : c = 0 := Subsingleton.elim _ _
  rw [show tables m 2 = V m 0 main_arg1 from rfl, V_arg1]
  have hs := stretch_lt (tables m) (live_le m hR) (crd m hR t)
  refine congrArg (m (((0 : Dev nD) : Thread nD τ).loc main_arg1)) (funext fun a => Fin.ext ?_)
  match a with
  | ⟨0, _⟩ =>
    show (word m hR t).toNat + 1 * 0 = (crd m hR t 0).val
    rw [BitVec.toNat_ofNat, Nat.mod_eq_of_lt (by omega)]; omega

theorem rows_at (c : Dev nD) (t : Fin (cfgA m hR).N) (r : Fin 1536) (k : Fin 4096) :
    (blockAt m hR c (0 : Fin 4) t : S1536x4096.Idx → EReal) (ix2 r k)
      = (m ((c : Thread nD τ).loc main_arg3) : S86016x4096.Idx → EReal) (ix2 ⟨1536 * (stretch m hR t).val + r.val, by omega⟩ k) := by
  show V m c main_arg3 ((((cfgA m hR).win (0 : Fin 4)).blk t).view.emb (ix2 r k)) = _
  rw [V_arg3]
  refine congrArg _ (funext fun a => Fin.ext ?_)
  have hi := index0 (tables m) (live_le m hR) (crd m hR t)
  match a with
  | ⟨0, _⟩ => show cc0_transform_0 (dynb0 (tables m)) (crd m hR t) 0 * 1536 + 1 * r.val = 1536 * (crd m hR t 0).val + r.val
              rw [hi]; show (crd m hR t 0).val * 1536 + 1 * r.val = _; omega
  | ⟨1, _⟩ => show cc0_transform_0 (dynb0 (tables m)) (crd m hR t) 1 * 4096 + 1 * k.val = k.val
              rw [hi]; show 0 * 4096 + 1 * k.val = _; omega

theorem weight_cast (W : S1x32x4096x4096.Idx → EReal) (e : Fin 32) (k q : Fin 4096) :
    shapeCast (α := EReal) S32x4096x4096 W shapeCasts_S1x32x4096x4096_S32x4096x4096 (ix3 e k q) = W (ix4 0 e k q) := by
  pointwise

theorem bias_cast (b : S1x32x4096.Idx → EReal) (e : Fin 32) (q : Fin 4096) :
    shapeCast (α := EReal) S32x1x4096 (shapeCast (α := EReal) S32x4096 b shapeCasts_S1x32x4096_S32x4096) shapeCasts_S32x4096_S32x1x4096 (ix3 e 0 q) = b (ix3 0 e q) := by
  pointwise

theorem weight_at (c : Dev nD) (t : Fin (cfgA m hR).N) (k : Fin 4096) (q : Fin 512) :
    (blockAt m hR c (1 : Fin 4) t : S1x4096x512.Idx → EReal) (ix3 0 k q)
      = (m ((c : Thread nD τ).loc main_arg4) : S1x32x4096x4096.Idx → EReal) (ix4 0 (expert m c (experts m hR c) (stretch m hR t)) k ⟨(column m hR t).val * 512 + q.val, by omega⟩) := by
  show V m c main_v0 ((((cfgA m hR).win (1 : Fin 4)).blk t).view.emb (ix3 0 k q)) = _
  rw [V_v0]
  refine Eq.trans (congrArg _ (funext fun a => Fin.ext ?_)) (weight_cast _ _ _ _)
  have hi := index1 (tables m) (live_le m hR) (crd m hR t)
  have hw := congrArg BitVec.toNat (word_of m c (stretch m hR t))
  match a with
  | ⟨0, _⟩ => show cc0_transform_1 (tables m) (dynb0 (tables m)) (crd m hR t) 0 * 1 + 1 * 0 = _
              rw [hi]; exact (Nat.mul_one _).trans hw
  | ⟨1, _⟩ => show cc0_transform_1 (tables m) (dynb0 (tables m)) (crd m hR t) 1 * 4096 + 1 * k.val = k.val
              rw [hi]; show 0 * 4096 + 1 * k.val = _; omega
  | ⟨2, _⟩ => show cc0_transform_1 (tables m) (dynb0 (tables m)) (crd m hR t) 2 * 512 + 1 * q.val = (crd m hR t 1).val * 512 + q.val
              rw [hi]; show (crd m hR t 1).val * 512 + 1 * q.val = _; omega

theorem bias_at (c : Dev nD) (t : Fin (cfgA m hR).N) (q : Fin 4096) :
    (blockAt m hR c (2 : Fin 4) t : S1x1x4096.Idx → EReal) (ix3 0 0 q)
      = (m ((c : Thread nD τ).loc main_arg5) : S1x32x4096.Idx → EReal) (ix3 0 (expert m c (experts m hR c) (stretch m hR t)) q) := by
  show V m c main_v3 ((((cfgA m hR).win (2 : Fin 4)).blk t).view.emb (ix3 0 0 q)) = _
  rw [V_v3]
  refine Eq.trans (congrArg _ (funext fun a => Fin.ext ?_)) (bias_cast _ _ _)
  have hi := index2 (tables m) (live_le m hR) (crd m hR t)
  have hw := congrArg BitVec.toNat (word_of m c (stretch m hR t))
  match a with
  | ⟨0, _⟩ => show cc0_transform_2 (tables m) (dynb0 (tables m)) (crd m hR t) 0 * 1 + 1 * 0 = _
              rw [hi]; exact (Nat.mul_one _).trans hw
  | ⟨1, _⟩ => show cc0_transform_2 (tables m) (dynb0 (tables m)) (crd m hR t) 1 * 1 + 1 * 0 = 0
              rw [hi]; rfl
  | ⟨2, _⟩ => show cc0_transform_2 (tables m) (dynb0 (tables m)) (crd m hR t) 2 * 4096 + 1 * q.val = q.val
              rw [hi]; show 0 * 4096 + 1 * q.val = _; omega

/-- What a point leaves on its rows in use. -/
theorem left_at (c : Dev nD) (t : Fin (cfgA m hR).N) (X : S1536x512.Idx → EReal) (h : Left m hR c t X) (r : Fin 1536) (q : Fin 512)
    (hr : r.val < (m ((c : Thread nD τ).loc main_arg1) (ix1 (stretch m hR t)) : BitVec 32).toNat) :
    X (ix2 r q) = entry (m ((c : Thread nD τ).loc main_arg3)) (m ((c : Thread nD τ).loc main_arg4)) (m ((c : Thread nD τ).loc main_arg5))
      (expert m c (experts m hR c) (stretch m hR t)) ⟨1536 * (stretch m hR t).val + r.val, by omega⟩ ⟨(column m hR t).val * 512 + q.val, by omega⟩ := by
  rw [← count_of m hR c t] at hr
  refine (cell_of_tile (fixed m hR t) _ (count_le m hR _ _) _ _ _ X h r q hr).trans ?_
  unfold cell entry
  refine congrArg₂ (· + ·) (Finset.sum_congr rfl fun k _ => congrArg₂ (· * ·) (rows_at m hR c t r k) (weight_at m hR c t k q)) ?_
  exact bias_at m hR c t ⟨(column m hR t).val * 512 + q.val, by omega⟩

/-! ## The array -/

/-- The point of a stretch and a column. -/
theorem point (s : Fin 56) (hs : s.val < (tables m 0 (fun a => a.elim0) : BitVec 32).toNat) (j : Fin 8) :
    ∃ t : Fin (cfgA m hR).N, stretch m hR t = s ∧ column m hR t = j := by
  obtain ⟨t, ht⟩ := Pipeline.Grid.coords_surjective (cfgA m hR).grid (fun a => match a with | ⟨0, _⟩ => ⟨s.val, hs⟩ | ⟨1, _⟩ => ⟨j.val, j.isLt⟩)
  exact ⟨t, Fin.ext (congrArg (fun x => (x 0).val) ht), Fin.ext (congrArg (fun x => (x 1).val) ht)⟩

theorem out_emb (t : Fin (cfgA m hR).N) (r : Fin 1536) (q : Fin 512) :
    (((cfgA m hR).win (3 : Fin 4)).blk t).view.emb (ix2 r q) = (ix2 ⟨1536 * (stretch m hR t).val + r.val, by omega⟩ ⟨(column m hR t).val * 512 + q.val, by omega⟩ : S86016x4096.Idx) := by
  have hi := index3 (tables m) (live_le m hR) (crd m hR t)
  refine funext fun a => Fin.ext ?_
  match a with
  | ⟨0, _⟩ => show cc0_transform_3 (dynb0 (tables m)) (crd m hR t) 0 * 1536 + 1 * r.val = 1536 * (crd m hR t 0).val + r.val
              rw [hi]; show (crd m hR t 0).val * 1536 + 1 * r.val = _; omega
  | ⟨1, _⟩ => show cc0_transform_3 (dynb0 (tables m)) (crd m hR t) 1 * 512 + 1 * q.val = (crd m hR t 1).val * 512 + q.val
              rw [hi]; show (crd m hR t 1).val * 512 + 1 * q.val = _; omega

/-- The result on the rows in use. -/
theorem value (r : PUnit × MemSt nD τ sig (Elt Ideal)) (h : RDat.FramePost (cfgA m hR) (data m hR) (V m) r) (c : Dev nD) (s : Fin 56) (y : Fin 1536) (Q : Fin 4096)
    (hs : s.val < (m ((c : Thread nD τ).loc main_arg2) (ix1 0) : BitVec 32).toNat) (hy : y.val < (m ((c : Thread nD τ).loc main_arg1) (ix1 s) : BitVec 32).toNat) :
    (r.2.mem ((c : Thread nD τ).loc main_v4) : S86016x4096.Idx → EReal) (ix2 ⟨1536 * s.val + y.val, by omega⟩ Q)
      = entry (m ((c : Thread nD τ).loc main_arg3)) (m ((c : Thread nD τ).loc main_arg4)) (m ((c : Thread nD τ).loc main_arg5))
          (expert m c (experts m hR c) s) ⟨1536 * s.val + y.val, by omega⟩ Q := by
  haveI : ∀ e, Nonempty (Elt Ideal e) := fun e => ⟨Classical.choice (by cases e <;> exact inferInstance)⟩
  obtain ⟨after, hL, hA⟩ := h.exists_exact c
  have hlive : s.val < (tables m 0 (fun a => a.elim0) : BitVec 32).toNat := by
    obtain rfl : c = 0 := Subsingleton.elim _ _
    rw [show tables m 0 = V m 0 main_v2 from rfl, V_v2]
    refine lt_of_lt_of_eq hs (congrArg BitVec.toNat ?_)
    exact congrArg _ (funext fun a => match a with | ⟨0, _⟩ => Subsingleton.elim (α := Fin 1) _ _)
  obtain ⟨t₀, h0, h1⟩ := point m hR s hlive ⟨Q.val / 512, by omega⟩
  obtain ⟨t, -, hf, hix⟩ := Window.exists_flush_same_index ((cfgA m hR).win (3 : Fin 4)) rfl t₀
  have hix := (index3 (tables m) (live_le m hR) (crd m hR t)).symm.trans (hix.trans (index3 (tables m) (live_le m hR) (crd m hR t₀)))
  have h0' : stretch m hR t = s := (Fin.ext (show (stretch m hR t).val = (stretch m hR t₀).val from congrFun hix 0)).trans h0
  have h1' : column m hR t = ⟨Q.val / 512, by omega⟩ := (Fin.ext (show (column m hR t).val = (column m hR t₀).val from congrFun hix 1)).trans h1
  have hmem : (ix2 ⟨1536 * s.val + y.val, by omega⟩ Q : S86016x4096.Idx) ∈ (((cfgA m hR).win (3 : Fin 4)).blk t).view.set := by
    have e : (ix2 ⟨1536 * s.val + y.val, by omega⟩ Q : S86016x4096.Idx) = (((cfgA m hR).win (3 : Fin 4)).blk t).view.emb (ix2 y ⟨Q.val % 512, by omega⟩) := by
      rw [out_emb]
      refine funext fun a => Fin.ext ?_
      have h0'' := congrArg Fin.val h0'
      have h1'' := congrArg Fin.val h1'
      match a with
      | ⟨0, _⟩ => show 1536 * s.val + y.val = 1536 * (stretch m hR t).val + y.val; rw [h0'']
      | ⟨1, _⟩ => show Q.val = (column m hR t).val * 512 + Q.val % 512; rw [h1'']; dsimp only; omega
    rw [e]
    exact View.emb_mem_set _ _
  refine (congrFun (hA (3 : Fin 4)) _).trans ?_
  refine Dat.arrAt_forall_of_flushed ((data m hR c).withAfter after) (3 : Fin 4)
    (fun i v => ∀ (s : Fin 56) (y : Fin 1536) (Q : Fin 4096), i = ix2 ⟨1536 * s.val + y.val, by omega⟩ Q →
      y.val < (m ((c : Thread nD τ).loc main_arg1) (ix1 s) : BitVec 32).toNat →
      v = entry (m ((c : Thread nD τ).loc main_arg3)) (m ((c : Thread nD τ).loc main_arg4)) (m ((c : Thread nD τ).loc main_arg5))
          (expert m c (experts m hR c) s) ⟨1536 * s.val + y.val, by omega⟩ Q) ?_ (cfgA m hR).N t _ t.isLt hf hmem s y Q rfl hy
  intro u hu z s y Q hi hy
  obtain ⟨Y, -, hX⟩ := hL (3 : Fin 4) u hu
  have hX : Left m hR c u (after (3 : Fin 4) u) := hX
  obtain ⟨a, b, rfl⟩ : ∃ (a : Fin 1536) (b : Fin 512), z = ix2 a b := ⟨z 0, z 1, eq_ix2 z⟩
  rw [out_emb] at hi
  have e0 : 1536 * (stretch m hR u).val + a.val = 1536 * s.val + y.val := congrArg Fin.val (congrFun hi 0)
  have e1 : (column m hR u).val * 512 + b.val = Q.val := congrArg Fin.val (congrFun hi 1)
  obtain rfl : stretch m hR u = s := Fin.ext (by omega)
  obtain rfl : a = y := Fin.ext (by omega)
  have eQ : (⟨(column m hR u).val * 512 + b.val, by omega⟩ : Fin 4096) = Q := Fin.ext e1
  rw [← eQ]
  exact left_at m hR c u _ hX a b hy

end Cert.Proof.DownValue

end
-- ==== Proof.UpBody.lean ====
module

public import proofs.«01_k».proof.Proof.Gen.Up
public import proofs.«01_k».proof.Proof.Gen.Up.Skeleton
public import proofs.«01_k».proof.Proof.Gen.Up.Launch
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic

/-! One run of the body of the first expert product. The count of live rows of a stretch, read from the third
table, selects how many groups of 128 rows are multiplied; the run is made once for every such number. -/

@[expose] public section

set_option maxRecDepth 16384
set_option Elab.async false

noncomputable section

namespace Cert.Proof.UpBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Up Cert.Up.Gen

variable {F : FTy → Type} [FloatOps F]

local notation "𝕄" => MT nD τ sig Unit (Elt F) ℕ (UR sig nD τ) ℕ

/-- The twelve conditions of the body, on the count it reads. -/
def cond : Fin 12 → BitVec 32 → BitVec 1 :=
  ![k0_cond1, k0_cond2, k0_cond3, k0_cond4, k0_cond5, k0_cond6, k0_cond7, k0_cond8, k0_cond9, k0_cond10, k0_cond11, k0_cond12]

/-- A count of at most 1536 meets exactly the condition of its number of groups, none if it is zero. -/
theorem groups_of_count (n : Fin 1537) :
    n.val ≤ 128 * ((n.val + 127) / 128) ∧ (n.val + 127) / 128 ≤ 12 ∧
      ∀ k : Fin 12, (cond k (BitVec.ofNat 32 n.val) = 1#1 ↔ k.val + 1 = (n.val + 127) / 128) := by
  revert n; decide +kernel

theorem groups (w : BitVec 32) (h : w.toNat ≤ 1536) :
    ∃ N : Fin 13, w.toNat ≤ 128 * N.val ∧ ∀ k : Fin 12, (cond k w = 1#1 ↔ k.val + 1 = N.val) := by
  obtain ⟨h1, h2, h3⟩ := groups_of_count ⟨w.toNat, by omega⟩
  refine ⟨⟨(w.toNat + 127) / 128, by omega⟩, h1, ?_⟩
  rwa [show BitVec.ofNat 32 w.toNat = w from BitVec.eq_of_toNat_eq (by simp)] at h3

/-- The count the body reads from the table `T` at the stretch `arg0`. -/
abbrev count (T : S56.Idx → Elt F .i32) (arg0 : BitVec 32) (h : k0_chk1 arg0) : BitVec 32 :=
  View.readAt (Elt F) (Memref.whole main_arg1 : Memref sig .tc .smem S56 .i32).view
    (Rect.unit (s := S56) (k0_off2 arg0) S1.size (k0_off2_inb arg0 h)).toLoadRect T (Shape.Idx.first (numel1_S1.symm ▸ Nat.one_pos))

/-- What a run leaves in the output block: under each condition, the gated product of the rows it multiplies. -/
def Tile (i : grid0.Static) (w : BitVec 32) (x0 : S1536x4096.Idx → Elt F .bf16) (x1 x2 : S1x4096x256.Idx → Elt F .f32)
    (x3 : S1x1x8192.Idx → Elt F .f32) (X : S1536x256.Idx → Elt F .bf16) : Prop :=
  (k0_cond1 w = 1#1 → ∀ y, X ((Rect.unit (s := S1536x256) ![0, 0] S128x256.size inb_S1536x256_S128x256_0_0).emb y)
      = k0_pay1 (View.ld x0 (Rect.unit (s := S1536x4096) ![0, 0] S128x4096.size inb_S1536x4096_S128x4096_0_0))
          (View.ld x1 (Rect.unit (s := S1x4096x256) ![0, 0, 0] S1x4096x256.size inb_S1x4096x256_S1x4096x256_0_0_0)) (View.ld x3 (Rect.unit (s := S1x1x8192) (k0_off3 i) S1x1x256.size (k0_off3_inb i)))
          (View.ld x2 (Rect.unit (s := S1x4096x256) ![0, 0, 0] S1x4096x256.size inb_S1x4096x256_S1x4096x256_0_0_0)) (View.ld x3 (Rect.unit (s := S1x1x8192) (k0_off4 i) S1x1x256.size (k0_off4_inb i))) y) ∧
  (k0_cond2 w = 1#1 → ∀ y, X ((Rect.unit (s := S1536x256) ![0, 0] S256x256.size inb_S1536x256_S256x256_0_0).emb y)
      = k0_pay2 (View.ld x0 (Rect.unit (s := S1536x4096) ![0, 0] S256x4096.size inb_S1536x4096_S256x4096_0_0))
          (View.ld x1 (Rect.unit (s := S1x4096x256) ![0, 0, 0] S1x4096x256.size inb_S1x4096x256_S1x4096x256_0_0_0)) (View.ld x3 (Rect.unit (s := S1x1x8192) (k0_off5 i) S1x1x256.size (k0_off5_inb i)))
          (View.ld x2 (Rect.unit (s := S1x4096x256) ![0, 0, 0] S1x4096x256.size inb_S1x4096x256_S1x4096x256_0_0_0)) (View.ld x3 (Rect.unit (s := S1x1x8192) (k0_off6 i) S1x1x256.size (k0_off6_inb i))) y) ∧
  (k0_cond3 w = 1#1 → ∀ y, X ((Rect.unit (s := S1536x256) ![0, 0] S384x256.size inb_S1536x256_S384x256_0_0).emb y)
      = k0_pay3 (View.ld x0 (Rect.unit (s := S1536x4096) ![0, 0] S384x4096.size inb_S1536x4096_S384x4096_0_0))
          (View.ld x1 (Rect.unit (s := S1x4096x256) ![0, 0, 0] S1x4096x256.size inb_S1x4096x256_S1x4096x256_0_0_0)) (View.ld x3 (Rect.unit (s := S1x1x8192) (k0_off7 i) S1x1x256.size (k0_off7_inb i)))
          (View.ld x2 (Rect.unit (s := S1x4096x256) ![0, 0, 0] S1x4096x256.size inb_S1x4096x256_S1x4096x256_0_0_0)) (View.ld x3 (Rect.unit (s := S1x1x8192) (k0_off8 i) S1x1x256.size (k0_off8_inb i))) y) ∧
  (k0_cond4 w = 1#1 → ∀ y, X ((Rect.unit (s := S1536x256) ![0, 0] S512x256.size inb_S1536x256_S512x256_0_0).emb y)
      = k0_pay4 (View.ld x0 (Rect.unit (s := S1536x4096) ![0, 0] S512x4096.size inb_S1536x4096_S512x4096_0_0))
          (View.ld x1 (Rect.unit (s := S1x4096x256) ![0, 0, 0] S1x4096x256.size inb_S1x4096x256_S1x4096x256_0_0_0)) (View.ld x3 (Rect.unit (s := S1x1x8192) (k0_off9 i) S1x1x256.size (k0_off9_inb i)))
          (View.ld x2 (Rect.unit (s := S1x4096x256) ![0, 0, 0] S1x4096x256.size inb_S1x4096x256_S1x4096x256_0_0_0)) (View.ld x3 (Rect.unit (s := S1x1x8192) (k0_off10 i) S1x1x256.size (k0_off10_inb i))) y) ∧
  (k0_cond5 w = 1#1 → ∀ y, X ((Rect.unit (s := S1536x256) ![0, 0] S640x256.size inb_S1536x256_S640x256_0_0).emb y)
      = k0_pay5 (View.ld x0 (Rect.unit (s := S1536x4096) ![0, 0] S640x4096.size inb_S1536x4096_S640x4096_0_0))
          (View.ld x1 (Rect.unit (s := S1x4096x256) ![0, 0, 0] S1x4096x256.size inb_S1x4096x256_S1x4096x256_0_0_0)) (View.ld x3 (Rect.unit (s := S1x1x8192) (k0_off11 i) S1x1x256.size (k0_off11_inb i)))
          (View.ld x2 (Rect.unit (s := S1x4096x256) ![0, 0, 0] S1x4096x256.size inb_S1x4096x256_S1x4096x256_0_0_0)) (View.ld x3 (Rect.unit (s := S1x1x8192) (k0_off12 i) S1x1x256.size (k0_off12_inb i))) y) ∧
  (k0_cond6 w = 1#1 → ∀ y, X ((Rect.unit (s := S1536x256) ![0, 0] S768x256.size inb_S1536x256_S768x256_0_0).emb y)
      = k0_pay6 (View.ld x0 (Rect.unit (s := S1536x4096) ![0, 0] S768x4096.size inb_S1536x4096_S768x4096_0_0))
          (View.ld x1 (Rect.unit (s := S1x4096x256) ![0, 0, 0] S1x4096x256.size inb_S1x4096x256_S1x4096x256_0_0_0)) (View.ld x3 (Rect.unit (s := S1x1x8192) (k0_off13 i) S1x1x256.size (k0_off13_inb i)))
          (View.ld x2 (Rect.unit (s := S1x4096x256) ![0, 0, 0] S1x4096x256.size inb_S1x4096x256_S1x4096x256_0_0_0)) (View.ld x3 (Rect.unit (s := S1x1x8192) (k0_off14 i) S1x1x256.size (k0_off14_inb i))) y) ∧
  (k0_cond7 w = 1#1 → ∀ y, X ((Rect.unit (s := S1536x256) ![0, 0] S896x256.size inb_S1536x256_S896x256_0_0).emb y)
      = k0_pay7 (View.ld x0 (Rect.unit (s := S1536x4096) ![0, 0] S896x4096.size inb_S1536x4096_S896x4096_0_0))
          (View.ld x1 (Rect.unit (s := S1x4096x256) ![0, 0, 0] S1x4096x256.size inb_S1x4096x256_S1x4096x256_0_0_0)) (View.ld x3 (Rect.unit (s := S1x1x8192) (k0_off15 i) S1x1x256.size (k0_off15_inb i)))
          (View.ld x2 (Rect.unit (s := S1x4096x256) ![0, 0, 0] S1x4096x256.size inb_S1x4096x256_S1x4096x256_0_0_0)) (View.ld x3 (Rect.unit (s := S1x1x8192) (k0_off16 i) S1x1x256.size (k0_off16_inb i))) y) ∧
  (k0_cond8 w = 1#1 → ∀ y, X ((Rect.unit (s := S1536x256) ![0, 0] S1024x256.size inb_S1536x256_S1024x256_0_0).emb y)
      = k0_pay8 (View.ld x0 (Rect.unit (s := S1536x4096) ![0, 0] S1024x4096.size inb_S1536x4096_S1024x4096_0_0))
          (View.ld x1 (Rect.unit (s := S1x4096x256) ![0, 0, 0] S1x4096x256.size inb_S1x4096x256_S1x4096x256_0_0_0)) (View.ld x3 (Rect.unit (s := S1x1x8192) (k0_off17 i) S1x1x256.size (k0_off17_inb i)))
          (View.ld x2 (Rect.unit (s := S1x4096x256) ![0, 0, 0] S1x4096x256.size inb_S1x4096x256_S1x4096x256_0_0_0)) (View.ld x3 (Rect.unit (s := S1x1x8192) (k0_off18 i) S1x1x256.size (k0_off18_inb i))) y) ∧
  (k0_cond9 w = 1#1 → ∀ y, X ((Rect.unit (s := S1536x256) ![0, 0] S1152x256.size inb_S1536x256_S1152x256_0_0).emb y)
      = k0_pay9 (View.ld x0 (Rect.unit (s := S1536x4096) ![0, 0] S1152x4096.size inb_S1536x4096_S1152x4096_0_0))
          (View.ld x1 (Rect.unit (s := S1x4096x256) ![0, 0, 0] S1x4096x256.size inb_S1x4096x256_S1x4096x256_0_0_0)) (View.ld x3 (Rect.unit (s := S1x1x8192) (k0_off19 i) S1x1x256.size (k0_off19_inb i)))
          (View.ld x2 (Rect.unit (s := S1x4096x256) ![0, 0, 0] S1x4096x256.size inb_S1x4096x256_S1x4096x256_0_0_0)) (View.ld x3 (Rect.unit (s := S1x1x8192) (k0_off20 i) S1x1x256.size (k0_off20_inb i))) y) ∧
  (k0_cond10 w = 1#1 → ∀ y, X ((Rect.unit (s := S1536x256) ![0, 0] S1280x256.size inb_S1536x256_S1280x256_0_0).emb y)
      = k0_pay10 (View.ld x0 (Rect.unit (s := S1536x4096) ![0, 0] S1280x4096.size inb_S1536x4096_S1280x4096_0_0))
          (View.ld x1 (Rect.unit (s := S1x4096x256) ![0, 0, 0] S1x4096x256.size inb_S1x4096x256_S1x4096x256_0_0_0)) (View.ld x3 (Rect.unit (s := S1x1x8192) (k0_off21 i) S1x1x256.size (k0_off21_inb i)))
          (View.ld x2 (Rect.unit (s := S1x4096x256) ![0, 0, 0] S1x4096x256.size inb_S1x4096x256_S1x4096x256_0_0_0)) (View.ld x3 (Rect.unit (s := S1x1x8192) (k0_off22 i) S1x1x256.size (k0_off22_inb i))) y) ∧
  (k0_cond11 w = 1#1 → ∀ y, X ((Rect.unit (s := S1536x256) ![0, 0] S1408x256.size inb_S1536x256_S1408x256_0_0).emb y)
      = k0_pay11 (View.ld x0 (Rect.unit (s := S1536x4096) ![0, 0] S1408x4096.size inb_S1536x4096_S1408x4096_0_0))
          (View.ld x1 (Rect.unit (s := S1x4096x256) ![0, 0, 0] S1x4096x256.size inb_S1x4096x256_S1x4096x256_0_0_0)) (View.ld x3 (Rect.unit (s := S1x1x8192) (k0_off23 i) S1x1x256.size (k0_off23_inb i)))
          (View.ld x2 (Rect.unit (s := S1x4096x256) ![0, 0, 0] S1x4096x256.size inb_S1x4096x256_S1x4096x256_0_0_0)) (View.ld x3 (Rect.unit (s := S1x1x8192) (k0_off24 i) S1x1x256.size (k0_off24_inb i))) y) ∧
  (k0_cond12 w = 1#1 → ∀ y, X ((Rect.unit (s := S1536x256) ![0, 0] S1536x256.size inb_S1536x256_S1536x256_0_0).emb y)
      = k0_pay12 (View.ld x0 (Rect.unit (s := S1536x4096) ![0, 0] S1536x4096.size inb_S1536x4096_S1536x4096_0_0))
          (View.ld x1 (Rect.unit (s := S1x4096x256) ![0, 0, 0] S1x4096x256.size inb_S1x4096x256_S1x4096x256_0_0_0)) (View.ld x3 (Rect.unit (s := S1x1x8192) (k0_off25 i) S1x1x256.size (k0_off25_inb i)))
          (View.ld x2 (Rect.unit (s := S1x4096x256) ![0, 0, 0] S1x4096x256.size inb_S1x4096x256_S1x4096x256_0_0_0)) (View.ld x3 (Rect.unit (s := S1x1x8192) (k0_off26 i) S1x1x256.size (k0_off26_inb i))) y)

set_option maxHeartbeats 16000000 in
/-- One run of the body on a count that meets the condition of `N` groups and no other. -/
theorem run_body (c : Dev nD) (b : grid0.Bounds) (i : grid0.Static) (arg0 : BitVec 32)
    (arg2 : Memref sig .tc .smem S56 .i32) (harg2 : arg2.IsWhole)
    (arg4 : Memref sig .tc .vmem S1536x4096 .bf16) (harg4 : arg4.IsWhole) (arg5 : Memref sig .tc .vmem S1x4096x256 .f32) (harg5 : arg5.IsWhole)
    (arg6 : Memref sig .tc .vmem S1x4096x256 .f32) (harg6 : arg6.IsWhole) (arg7 : Memref sig .tc .vmem S1x1x8192 .f32) (harg7 : arg7.IsWhole)
    (arg8 : Memref sig .tc .vmem S1536x256 .bf16) (harg8 : arg8.IsWhole)
    (T : S56.Idx → Elt F .i32) (x0 : S1536x4096.Idx → Elt F .bf16) (x1 x2 : S1x4096x256.Idx → Elt F .f32)
    (x3 : S1x1x8192.Idx → Elt F .f32) (x4 : S1536x256.Idx → Elt F .bf16)
    (hw : k0_chk1 arg0) (N : Fin 13) (hN : ∀ k : Fin 12, (cond k (count T arg0 hw) = 1#1 ↔ k.val + 1 = N.val)) (E : Set ℕ) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ ((Memref.whole main_arg1 : Memref sig .tc .smem S56 .i32).view.loc (c : Thread nD τ) ↦{fullShare.right} T)
      ∗ (arg8.view.loc (c : Thread nD τ) ↦[arg8.view.set]{fullShare} arg8.view.rep x4)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ ((Memref.whole main_arg1 : Memref sig .tc .smem S56 .i32).view.loc (c : Thread nD τ) ↦{fullShare.right} T)
          ∗ (∃ X, ⌜Tile i (count T arg0 hw) x0 x1 x2 x3 X⌝ ∗ owns (c : Thread nD τ) arg8 fullShare X)) -∗ K ⟨⟩))
      ⊢ wp frame (wpE (defs₀ (F := F)) Variants.none c none) E (cc0_moe_up b i arg0 arg2 harg2 (Memref.whole main_arg1) (Memref.isWhole_whole _) arg4 harg4 arg5 harg5 arg6 harg6 arg7 harg7 arg8 harg8) K := by
  rw [cc0_moe_up_eq_skeleton]; unfold cc0_moe_up_skel
  have hT : (Memref.whole main_arg1 : Memref sig .tc .smem S56 .i32).IsWhole := Memref.isWhole_whole _
  have hc : ∀ k : Fin 12, (k.val + 1 = N.val ∧ cond k (count T arg0 hw) = 1#1) ∨ (k.val + 1 ≠ N.val ∧ ¬ cond k (count T arg0 hw) = 1#1) := fun k => by
    by_cases h : k.val + 1 = N.val
    · exact .inl ⟨h, (hN k).mpr h⟩
    · exact .inr ⟨h, fun e => h ((hN k).mp e)⟩

  have c1 : (1 = N.val ∧ k0_cond1 (count T arg0 hw) = 1#1) ∨ (1 ≠ N.val ∧ ¬ k0_cond1 (count T arg0 hw) = 1#1) := hc 0
  have c2 : (2 = N.val ∧ k0_cond2 (count T arg0 hw) = 1#1) ∨ (2 ≠ N.val ∧ ¬ k0_cond2 (count T arg0 hw) = 1#1) := hc 1
  have c3 : (3 = N.val ∧ k0_cond3 (count T arg0 hw) = 1#1) ∨ (3 ≠ N.val ∧ ¬ k0_cond3 (count T arg0 hw) = 1#1) := hc 2
  have c4 : (4 = N.val ∧ k0_cond4 (count T arg0 hw) = 1#1) ∨ (4 ≠ N.val ∧ ¬ k0_cond4 (count T arg0 hw) = 1#1) := hc 3
  have c5 : (5 = N.val ∧ k0_cond5 (count T arg0 hw) = 1#1) ∨ (5 ≠ N.val ∧ ¬ k0_cond5 (count T arg0 hw) = 1#1) := hc 4
  have c6 : (6 = N.val ∧ k0_cond6 (count T arg0 hw) = 1#1) ∨ (6 ≠ N.val ∧ ¬ k0_cond6 (count T arg0 hw) = 1#1) := hc 5
  have c7 : (7 = N.val ∧ k0_cond7 (count T arg0 hw) = 1#1) ∨ (7 ≠ N.val ∧ ¬ k0_cond7 (count T arg0 hw) = 1#1) := hc 6
  have c8 : (8 = N.val ∧ k0_cond8 (count T arg0 hw) = 1#1) ∨ (8 ≠ N.val ∧ ¬ k0_cond8 (count T arg0 hw) = 1#1) := hc 7
  have c9 : (9 = N.val ∧ k0_cond9 (count T arg0 hw) = 1#1) ∨ (9 ≠ N.val ∧ ¬ k0_cond9 (count T arg0 hw) = 1#1) := hc 8
  have c10 : (10 = N.val ∧ k0_cond10 (count T arg0 hw) = 1#1) ∨ (10 ≠ N.val ∧ ¬ k0_cond10 (count T arg0 hw) = 1#1) := hc 9
  have c11 : (11 = N.val ∧ k0_cond11 (count T arg0 hw) = 1#1) ∨ (11 ≠ N.val ∧ ¬ k0_cond11 (count T arg0 hw) = 1#1) := hc 10
  have c12 : (12 = N.val ∧ k0_cond12 (count T arg0 hw) = 1#1) ∨ (12 ≠ N.val ∧ ¬ k0_cond12 (count T arg0 hw) = 1#1) := hc 11
  clear hc hN
  iintro ⟨H0, H1, H2, H3, HT, H4, Hk⟩
  obtain ⟨N, hN⟩ := N
  dsimp only at c1 c2 c3 c4 c5 c6 c7 c8 c9 c10 c11 c12
  obtain rfl | rfl | rfl | rfl | rfl | rfl | rfl | rfl | rfl | rfl | rfl | rfl | rfl : N = 0 ∨ N = 1 ∨ N = 2 ∨ N = 3 ∨ N = 4 ∨ N = 5 ∨ N = 6 ∨ N = 7 ∨ N = 8 ∨ N = 9 ∨ N = 10 ∨ N = 11 ∨ N = 12 := by omega
  all_goals
    sl_exec! (disch := first | (guard_target = k0_chk1 _; exact hw) | (guard_target = k0_cond1 _ = _; exact (c1.resolve_right fun h => h.1 rfl).2) | (guard_target = ¬(k0_cond1 _ = _); exact (c1.resolve_left fun h => absurd h.1 (by decide)).2) | (guard_target = k0_cond2 _ = _; exact (c2.resolve_right fun h => h.1 rfl).2) | (guard_target = ¬(k0_cond2 _ = _); exact (c2.resolve_left fun h => absurd h.1 (by decide)).2) | (guard_target = k0_cond3 _ = _; exact (c3.resolve_right fun h => h.1 rfl).2) | (guard_target = ¬(k0_cond3 _ = _); exact (c3.resolve_left fun h => absurd h.1 (by decide)).2) | (guard_target = k0_cond4 _ = _; exact (c4.resolve_right fun h => h.1 rfl).2) | (guard_target = ¬(k0_cond4 _ = _); exact (c4.resolve_left fun h => absurd h.1 (by decide)).2) | (guard_target = k0_cond5 _ = _; exact (c5.resolve_right fun h => h.1 rfl).2) | (guard_target = ¬(k0_cond5 _ = _); exact (c5.resolve_left fun h => absurd h.1 (by decide)).2) | (guard_target = k0_cond6 _ = _; exact (c6.resolve_right fun h => h.1 rfl).2) | (guard_target = ¬(k0_cond6 _ = _); exact (c6.resolve_left fun h => absurd h.1 (by decide)).2) | (guard_target = k0_cond7 _ = _; exact (c7.resolve_right fun h => h.1 rfl).2) | (guard_target = ¬(k0_cond7 _ = _); exact (c7.resolve_left fun h => absurd h.1 (by decide)).2) | (guard_target = k0_cond8 _ = _; exact (c8.resolve_right fun h => h.1 rfl).2) | (guard_target = ¬(k0_cond8 _ = _); exact (c8.resolve_left fun h => absurd h.1 (by decide)).2) | (guard_target = k0_cond9 _ = _; exact (c9.resolve_right fun h => h.1 rfl).2) | (guard_target = ¬(k0_cond9 _ = _); exact (c9.resolve_left fun h => absurd h.1 (by decide)).2) | (guard_target = k0_cond10 _ = _; exact (c10.resolve_right fun h => h.1 rfl).2) | (guard_target = ¬(k0_cond10 _ = _); exact (c10.resolve_left fun h => absurd h.1 (by decide)).2) | (guard_target = k0_cond11 _ = _; exact (c11.resolve_right fun h => h.1 rfl).2) | (guard_target = ¬(k0_cond11 _ = _); exact (c11.resolve_left fun h => absurd h.1 (by decide)).2) | (guard_target = k0_cond12 _ = _; exact (c12.resolve_right fun h => h.1 rfl).2) | (guard_target = ¬(k0_cond12 _ = _); exact (c12.resolve_left fun h => absurd h.1 (by decide)).2))
    sl_step
    iapply Hk
    isplitl [H0]; · iexact H0
    isplitl [H1]; · iexact H1
    isplitl [H2]; · iexact H2
    isplitl [H3]; · iexact H3
    isplitl [HT]; · iexact HT
  · iexists x4; isplitr
    · ipureintro
      exact ⟨fun h => absurd h (c1.resolve_left fun e => absurd e.1 (by decide)).2, fun h => absurd h (c2.resolve_left fun e => absurd e.1 (by decide)).2, fun h => absurd h (c3.resolve_left fun e => absurd e.1 (by decide)).2, fun h => absurd h (c4.resolve_left fun e => absurd e.1 (by decide)).2, fun h => absurd h (c5.resolve_left fun e => absurd e.1 (by decide)).2, fun h => absurd h (c6.resolve_left fun e => absurd e.1 (by decide)).2, fun h => absurd h (c7.resolve_left fun e => absurd e.1 (by decide)).2, fun h => absurd h (c8.resolve_left fun e => absurd e.1 (by decide)).2, fun h => absurd h (c9.resolve_left fun e => absurd e.1 (by decide)).2, fun h => absurd h (c10.resolve_left fun e => absurd e.1 (by decide)).2, fun h => absurd h (c11.resolve_left fun e => absurd e.1 (by decide)).2, fun h => absurd h (c12.resolve_left fun e => absurd e.1 (by decide)).2⟩
    · iapply owns_of_rep; iexact H4
  all_goals
    unfold owns
    iexists _; isplitr; swap
    · iexists _; isplitr; swap
      · iexact H4
      · ipureintro; rfl
    · ipureintro
      refine ⟨?_, ?_, ?_, ?_, ?_, ?_, ?_, ?_, ?_, ?_, ?_, ?_⟩
      all_goals first
        | exact fun h => absurd h (c1.resolve_left fun e => absurd e.1 (by decide)).2
        | exact fun h => absurd h (c2.resolve_left fun e => absurd e.1 (by decide)).2
        | exact fun h => absurd h (c3.resolve_left fun e => absurd e.1 (by decide)).2
        | exact fun h => absurd h (c4.resolve_left fun e => absurd e.1 (by decide)).2
        | exact fun h => absurd h (c5.resolve_left fun e => absurd e.1 (by decide)).2
        | exact fun h => absurd h (c6.resolve_left fun e => absurd e.1 (by decide)).2
        | exact fun h => absurd h (c7.resolve_left fun e => absurd e.1 (by decide)).2
        | exact fun h => absurd h (c8.resolve_left fun e => absurd e.1 (by decide)).2
        | exact fun h => absurd h (c9.resolve_left fun e => absurd e.1 (by decide)).2
        | exact fun h => absurd h (c10.resolve_left fun e => absurd e.1 (by decide)).2
        | exact fun h => absurd h (c11.resolve_left fun e => absurd e.1 (by decide)).2
        | exact fun h => absurd h (c12.resolve_left fun e => absurd e.1 (by decide)).2
        | (intro _ y
           refine (View.read_writes_cons_hit _ _ _ _ _ y _ rfl).trans ?_
           simp only [View.readAt_rep])

end Cert.Proof.UpBody

end
-- ==== Proof.UpRun.lean ====
module

public import proofs.«01_k».proof.Proof.UpBody
public import Idealize.ShloMosaic.Lib.Pipeline.Frame
public import Idealize.ShloMosaic.Lib.StableHlo

/-! The run of the first expert product, over the tables it is given: the experts' numbers in range and at most 56
stretches make every block lie inside its array. What each point leaves in its output block is kept as a relation,
since the rows past the live ones hold whatever the buffer held. -/

@[expose] public section

set_option maxRecDepth 16384
set_option Elab.async false

noncomputable section

namespace Cert.Proof.UpRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.Up Cert.Up.Gen Cert.Proof.UpBody

variable {F : FTy → Type} [FloatOps F]

local notation "𝕄" => MT nD τ sig Unit (Elt F) ℕ (UR sig nD τ) ℕ

/-! ## The tables -/

section Tables

variable (pf : pre0.Contents (Elt F)) (h0 : (pf 0 fun a => a.elim0 : BitVec 32).toNat ≤ 56) (h1 : ∀ s, (pf 1 s : BitVec 32).toNat < 32)

include h0 in
theorem stretch_lt (i : (grid0.at (dynb0 pf)).Coords) : (i 0).val < 56 := by
  have h : (i 0).val < (pf 0 fun a => a.elim0 : BitVec 32).toNat := (i 0).isLt
  omega

theorem column_lt (i : (grid0.at (dynb0 pf)).Coords) : (i 1).val < 16 := (i 1).isLt

include h1 in
theorem expert_lt (off : Fin 1 → Nat) : (pf.atD 1 off : BitVec 32).toNat < 32 := by
  unfold Pipeline.Prefetch.Contents.atD
  split
  · exact h1 _
  · show (0#32 : BitVec 32).toNat < 32
    decide

include h0 in
theorem index0 (i : (grid0.at (dynb0 pf)).Coords) : cc0_transform_0 (dynb0 pf) i = ![(i 0).val, 0] := by
  have := stretch_lt pf h0 i
  show ![(BitVec.ofNat 32 (i 0).val).toNat, 0] = _
  rw [BitVec.toNat_ofNat, Nat.mod_eq_of_lt (by omega)]

include h0 in
theorem index1 (i : (grid0.at (dynb0 pf)).Coords) :
    cc0_transform_1 pf (dynb0 pf) i = ![(pf.atD 1 ![(i 0).val] : BitVec 32).toNat, 0, (i 1).val] := by
  have := stretch_lt pf h0 i
  have := column_lt pf i
  show ![(pf.atD 1 ![(BitVec.ofNat 32 (i 0).val).toNat] : BitVec 32).toNat, 0, (0#32 + BitVec.ofNat 32 (i 1).val).toNat] = _
  rw [BitVec.zero_add, BitVec.toNat_ofNat, BitVec.toNat_ofNat, Nat.mod_eq_of_lt (by omega), Nat.mod_eq_of_lt (by omega)]

include h0 in
theorem index2 (i : (grid0.at (dynb0 pf)).Coords) :
    cc0_transform_2 pf (dynb0 pf) i = ![(pf.atD 1 ![(i 0).val] : BitVec 32).toNat, 0, 16 + (i 1).val] := by
  have := stretch_lt pf h0 i
  have := column_lt pf i
  have e : (16#32 + BitVec.ofNat 32 (i 1).val).toNat = 16 + (i 1).val := by
    rw [BitVec.toNat_add, BitVec.toNat_ofNat, BitVec.toNat_ofNat]; omega
  show ![(pf.atD 1 ![(BitVec.ofNat 32 (i 0).val).toNat] : BitVec 32).toNat, 0, (16#32 + BitVec.ofNat 32 (i 1).val).toNat] = _
  rw [e, BitVec.toNat_ofNat, Nat.mod_eq_of_lt (by omega)]

include h0 in
theorem index3 (i : (grid0.at (dynb0 pf)).Coords) :
    cc0_transform_3 pf (dynb0 pf) i = ![(pf.atD 1 ![(i 0).val] : BitVec 32).toNat, 0, 0] := by
  have := stretch_lt pf h0 i
  show ![(pf.atD 1 ![(BitVec.ofNat 32 (i 0).val).toNat] : BitVec 32).toNat, 0, 0] = _
  rw [BitVec.toNat_ofNat, Nat.mod_eq_of_lt (by omega)]

include h0 in
theorem index4 (i : (grid0.at (dynb0 pf)).Coords) : cc0_transform_4 (dynb0 pf) i = ![(i 0).val, (i 1).val] := by
  have := stretch_lt pf h0 i
  have := column_lt pf i
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

include h0 in
theorem table_inb (i : (grid0.at (dynb0 pf)).Coords) : k0_chk1 (BitVec.ofNat 32 (i 0).val) := by
  have := stretch_lt pf h0 i
  intro a
  show ![(BitVec.ofNat 32 (i 0).val).toNat] a + S1.size a ≤ S56.size a
  rw [BitVec.toNat_ofNat, Nat.mod_eq_of_lt (by omega)]
  fin_cases a
  show (i 0).val + 1 ≤ 56
  omega

/-- A stretch's block of rows starts at a whole word. -/
theorem rows_whole (s : Fin 56) : ∃ h : (∀ a, ((![s.val, 0] : Fin 2 → Nat) a + 1) * S1536x4096.size a ≤ S86016x4096.size a),
    (Rect.block (s := S86016x4096) S1536x4096.size ![s.val, 0] h).WholeWords (EltTy.packing .bf16) := by
  revert s; decide +kernel

/-- So does a tile of the output. -/
theorem tile_whole (s : Fin 56) (j : Fin 16) : ∃ h : (∀ a, ((![s.val, j.val] : Fin 2 → Nat) a + 1) * S1536x256.size a ≤ S86016x4096.size a),
    (Rect.block (s := S86016x4096) S1536x256.size ![s.val, j.val] h).WholeWords (EltTy.packing .bf16) := by
  revert s j; decide +kernel

include h0 h1 in
/-- The tables are admissible. -/
theorem admissible : ok0 pf := by
  refine ⟨?_, ?_, ?_, ?_, ?_, ?_, ?_⟩
  · show (grid0.at (dynb0 pf)).N + 2 < 2 ^ 31
    rw [show (grid0.at (dynb0 pf)).N = (pf 0 fun a => a.elim0 : BitVec 32).toNat * 16 from by
      unfold Pipeline.Grid.N; simp [Pipeline.Grid.at, Fin.prod_univ_two, dynb0, Pipeline.Grid.boundAt]]
    omega
  · intro i a
    exact table_inb pf h0 i a
  · intro i
    rw [index0 pf h0 i]
    obtain ⟨h, hw⟩ := rows_whole ⟨(i 0).val, stretch_lt pf h0 i⟩
    exact ⟨h, .inr hw⟩
  · intro i
    rw [index1 pf h0 i]
    have := expert_lt pf h1 ![(i 0).val]
    have := column_lt pf i
    refine ⟨fun a => ?_, .inl rfl⟩
    fin_cases a
    · show ((pf.atD 1 ![(i 0).val] : BitVec 32).toNat + 1) * 1 ≤ 32
      omega
    · show (0 + 1) * 4096 ≤ 4096
      omega
    · show ((i 1).val + 1) * 256 ≤ 8192
      omega
  · intro i
    rw [index2 pf h0 i]
    have := expert_lt pf h1 ![(i 0).val]
    have := column_lt pf i
    refine ⟨fun a => ?_, .inl rfl⟩
    fin_cases a
    · show ((pf.atD 1 ![(i 0).val] : BitVec 32).toNat + 1) * 1 ≤ 32
      omega
    · show (0 + 1) * 4096 ≤ 4096
      omega
    · show (16 + (i 1).val + 1) * 256 ≤ 8192
      omega
  · intro i
    rw [index3 pf h0 i]
    have := expert_lt pf h1 ![(i 0).val]
    have := column_lt pf i
    refine ⟨fun a => ?_, .inl rfl⟩
    fin_cases a
    · show ((pf.atD 1 ![(i 0).val] : BitVec 32).toNat + 1) * 1 ≤ 32
      omega
    · show (0 + 1) * 1 ≤ 1
      omega
    · show (0 + 1) * 8192 ≤ 8192
      omega
  · intro i
    rw [index4 pf h0 i]
    obtain ⟨h, hw⟩ := tile_whole ⟨(i 0).val, stretch_lt pf h0 i⟩ ⟨(i 1).val, column_lt pf i⟩
    exact ⟨h, .inr hw⟩

end Tables

/-! ## The pipeline at the tables of a launch memory -/

variable (m : (ℓ : Loc nD τ sig) → Buf (Elt F) ℓ) (ρ : Dev nD → PrngReg)

/-- What every buffer holds when the pipeline starts. -/
def V (c : Dev nD) (b : Ref sig .tc) : Buf (Elt F) ((c : Thread nD τ).loc b) := StableHlo.after hostOps0 (fun b => m (c, b)) b

/-- The three tables. -/
def tables : pre0.Contents (Elt F) := fun k => V m 0 (pre0.ref k)

theorem V_of_device (c : Dev nD) (k : Fin 3) : V m c (pre0.ref k) = tables m k := by
  obtain rfl : c = 0 := Subsingleton.elim _ _
  rfl

/-- What the argument arrays must satisfy for the kernel to stay inside its arrays. -/
structure Ranges : Prop where
  expert : ∀ s, (m (((0 : Dev nD) : Thread nD τ).loc main_arg0) s : BitVec 32).toNat < 32
  rows : ∀ s, (m (((0 : Dev nD) : Thread nD τ).loc main_arg1) s : BitVec 32).toNat ≤ 1536
  live : ∀ s, (m (((0 : Dev nD) : Thread nD τ).loc main_arg2) s : BitVec 32).toNat ≤ 56

theorem V_arg0 (c : Dev nD) : V m c main_arg0 = m ((c : Thread nD τ).loc main_arg0) := by
  delta V hostOps0; after_results <;> rfl
theorem V_arg1 (c : Dev nD) : V m c main_arg1 = m ((c : Thread nD τ).loc main_arg1) := by
  delta V hostOps0; after_results <;> rfl
theorem V_arg2 (c : Dev nD) : V m c main_arg2 = m ((c : Thread nD τ).loc main_arg2) := by
  delta V hostOps0; after_results <;> rfl
theorem V_arg3 (c : Dev nD) : V m c main_arg3 = m ((c : Thread nD τ).loc main_arg3) := by
  delta V hostOps0; after_results <;> rfl
theorem V_arg4 (c : Dev nD) : V m c main_arg4 = m ((c : Thread nD τ).loc main_arg4) := by
  delta V hostOps0; after_results <;> rfl
theorem V_arg5 (c : Dev nD) : V m c main_arg5 = m ((c : Thread nD τ).loc main_arg5) := by
  delta V hostOps0; after_results <;> rfl
theorem V_v0 (c : Dev nD) : V m c main_v0 = shapeCast S32x4096x8192 (m ((c : Thread nD τ).loc main_arg4)) shapeCasts_S1x32x4096x8192_S32x4096x8192 := by
  delta V hostOps0; after_results <;> rfl
theorem V_v3 (c : Dev nD) : V m c main_v3 = shapeCast S_ (m ((c : Thread nD τ).loc main_arg2)) shapeCasts_S1_S_ := by
  delta V hostOps0; after_results <;> rfl
theorem V_v2 (c : Dev nD) : V m c main_v2
    = shapeCast S32x1x8192 (shapeCast S32x8192 (m ((c : Thread nD τ).loc main_arg5)) shapeCasts_S1x32x8192_S32x8192) shapeCasts_S32x8192_S32x1x8192 := by
  delta V hostOps0; after_results <;> rfl

variable (hR : Ranges m)

include hR in
theorem live_le : (tables m 0 fun a => a.elim0 : BitVec 32).toNat ≤ 56 := by
  rw [show tables m 0 = V m 0 main_v3 from rfl, V_v3]
  exact hR.live _

include hR in
theorem expert_of (s : S56.Idx) : (tables m 1 s : BitVec 32).toNat < 32 := by
  rw [show tables m 1 = V m 0 main_arg0 from rfl, V_arg0]
  exact hR.expert s

/-- The pipeline's admissible contents. -/
def adm : (pcfg0 (F := F)).Adm := ⟨tables m, admissible (tables m) (live_le m hR) (expert_of m hR)⟩

abbrev cfgA : Cfg sig Λ₀ := cfg0 (adm m hR)

/-- A point's coordinates as the body is handed them. -/
abbrev crd (t : Fin (cfgA m hR).N) : (cfgA m hR).grid.Coords := (cfgA m hR).grid.coords t
abbrev fixed (t : Fin (cfgA m hR).N) : grid0.Static := Pipeline.Grid.Coords.static grid0 (crd m hR t)
abbrev word (t : Fin (cfgA m hR).N) : BitVec 32 := BitVec.ofNat 32 ((crd m hR t) 0).val

theorem check (t : Fin (cfgA m hR).N) : k0_chk1 (word m hR t) := table_inb (tables m) (live_le m hR) (crd m hR t)

/-- The staging memrefs at a point. -/
abbrev ms0 (t : Fin (cfgA m hR).N) : Memref sig .tc .vmem S1536x4096 .bf16 := spec0_0.stage ((cfgA m hR).slots t (0 : Fin 5))
abbrev ms1 (t : Fin (cfgA m hR).N) : Memref sig .tc .vmem S1x4096x256 .f32 := spec0_1.stage ((cfgA m hR).slots t (1 : Fin 5))
abbrev ms2 (t : Fin (cfgA m hR).N) : Memref sig .tc .vmem S1x4096x256 .f32 := spec0_2.stage ((cfgA m hR).slots t (2 : Fin 5))
abbrev ms3 (t : Fin (cfgA m hR).N) : Memref sig .tc .vmem S1x1x8192 .f32 := spec0_3.stage ((cfgA m hR).slots t (3 : Fin 5))
abbrev ms4 (t : Fin (cfgA m hR).N) : Memref sig .tc .vmem S1536x256 .bf16 := spec0_4.stage ((cfgA m hR).slots t (4 : Fin 5))
abbrev hs0 (t : Fin (cfgA m hR).N) : (ms0 m hR t).IsWhole := hstage0_0 (((cfgA m hR).slots t (0 : Fin 5)).cast nbuf0_0)
abbrev hs1 (t : Fin (cfgA m hR).N) : (ms1 m hR t).IsWhole := hstage0_1 (((cfgA m hR).slots t (1 : Fin 5)).cast nbuf0_1)
abbrev hs2 (t : Fin (cfgA m hR).N) : (ms2 m hR t).IsWhole := hstage0_2 (((cfgA m hR).slots t (2 : Fin 5)).cast nbuf0_2)
abbrev hs3 (t : Fin (cfgA m hR).N) : (ms3 m hR t).IsWhole := hstage0_3 (((cfgA m hR).slots t (3 : Fin 5)).cast nbuf0_3)
abbrev hs4 (t : Fin (cfgA m hR).N) : (ms4 m hR t).IsWhole := hstage0_4 (((cfgA m hR).slots t (4 : Fin 5)).cast nbuf0_4)

/-- A window's block at a point. -/
def blockAt (c : Dev nD) (w : Fin (cfgA m hR).W) (t : Fin (cfgA m hR).N) : (((cfgA m hR).win w).xblock (crd m hR t)).Idx → Elt F ((cfgA m hR).win w).elt :=
  (((cfgA m hR).win w).blk t).view.read (Elt F) (V m c (Pipeline.arrRef spec0 w))

/-- What the body leaves of the output block at a point. -/
def Left (c : Dev nD) (t : Fin (cfgA m hR).N) (X : S1536x256.Idx → Elt F .bf16) : Prop :=
  Tile (fixed m hR t) (count (tables m 2) (word m hR t) (check m hR t)) (blockAt m hR c (0 : Fin 5) t) (blockAt m hR c (1 : Fin 5) t) (blockAt m hR c (2 : Fin 5) t) (blockAt m hR c (3 : Fin 5) t) X

/-- The proof data: an input's buffer stays as it is, the output's is related to the blocks. -/
def data (c : Dev nD) : RDat τ (Elt F) Unit ℕ (UR sig nD τ) ℕ (cfgA m hR) c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => Left m hR c t X
  Φ _ := iprop(Pipeline.ΦA spec0 c ∗ Pipeline.ΦT pre0 (tables m) c)
  q w := Pipeline.shareOf spec0 w
  owed _ := 0

theorem finds0 (c : Dev nD) (t : Fin (cfgA m hR).N) (Y) (h : (data m hR c).Finds (0 : Fin 5) t Y) : Y = blockAt m hR c (0 : Fin 5) t := by
  obtain ⟨d, rfl⟩ := (data m hR c).finds_in_eq_fetched (0 : Fin 5) rfl (fun _ _ _ => rfl) (fun _ _ _ h => h) t Y h
  unfold RDat.fetched RDat.blockOf blockAt; rfl
theorem finds1 (c : Dev nD) (t : Fin (cfgA m hR).N) (Y) (h : (data m hR c).Finds (1 : Fin 5) t Y) : Y = blockAt m hR c (1 : Fin 5) t := by
  obtain ⟨d, rfl⟩ := (data m hR c).finds_in_eq_fetched (1 : Fin 5) rfl (fun _ _ _ => rfl) (fun _ _ _ h => h) t Y h
  unfold RDat.fetched RDat.blockOf blockAt; rfl
theorem finds2 (c : Dev nD) (t : Fin (cfgA m hR).N) (Y) (h : (data m hR c).Finds (2 : Fin 5) t Y) : Y = blockAt m hR c (2 : Fin 5) t := by
  obtain ⟨d, rfl⟩ := (data m hR c).finds_in_eq_fetched (2 : Fin 5) rfl (fun _ _ _ => rfl) (fun _ _ _ h => h) t Y h
  unfold RDat.fetched RDat.blockOf blockAt; rfl
theorem finds3 (c : Dev nD) (t : Fin (cfgA m hR).N) (Y) (h : (data m hR c).Finds (3 : Fin 5) t Y) : Y = blockAt m hR c (3 : Fin 5) t := by
  obtain ⟨d, rfl⟩ := (data m hR c).finds_in_eq_fetched (3 : Fin 5) rfl (fun _ _ _ => rfl) (fun _ _ _ h => h) t Y h
  unfold RDat.fetched RDat.blockOf blockAt; rfl

/-- The tables, one by one. -/
theorem tables_eq (c : Dev nD) (v : pre0.Contents (Elt F)) :
    (Pipeline.ΦT (U := UR sig nD τ) pre0 v c : sProp 𝕄)
      = iprop((((c : Thread nD τ).loc main_v3) ↦{fullShare.right} v 0) ∗ (((c : Thread nD τ).loc main_arg0) ↦{fullShare.right} v 1) ∗ (((c : Thread nD τ).loc main_arg1) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The body at a point. -/
abbrev bodyAt (t : Fin (cfgA m hR).N) : Prog (TpuEff nD τ sig (Elt F) Λ₀ .tc) PUnit :=
  cc0_moe_up (dynb0 (tables m)) (fixed m hR t) (word m hR t) (Memref.whole main_arg0) (Memref.isWhole_whole _) (Memref.whole main_arg1) (Memref.isWhole_whole _) (ms0 m hR t) (hs0 m hR t) (ms1 m hR t) (hs1 m hR t) (ms2 m hR t) (hs2 m hR t) (ms3 m hR t) (hs3 m hR t) (ms4 m hR t) (hs4 m hR t)

include hR in
theorem count_le (a : BitVec 32) (h : k0_chk1 a) : (count (F := F) (tables m 2) a h).toNat ≤ 1536 := by
  rw [show tables m 2 = V m 0 main_arg1 from rfl, V_arg1]
  exact hR.rows _

set_option maxHeartbeats 4000000 in
theorem run_point (c : Dev nD) (t : Fin (cfgA m hR).N) (x4 : S1536x256.Idx → Elt F .bf16) :
    iprop(iprop(Pipeline.ΦA spec0 c ∗ Pipeline.ΦT pre0 (tables m) c) ∗ (data m hR c).owesAt () t.castSucc
        ∗ owns (c : Thread nD τ) (ms0 m hR t) fullShare (blockAt m hR c (0 : Fin 5) t)
        ∗ owns (c : Thread nD τ) (ms1 m hR t) fullShare (blockAt m hR c (1 : Fin 5) t)
        ∗ owns (c : Thread nD τ) (ms2 m hR t) fullShare (blockAt m hR c (2 : Fin 5) t)
        ∗ owns (c : Thread nD τ) (ms3 m hR t) fullShare (blockAt m hR c (3 : Fin 5) t)
        ∗ owns (c : Thread nD τ) (ms4 m hR t) fullShare x4)
      ⊢ wp frame (wpE (defs₀ (F := F)) Variants.none c none) Set.univ (bodyAt m hR t) fun _ =>
          iprop(iprop(Pipeline.ΦA spec0 c ∗ Pipeline.ΦT pre0 (tables m) c) ∗ (data m hR c).owesAt () t.castSucc
            ∗ (∃ X, ⌜X = blockAt m hR c (0 : Fin 5) t⌝ ∗ owns (c : Thread nD τ) (ms0 m hR t) fullShare X)
            ∗ (∃ X, ⌜X = blockAt m hR c (1 : Fin 5) t⌝ ∗ owns (c : Thread nD τ) (ms1 m hR t) fullShare X)
            ∗ (∃ X, ⌜X = blockAt m hR c (2 : Fin 5) t⌝ ∗ owns (c : Thread nD τ) (ms2 m hR t) fullShare X)
            ∗ (∃ X, ⌜X = blockAt m hR c (3 : Fin 5) t⌝ ∗ owns (c : Thread nD τ) (ms3 m hR t) fullShare X)
            ∗ (∃ X, ⌜Left m hR c t X⌝ ∗ owns (c : Thread nD τ) (ms4 m hR t) fullShare X)) := by
  obtain ⟨N, -, hN⟩ := groups (count (F := F) (tables m 2) (word m hR t) (check m hR t)) (count_le m hR _ _)
  rw [tables_eq]
  iintro ⟨⟨HA, HT0, HT1, HT2⟩, Ho, H0, H1, H2, H3, H4⟩
  iapply (run_body c (dynb0 (tables m)) (fixed m hR t) (word m hR t) (Memref.whole main_arg0) (Memref.isWhole_whole _) (ms0 m hR t) (hs0 m hR t) (ms1 m hR t) (hs1 m hR t) (ms2 m hR t) (hs2 m hR t) (ms3 m hR t) (hs3 m hR t) (ms4 m hR t) (hs4 m hR t)
    (tables m 2) (blockAt m hR c (0 : Fin 5) t) (blockAt m hR c (1 : Fin 5) t) (blockAt m hR c (2 : Fin 5) t) (blockAt m hR c (3 : Fin 5) t) x4 (check m hR t) N hN Set.univ _)
  isplitl [H0]; · iapply rep_of_owns; iexact H0
  isplitl [H1]; · iapply rep_of_owns; iexact H1
  isplitl [H2]; · iapply rep_of_owns; iexact H2
  isplitl [H3]; · iapply rep_of_owns; iexact H3
  isplitl [HT2]; · iexact HT2
  isplitl [H4]; · iapply rep_of_owns; iexact H4
  iintro ⟨H0, H1, H2, H3, HT2, H4⟩
  isplitl [HA HT0 HT1 HT2]
  · isplitl [HA]; · iexact HA
    isplitl [HT0]; · iexact HT0
    isplitl [HT1]; · iexact HT1
    iexact HT2
  isplitl [Ho]; · iexact Ho
  isplitl [H0]
  · iexists _; isplitr; · ipureintro; rfl
    iapply owns_of_rep; iexact H0
  isplitl [H1]
  · iexists _; isplitr; · ipureintro; rfl
    iapply owns_of_rep; iexact H1
  isplitl [H2]
  · iexists _; isplitr; · ipureintro; rfl
    iapply owns_of_rep; iexact H2
  isplitl [H3]
  · iexists _; isplitr; · ipureintro; rfl
    iapply owns_of_rep; iexact H3
  iexact H4

theorem body (c : Dev nD) : (data m hR c).BodyObligation (defs₀ (F := F)) Variants.none () Set.univ := by
  intro t Y hY
  rw [bigSep_W0, bigSep_W0]
  have e0 := finds0 m hR c t _ (hY (0 : Fin 5))
  have e1 := finds1 m hR c t _ (hY (1 : Fin 5))
  have e2 := finds2 m hR c t _ (hY (2 : Fin 5))
  have e3 := finds3 m hR c t _ (hY (3 : Fin 5))
  rw [e0, e1, e2, e3]
  exact run_point m hR c t (Y (4 : Fin 5))

/-- The run: every array at what the points may leave, every other buffer as the pipeline found it, the counters at zero. -/
theorem run : θ_run (defs (F := F)) (onTc (τ := τ) (main (F := F))) ⟨m, fun _ => 0, ρ⟩
    (fun r => RDat.FramePost (cfgA m hR) (data m hR) (V m) r ∧ r.2.sem = fun _ => 0) :=
  RDat.θ_run_frameP_track_shared (pcfgs (F := F)) (fun _ => adm m hR) (0 : Fin 1) (launch₀0 (F := F)) defs₀ Variants.none (data m hR) m ρ main
    (hbody := body m hR) (hq := fun _ _ _ => rfl) (howed := fun _ _ => rfl)
    (V := V m)
    (hmain := Pipeline.hmainP_prefix (pcfgs (F := F)) (0 : Fin 1) defs₀ Variants.none m main hostOps0 hostOps0_sub ⟨rfl, rfl, rfl, rfl⟩ main_chain)
    (hA := fun _ _ => rfl) (hpf := fun c k => V_of_device m c k) (hin := fun _ => .rfl) (hout := fun c => sep_elim_left)
    (Q' := fun r => RDat.FramePost (cfgA m hR) (data m hR) (V m) r ∧ r.2.sem = fun _ => 0) (hQ' := fun _ h => h)

/-- The argument arrays end as they began. -/
theorem args_of_post (r : PUnit × MemSt nD τ sig (Elt F)) (h : RDat.FramePost (cfgA m hR) (data m hR) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) := by
  have hr : ∀ b ∈ Pipeline.restRefs sig spec0, r.2.mem ((c.tc : Thread nD τ).loc b) = V m c b := (h c).2
  have h3 : r.2.mem ((c.tc : Thread nD τ).loc main_arg3) = V m c main_arg3 := by
    have := (h c).1 (0 : Fin 5)
    rw [(data m hR c).ArrAt_in (0 : Fin 5) rfl] at this
    exact this
  exact ⟨(hr main_arg0 (by decide)).trans (V_arg0 m c), (hr main_arg1 (by decide)).trans (V_arg1 m c), (hr main_arg2 (by decide)).trans (V_arg2 m c),
    h3.trans (V_arg3 m c), (hr main_arg4 (by decide)).trans (V_arg4 m c), (hr main_arg5 (by decide)).trans (V_arg5 m c)⟩

include hR in
/-- The frame. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ r.2.sem = fun _ => 0) :=
  (θ_run defs _ _).mono (fun r h => ⟨args_of_post m hR r h.1, h.2⟩) (run m ρ hR)

end Cert.Proof.UpRun

end
-- ==== Proof.UpRef.lean ====
/- What the reference of the first expert product computes: a row times the two halves of its stretch's expert's
   matrix, each plus its half of the expert's bias, and the one gated by the other. -/
module

public import proofs.«01_k».proof.Proof.Tables
public import proofs.«01_k».proof.Proof.Gen.UpRefIdeal.Run
public import proofs.«01_k».proof.Proof.Gen.UpRefIdeal.Read

@[expose] public section

set_option maxRecDepth 16384

noncomputable section

namespace Cert.Proof.UpRef

open Cert.UpRefIdeal Cert.UpRefIdeal.Gen Cert.UpRefIdeal.Read Idealize.ShloMosaic Idealize.ShloMosaic.TcCoe

/-- A row times an expert's matrix, plus the expert's bias. -/
def entry (x : S86016x4096.Idx → EReal) (W : S1x32x4096x8192.Idx → EReal) (b : S1x32x8192.Idx → EReal) (e : Fin 32) (R : Fin 86016) (Q : Fin 8192) : EReal :=
  (∑ k : Fin 4096, x (ix2 R k) * W (ix4 0 e k Q)) + b (ix3 0 e Q)

/-- The gate: the first product cut at 7 and weighed by its logistic, times the second cut to ±7 and moved by one. -/
def gated (g u : EReal) : EReal :=
  let g' : Ideal .f32 := FloatOps.minimumf (F := Ideal) (φ := .f32) g (FloatOps.ofBits .f32 0x40E00000#32)
  FloatOps.mulf (F := Ideal) (φ := .f32)
    (FloatOps.addf (F := Ideal) (φ := .f32) (FloatOps.minimumf (F := Ideal) (φ := .f32) (FloatOps.ofBits .f32 0x40E00000#32)
      (FloatOps.maximumf (F := Ideal) (φ := .f32) (FloatOps.ofBits .f32 0xC0E00000#32) u)) (FloatOps.ofBits .f32 0x3F800000#32))
    (FloatOps.mulf (F := Ideal) (φ := .f32) g' (FloatOps.logistic (F := Ideal) (φ := .f32) (FloatOps.mulf (F := Ideal) (φ := .f32) (FloatOps.ofBits .f32 0x3FD9DB23#32) g')))

variable (x0 : S56.Idx → BitVec 32) (h0 : ∀ s, (x0 s).toNat < 32)

include h0 in
theorem number (s : Fin 56) : val_main_v8 (F := Ideal) x0 (ix2 s 0) = x0 (ix1 s) := by
  rw [val_main_v8_apply, show idx_main_v8 (ix2 s 0) = ix1 s from funext fun a => match a with | ⟨0, _⟩ => rfl,
    val_main_v7_apply, val_main_v4_apply, val_main_v6_apply, val_main_v3_apply, val_main_v5_apply]
  exact Tables.wrap_in_range _ (h0 _)

theorem number' (s : Fin 56) : val_main_v17 (F := Ideal) x0 (ix2 s 0) = val_main_v8 (F := Ideal) x0 (ix2 s 0) := rfl

include h0 in
theorem matrix (x4 : S1x32x4096x8192.Idx → EReal) (s : Fin 56) (k : Fin 4096) (Q : Fin 8192) :
    val_main_v9 (F := Ideal) x0 x4 (ix3 s k Q) = x4 (ix4 0 ⟨(x0 (ix1 s)).toNat, h0 _⟩ k Q) := by
  refine (Tables.matrices_at gather_S32x4096x8192_S56x1_S56x4096x8192_12_0_n_n_0_1_140968192.wf
    (val_main_v2 (F := Ideal) x4) (val_main_v8 (F := Ideal) x0) s k Q _ (number x0 h0 s) (h0 _)).trans ?_
  rw [val_main_v2_apply]
  refine congrArg x4 (funext fun a => Fin.ext ?_)
  have := h0 (ix1 s)
  match a with
  | ⟨0, _⟩ => rfl
  | ⟨1, _⟩ => show (((x0 (ix1 s)).toNat * 4096 + k.val) * 8192 + Q.val) / 33554432 % 32 = (x0 (ix1 s)).toNat; omega
  | ⟨2, _⟩ => show (((x0 (ix1 s)).toNat * 4096 + k.val) * 8192 + Q.val) / 8192 % 4096 = k.val; omega
  | ⟨3, _⟩ => show (((x0 (ix1 s)).toNat * 4096 + k.val) * 8192 + Q.val) % 8192 = Q.val; omega

include h0 in
theorem bias (x5 : S1x32x8192.Idx → EReal) (s : Fin 56) (Q : Fin 8192) :
    val_main_v18 (F := Ideal) x0 x5 (ix2 s Q) = x5 (ix3 0 ⟨(x0 (ix1 s)).toNat, h0 _⟩ Q) := by
  refine (Tables.rows_at gather_S32x8192_S56x1_S56x8192_1_0_n_n_0_1_18192.wf
    (val_main_v11 (F := Ideal) x5) (val_main_v17 (F := Ideal) x0) s Q _ ((number' x0 s).trans (number x0 h0 s)) (h0 _)).trans ?_
  rw [val_main_v11_apply]
  refine congrArg x5 (funext fun a => Fin.ext ?_)
  have := h0 (ix1 s)
  match a with
  | ⟨0, _⟩ => rfl
  | ⟨1, _⟩ => show ((x0 (ix1 s)).toNat * 8192 + Q.val) / 8192 % 32 = (x0 (ix1 s)).toNat; omega
  | ⟨2, _⟩ => show ((x0 (ix1 s)).toNat * 8192 + Q.val) % 8192 = Q.val; omega

include h0 in
/-- Both halves before the gate. -/
theorem both (x3 : S86016x4096.Idx → EReal) (x4 : S1x32x4096x8192.Idx → EReal) (x5 : S1x32x8192.Idx → EReal) (s : Fin 56) (r : Fin 1536) (Q : Fin 8192) :
    val_main_v21 (F := Ideal) x0 x3 x4 x5 (ix3 s r Q) = entry x3 x4 x5 ⟨(x0 (ix1 s)).toNat, h0 _⟩ ⟨1536 * s.val + r.val, by omega⟩ Q := by
  rw [val_main_v21_apply, val_main_v20_apply, val_main_v19_apply, val_main_v10_apply]
  have hb : val_main_v18 (F := Ideal) x0 x5 (idx_main_v19 (idx_main_v20 (ix3 s r Q))) = x5 (ix3 0 ⟨(x0 (ix1 s)).toNat, h0 _⟩ Q) :=
    (congrArg _ (funext fun a => match a with | ⟨0, _⟩ => rfl | ⟨1, _⟩ => rfl)).trans (bias x0 h0 x5 s Q)
  rw [hb]
  refine congrArg₂ (· + ·) (Finset.sum_congr rfl fun k _ => congrArg₂ (· * ·) ?_ ?_) rfl
  · rw [val_main_v1_apply]
    refine congrArg x3 (funext fun a => Fin.ext ?_)
    match a with
    | ⟨0, _⟩ => show ((s.val * 1536 + r.val) * 4096 + k.val) / 4096 = 1536 * s.val + r.val; omega
    | ⟨1, _⟩ => show ((s.val * 1536 + r.val) * 4096 + k.val) % 4096 = k.val; omega
  · exact (congrArg _ (funext fun a => match a with | ⟨0, _⟩ => rfl | ⟨1, _⟩ => rfl | ⟨2, _⟩ => rfl)).trans (matrix x0 h0 x4 s k Q)

theorem one_word : (FloatOps.ofBits .f32 0x3F800000#32 : Ideal .f32) = (1 : EReal) := by
  show Ideal.ofBits .f32 0x3F800000#32 = 1
  simp [Ideal.ofBits, Ideal.ieee, -EReal.coe_mul]; norm_num

theorem logistic_spelt (x : EReal) : FloatOps.hostDivf (F := Ideal) (φ := .f32) (FloatOps.ofBits .f32 0x3F800000#32)
    (FloatOps.addf (FloatOps.ofBits .f32 0x3F800000#32) (FloatOps.hostUnary .exp (FloatOps.hostNegf x))) = FloatOps.logistic (F := Ideal) (φ := .f32) x := by
  rw [show (FloatOps.ofBits .f32 0x3F800000#32 : Ideal .f32) = (1 : EReal) from one_word]
  rfl

include h0 in
/-- The reference's result at a row of a stretch. -/
theorem value (x3 : S86016x4096.Idx → EReal) (x4 : S1x32x4096x8192.Idx → EReal) (x5 : S1x32x8192.Idx → EReal) (s : Fin 56) (r : Fin 1536) (Q : Fin 4096) :
    val_main_v40 (F := Ideal) x0 x3 x4 x5 (ix2 ⟨1536 * s.val + r.val, by omega⟩ Q)
      = gated (entry x3 x4 x5 ⟨(x0 (ix1 s)).toNat, h0 _⟩ ⟨1536 * s.val + r.val, by omega⟩ ⟨Q.val, by omega⟩)
          (entry x3 x4 x5 ⟨(x0 (ix1 s)).toNat, h0 _⟩ ⟨1536 * s.val + r.val, by omega⟩ ⟨4096 + Q.val, by omega⟩) := by
  rw [val_main_v40_apply, val_main_v39_apply, show idx_main_v39 (ix2 ⟨1536 * s.val + r.val, by omega⟩ Q) = ix3 s r Q from funext fun a => Fin.ext (by
    match a with
    | ⟨0, _⟩ => show ((1536 * s.val + r.val) * 4096 + Q.val) / 6291456 = s.val; omega
    | ⟨1, _⟩ => show ((1536 * s.val + r.val) * 4096 + Q.val) / 4096 % 1536 = r.val; omega
    | ⟨2, _⟩ => show ((1536 * s.val + r.val) * 4096 + Q.val) % 4096 = Q.val; omega)]
  have e1 : val_main_v22 (F := Ideal) x0 x3 x4 x5 (ix3 s r Q) = entry x3 x4 x5 ⟨(x0 (ix1 s)).toNat, h0 _⟩ ⟨1536 * s.val + r.val, by omega⟩ ⟨Q.val, by omega⟩ := by
    rw [val_main_v22_apply, show idx_main_v22 (ix3 s r Q) = ix3 s r ⟨Q.val, by omega⟩ from funext fun a => Fin.ext (by
      match a with
      | ⟨0, _⟩ => rfl
      | ⟨1, _⟩ => rfl
      | ⟨2, _⟩ => rfl)]
    exact both x0 h0 x3 x4 x5 s r ⟨Q.val, by omega⟩
  have e2 : val_main_v25 (F := Ideal) x0 x3 x4 x5 (ix3 s r Q) = entry x3 x4 x5 ⟨(x0 (ix1 s)).toNat, h0 _⟩ ⟨1536 * s.val + r.val, by omega⟩ ⟨4096 + Q.val, by omega⟩ := by
    rw [val_main_v25_apply, show idx_main_v25 (ix3 s r Q) = ix3 s r ⟨4096 + Q.val, by omega⟩ from funext fun a => Fin.ext (by
      match a with
      | ⟨0, _⟩ => rfl
      | ⟨1, _⟩ => rfl
      | ⟨2, _⟩ => rfl)]
    exact both x0 h0 x3 x4 x5 s r ⟨4096 + Q.val, by omega⟩
  rw [val_main_v38_apply, val_main_v37_apply, val_main_v36_apply, val_main_v35_apply, val_main_v34_apply, val_main_v33_apply, val_main_v32_apply,
    val_main_v31_apply, val_main_v30_apply, val_main_v29_apply, val_main_v28_apply, val_main_v27_apply, val_main_v26_apply, val_main_call0_v4_apply,
    val_main_call0_v2_apply, val_main_call0_v1_apply, val_main_v24_apply, val_main_v23_apply, e1, e2,
    val_main_cst_7_apply, val_main_cst_8_apply, logistic_spelt]
  rfl

end Cert.Proof.UpRef

end
-- ==== Proof.UpValue.lean ====
/- What the first expert product leaves on the rows in use: each row times the two halves of its stretch's expert's
   matrix, plus the biases, the one gated by the other. Every number of row groups writes the same values, on more or fewer rows. -/
module

public import proofs.«01_k».proof.Proof.UpRun
public import proofs.«01_k».proof.Proof.UpRef
public import Idealize.ShloMosaic.Lib.Pipeline.ArrRel
public import Idealize.ShloMosaic.Lib.Pipeline.Covers

@[expose] public section

set_option maxRecDepth 16384

noncomputable section

namespace Cert.Proof.UpValue

open Cert.Up Cert.Up.Gen Idealize.ShloMosaic Idealize.ShloMosaic.TcCoe Idealize.SL.Sem
open Idealize.ShloMosaic.Pipeline (RDat Dat Cfg Window)
open Cert.Proof.UpBody Cert.Proof.UpRun
open Cert.Proof.UpRef (entry gated)

/-! ## One block -/

/-- A row of a block times the block's columns, plus the bias at the place `z`. -/
def half (x0 : S1536x4096.Idx → EReal) (x1 : S1x4096x256.Idx → EReal) (x2 : S1x1x8192.Idx → EReal) (z : Nat) (hz : z + 256 ≤ 8192) (r : Fin 1536) (q : Fin 256) : EReal :=
  (∑ k : Fin 4096, x0 (ix2 r k) * x1 (ix3 0 k q)) + x2 (ix3 0 0 ⟨z + q.val, by omega⟩)

/-- What is stored for `M` rows, at an index. -/
def Pays {M : Nat} (pay : ((⟨2, ![M, 4096]⟩ : Shape).Idx → EReal) → (S1x4096x256.Idx → EReal) → (S1x1x256.Idx → EReal)
    → (S1x4096x256.Idx → EReal) → (S1x1x256.Idx → EReal) → (⟨2, ![M, 256]⟩ : Shape).Idx → EReal) : Prop :=
  ∀ a b d b' d' r q, pay a b d b' d' (ix2 r q)
    = gated ((∑ k : Fin 4096, a (ix2 r k) * b (ix3 0 k q)) + d (ix3 0 0 q)) ((∑ k : Fin 4096, a (ix2 r k) * b' (ix3 0 k q)) + d' (ix3 0 0 q))

theorem pays1 : Pays (k0_pay1 (F := Ideal)) := fun a b d b' d' r q => by unfold k0_pay1 gated; pointwise
theorem pays2 : Pays (k0_pay2 (F := Ideal)) := fun a b d b' d' r q => by unfold k0_pay2 gated; pointwise
theorem pays3 : Pays (k0_pay3 (F := Ideal)) := fun a b d b' d' r q => by unfold k0_pay3 gated; pointwise
theorem pays4 : Pays (k0_pay4 (F := Ideal)) := fun a b d b' d' r q => by unfold k0_pay4 gated; pointwise
theorem pays5 : Pays (k0_pay5 (F := Ideal)) := fun a b d b' d' r q => by unfold k0_pay5 gated; pointwise
theorem pays6 : Pays (k0_pay6 (F := Ideal)) := fun a b d b' d' r q => by unfold k0_pay6 gated; pointwise
theorem pays7 : Pays (k0_pay7 (F := Ideal)) := fun a b d b' d' r q => by unfold k0_pay7 gated; pointwise
theorem pays8 : Pays (k0_pay8 (F := Ideal)) := fun a b d b' d' r q => by unfold k0_pay8 gated; pointwise
theorem pays9 : Pays (k0_pay9 (F := Ideal)) := fun a b d b' d' r q => by unfold k0_pay9 gated; pointwise
theorem pays10 : Pays (k0_pay10 (F := Ideal)) := fun a b d b' d' r q => by unfold k0_pay10 gated; pointwise
theorem pays11 : Pays (k0_pay11 (F := Ideal)) := fun a b d b' d' r q => by unfold k0_pay11 gated; pointwise
theorem pays12 : Pays (k0_pay12 (F := Ideal)) := fun a b d b' d' r q => by unfold k0_pay12 gated; pointwise

/-- Where a column's biases begin, in the first half and in the second. -/
theorem place (i : grid0.Static) : k0_off3 i = ![0, 0, (i 1).val * 256] := by
  have h : (i 1).val < 16 := (i 1).isLt
  have e : (BitVec.ofNat 32 (i 1).val * 256#32).toNat = (i 1).val * 256 := by
    rw [BitVec.toNat_mul, BitVec.toNat_ofNat, BitVec.toNat_ofNat]; omega
  show ![0, 0, (BitVec.ofNat 32 (i 1).val * 256#32).toNat] = _
  rw [e]
theorem place' (i : grid0.Static) : k0_off4 i = ![0, 0, 4096 + (i 1).val * 256] := by
  have h : (i 1).val < 16 := (i 1).isLt
  have e : (4096#32 + BitVec.ofNat 32 (i 1).val * 256#32).toNat = 4096 + (i 1).val * 256 := by
    rw [BitVec.toNat_add, BitVec.toNat_mul, BitVec.toNat_ofNat, BitVec.toNat_ofNat, BitVec.toNat_ofNat]; omega
  show ![0, 0, (4096#32 + BitVec.ofNat 32 (i 1).val * 256#32).toNat] = _
  rw [e]

/-- One product read through the rectangles of a store of `M` rows. -/
theorem half_of {M : Nat} (x0 : S1536x4096.Idx → EReal) (x1 : S1x4096x256.Idx → EReal) (x2 : S1x1x8192.Idx → EReal) (z : Nat) (hz : z + 256 ≤ 8192)
    {off : Fin 3 → Nat} (ho : off = ![0, 0, z]) (i0 i1 i2) (r : Fin 1536) (q : Fin 256) (hr : r.val < M) :
    (∑ k : Fin 4096, View.ld (Val := Elt Ideal) (e' := .bf16) x0 (Rect.unit (s := S1536x4096) ![0, 0] ![M, 4096] i0) (ix2 ⟨r.val, hr⟩ k)
        * View.ld (Val := Elt Ideal) (e' := .f32) x1 (Rect.unit (s := S1x4096x256) ![0, 0, 0] S1x4096x256.size i1) (ix3 0 k q))
      + View.ld (Val := Elt Ideal) (e' := .f32) x2 (Rect.unit (s := S1x1x8192) off S1x1x256.size i2) (ix3 0 0 q) = half x0 x1 x2 z hz r q := by
  subst ho
  unfold half
  refine congrArg₂ (· + ·) (Finset.sum_congr rfl fun k _ => congrArg₂ (· * ·) ?_ ?_) ?_
  · refine congrArg x0 (funext fun a => Fin.ext ?_)
    match a with
    | ⟨0, _⟩ => show 0 + 1 * r.val = r.val; omega
    | ⟨1, _⟩ => show 0 + 1 * k.val = k.val; omega
  · refine congrArg x1 (funext fun a => Fin.ext ?_)
    match a with
    | ⟨0, _⟩ => rfl
    | ⟨1, _⟩ => show 0 + 1 * k.val = k.val; omega
    | ⟨2, _⟩ => show 0 + 1 * q.val = q.val; omega
  · refine congrArg x2 (funext fun a => Fin.ext ?_)
    match a with
    | ⟨0, _⟩ => rfl
    | ⟨1, _⟩ => rfl
    | ⟨2, _⟩ => show z + 1 * q.val = z + q.val; omega

/-- Both halves, gated. -/
def cell (x0 : S1536x4096.Idx → EReal) (x1 x2 : S1x4096x256.Idx → EReal) (x3 : S1x1x8192.Idx → EReal) (j : Fin 16) (r : Fin 1536) (q : Fin 256) : EReal :=
  gated (half x0 x1 x3 (j.val * 256) (by omega) r q) (half x0 x2 x3 (4096 + j.val * 256) (by omega) r q)

/-- A store of `M` rows leaves the gated products on them. -/
theorem rows_of {M : Nat} {pay : ((⟨2, ![M, 4096]⟩ : Shape).Idx → EReal) → (S1x4096x256.Idx → EReal) → (S1x1x256.Idx → EReal)
      → (S1x4096x256.Idx → EReal) → (S1x1x256.Idx → EReal) → (⟨2, ![M, 256]⟩ : Shape).Idx → EReal}
    (hp : Pays pay) (x0 : S1536x4096.Idx → EReal) (x1 x2 : S1x4096x256.Idx → EReal) (x3 : S1x1x8192.Idx → EReal) (X : S1536x256.Idx → EReal) (j : Fin 16)
    {off off' : Fin 3 → Nat} (ho : off = ![0, 0, j.val * 256]) (ho' : off' = ![0, 0, 4096 + j.val * 256]) (i3 i0 i1 i2 i1' i2')
    (h : ∀ y, X ((Rect.unit (s := S1536x256) ![0, 0] ![M, 256] i3).emb y)
      = pay (View.ld (Val := Elt Ideal) (e' := .bf16) x0 (Rect.unit (s := S1536x4096) ![0, 0] ![M, 4096] i0))
          (View.ld (Val := Elt Ideal) (e' := .f32) x1 (Rect.unit (s := S1x4096x256) ![0, 0, 0] S1x4096x256.size i1))
          (View.ld (Val := Elt Ideal) (e' := .f32) x3 (Rect.unit (s := S1x1x8192) off S1x1x256.size i2))
          (View.ld (Val := Elt Ideal) (e' := .f32) x2 (Rect.unit (s := S1x4096x256) ![0, 0, 0] S1x4096x256.size i1'))
          (View.ld (Val := Elt Ideal) (e' := .f32) x3 (Rect.unit (s := S1x1x8192) off' S1x1x256.size i2')) y)
    (r : Fin 1536) (q : Fin 256) (hr : r.val < M) : X (ix2 r q) = cell x0 x1 x2 x3 j r q := by
  have e : (Rect.unit (s := S1536x256) ![0, 0] ![M, 256] i3).emb (ix2 ⟨r.val, hr⟩ q) = ix2 r q := funext fun a => Fin.ext (by
    match a with
    | ⟨0, _⟩ => show 0 + 1 * r.val = r.val; omega
    | ⟨1, _⟩ => show 0 + 1 * q.val = q.val; omega)
  rw [← e, h, hp]
  exact congrArg₂ gated (half_of x0 x1 x3 _ (by omega) ho i0 i1 i2 r q hr) (half_of x0 x2 x3 _ (by omega) ho' i0 i1' i2' r q hr)

/-- What a run leaves on the rows in use. -/
theorem cell_of_tile (i : grid0.Static) (w : BitVec 32) (hw : w.toNat ≤ 1536) (x0 : S1536x4096.Idx → EReal) (x1 x2 : S1x4096x256.Idx → EReal)
    (x3 : S1x1x8192.Idx → EReal) (X : S1536x256.Idx → EReal) (h : Tile (F := Ideal) i w x0 x1 x2 x3 X) (r : Fin 1536) (q : Fin 256) (hr : r.val < w.toNat) :
    X (ix2 r q) = cell x0 x1 x2 x3 (i 1) r q := by
  obtain ⟨N, hle, hN⟩ := groups w hw
  obtain ⟨h1, h2, h3, h4, h5, h6, h7, h8, h9, h10, h11, h12⟩ := h
  match N, hle, hN with
  | ⟨0, _⟩, hle, _ => exact absurd hr (by dsimp only at hle; omega)
  | ⟨1, _⟩, hle, hN => exact rows_of pays1 x0 x1 x2 x3 X (i 1) (place i) (place' i) _ _ _ _ _ _ (h1 ((hN 0).2 rfl)) r q (lt_of_lt_of_le hr hle)
  | ⟨2, _⟩, hle, hN => exact rows_of pays2 x0 x1 x2 x3 X (i 1) (place i) (place' i) _ _ _ _ _ _ (h2 ((hN 1).2 rfl)) r q (lt_of_lt_of_le hr hle)
  | ⟨3, _⟩, hle, hN => exact rows_of pays3 x0 x1 x2 x3 X (i 1) (place i) (place' i) _ _ _ _ _ _ (h3 ((hN 2).2 rfl)) r q (lt_of_lt_of_le hr hle)
  | ⟨4, _⟩, hle, hN => exact rows_of pays4 x0 x1 x2 x3 X (i 1) (place i) (place' i) _ _ _ _ _ _ (h4 ((hN 3).2 rfl)) r q (lt_of_lt_of_le hr hle)
  | ⟨5, _⟩, hle, hN => exact rows_of pays5 x0 x1 x2 x3 X (i 1) (place i) (place' i) _ _ _ _ _ _ (h5 ((hN 4).2 rfl)) r q (lt_of_lt_of_le hr hle)
  | ⟨6, _⟩, hle, hN => exact rows_of pays6 x0 x1 x2 x3 X (i 1) (place i) (place' i) _ _ _ _ _ _ (h6 ((hN 5).2 rfl)) r q (lt_of_lt_of_le hr hle)
  | ⟨7, _⟩, hle, hN => exact rows_of pays7 x0 x1 x2 x3 X (i 1) (place i) (place' i) _ _ _ _ _ _ (h7 ((hN 6).2 rfl)) r q (lt_of_lt_of_le hr hle)
  | ⟨8, _⟩, hle, hN => exact rows_of pays8 x0 x1 x2 x3 X (i 1) (place i) (place' i) _ _ _ _ _ _ (h8 ((hN 7).2 rfl)) r q (lt_of_lt_of_le hr hle)
  | ⟨9, _⟩, hle, hN => exact rows_of pays9 x0 x1 x2 x3 X (i 1) (place i) (place' i) _ _ _ _ _ _ (h9 ((hN 8).2 rfl)) r q (lt_of_lt_of_le hr hle)
  | ⟨10, _⟩, hle, hN => exact rows_of pays10 x0 x1 x2 x3 X (i 1) (place i) (place' i) _ _ _ _ _ _ (h10 ((hN 9).2 rfl)) r q (lt_of_lt_of_le hr hle)
  | ⟨11, _⟩, hle, hN => exact rows_of pays11 x0 x1 x2 x3 X (i 1) (place i) (place' i) _ _ _ _ _ _ (h11 ((hN 10).2 rfl)) r q (lt_of_lt_of_le hr hle)
  | ⟨12, _⟩, hle, hN => exact rows_of pays12 x0 x1 x2 x3 X (i 1) (place i) (place' i) _ _ _ _ _ _ (h12 ((hN 11).2 rfl)) r q (lt_of_lt_of_le hr hle)

/-! ## The blocks of a point -/

variable (m : (ℓ : Loc nD τ sig) → Buf (Elt Ideal) ℓ) (ρ : Dev nD → PrngReg) (hR : Ranges m)

abbrev stretch (t : Fin (cfgA m hR).N) : Fin 56 := ⟨(crd m hR t 0).val, stretch_lt (tables m) (live_le m hR) (crd m hR t)⟩
abbrev column (t : Fin (cfgA m hR).N) : Fin 16 := ⟨(crd m hR t 1).val, column_lt (tables m) (crd m hR t)⟩
abbrev expert (c : Dev nD) (hE : ∀ s, (m ((c : Thread nD τ).loc main_arg0) s : BitVec 32).toNat < 32) (s : Fin 56) : Fin 32 :=
  ⟨(m ((c : Thread nD τ).loc main_arg0) (ix1 s) : BitVec 32).toNat, hE _⟩

include hR in
theorem experts (c : Dev nD) : ∀ s, (m ((c : Thread nD τ).loc main_arg0) s : BitVec 32).toNat < 32 := by
  obtain rfl : c = 0 := Subsingleton.elim _ _
  exact hR.expert

/-- The expert's number as the windows read it. -/
theorem word_of (c : Dev nD) (s : Fin 56) : ((tables m).atD 1 ![s.val] : BitVec 32) = m ((c : Thread nD τ).loc main_arg0) (ix1 s) := by
  obtain rfl : c = 0 := Subsingleton.elim _ _
  unfold Pipeline.Prefetch.Contents.atD
  have hs : ∀ a : Fin 1, (![s.val] : Fin 1 → Nat) a + 1 ≤ S56.size a := fun a => by fin_cases a; exact s.isLt
  refine (dif_pos fun a => hs a).trans ?_
  show V m 0 main_arg0 _ = _
  rw [V_arg0]
  exact congrArg _ (funext fun a => match a with | ⟨0, _⟩ => rfl)

theorem count_of (c : Dev nD) (t : Fin (cfgA m hR).N) :
    count (F := Ideal) (tables m 2) (word m hR t) (check m hR t) = m ((c : Thread nD τ).loc main_arg1) (ix1 (stretch m hR t)) := by
  obtain rfl : c = 0 := Subsingleton.elim _ _
  rw [show tables m 2 = V m 0 main_arg1 from rfl, V_arg1]
  have hs := stretch_lt (tables m) (live_le m hR) (crd m hR t)
  refine congrArg (m (((0 : Dev nD) : Thread nD τ).loc main_arg1)) (funext fun a => Fin.ext ?_)
  match a with
  | ⟨0, _⟩ =>
    show (word m hR t).toNat + 1 * 0 = (crd m hR t 0).val
    rw [BitVec.toNat_ofNat, Nat.mod_eq_of_lt (by omega)]; omega

theorem rows_at (c : Dev nD) (t : Fin (cfgA m hR).N) (r : Fin 1536) (k : Fin 4096) :
    (blockAt m hR c (0 : Fin 5) t : S1536x4096.Idx → EReal) (ix2 r k)
      = (m ((c : Thread nD τ).loc main_arg3) : S86016x4096.Idx → EReal) (ix2 ⟨1536 * (stretch m hR t).val + r.val, by omega⟩ k) := by
  show V m c main_arg3 ((((cfgA m hR).win (0 : Fin 5)).blk t).view.emb (ix2 r k)) = _
  rw [V_arg3]
  refine congrArg _ (funext fun a => Fin.ext ?_)
  have hi := index0 (tables m) (live_le m hR) (crd m hR t)
  match a with
  | ⟨0, _⟩ => show cc0_transform_0 (dynb0 (tables m)) (crd m hR t) 0 * 1536 + 1 * r.val = 1536 * (crd m hR t 0).val + r.val
              rw [hi]; show (crd m hR t 0).val * 1536 + 1 * r.val = _; omega
  | ⟨1, _⟩ => show cc0_transform_0 (dynb0 (tables m)) (crd m hR t) 1 * 4096 + 1 * k.val = k.val
              rw [hi]; show 0 * 4096 + 1 * k.val = _; omega

theorem weight_cast (W : S1x32x4096x8192.Idx → EReal) (e : Fin 32) (k : Fin 4096) (q : Fin 8192) :
    shapeCast (α := EReal) S32x4096x8192 W shapeCasts_S1x32x4096x8192_S32x4096x8192 (ix3 e k q) = W (ix4 0 e k q) := by
  pointwise

theorem bias_cast (b : S1x32x8192.Idx → EReal) (e : Fin 32) (q : Fin 8192) :
    shapeCast (α := EReal) S32x1x8192 (shapeCast (α := EReal) S32x8192 b shapeCasts_S1x32x8192_S32x8192) shapeCasts_S32x8192_S32x1x8192 (ix3 e 0 q) = b (ix3 0 e q) := by
  pointwise

theorem first_at (c : Dev nD) (t : Fin (cfgA m hR).N) (k : Fin 4096) (q : Fin 256) :
    (blockAt m hR c (1 : Fin 5) t : S1x4096x256.Idx → EReal) (ix3 0 k q)
      = (m ((c : Thread nD τ).loc main_arg4) : S1x32x4096x8192.Idx → EReal) (ix4 0 (expert m c (experts m hR c) (stretch m hR t)) k ⟨(column m hR t).val * 256 + q.val, by omega⟩) := by
  show V m c main_v0 ((((cfgA m hR).win (1 : Fin 5)).blk t).view.emb (ix3 0 k q)) = _
  rw [V_v0]
  refine Eq.trans (congrArg _ (funext fun a => Fin.ext ?_)) (weight_cast _ _ _ _)
  have hi := index1 (tables m) (live_le m hR) (crd m hR t)
  have hw := congrArg BitVec.toNat (word_of m c (stretch m hR t))
  match a with
  | ⟨0, _⟩ => show cc0_transform_1 (tables m) (dynb0 (tables m)) (crd m hR t) 0 * 1 + 1 * 0 = _
              rw [hi]; exact (Nat.mul_one _).trans hw
  | ⟨1, _⟩ => show cc0_transform_1 (tables m) (dynb0 (tables m)) (crd m hR t) 1 * 4096 + 1 * k.val = k.val
              rw [hi]; show 0 * 4096 + 1 * k.val = _; omega
  | ⟨2, _⟩ => show cc0_transform_1 (tables m) (dynb0 (tables m)) (crd m hR t) 2 * 256 + 1 * q.val = (crd m hR t 1).val * 256 + q.val
              rw [hi]; show (crd m hR t 1).val * 256 + 1 * q.val = _; omega

theorem second_at (c : Dev nD) (t : Fin (cfgA m hR).N) (k : Fin 4096) (q : Fin 256) :
    (blockAt m hR c (2 : Fin 5) t : S1x4096x256.Idx → EReal) (ix3 0 k q)
      = (m ((c : Thread nD τ).loc main_arg4) : S1x32x4096x8192.Idx → EReal) (ix4 0 (expert m c (experts m hR c) (stretch m hR t)) k ⟨4096 + ((column m hR t).val * 256 + q.val), by omega⟩) := by
  show V m c main_v0 ((((cfgA m hR).win (2 : Fin 5)).blk t).view.emb (ix3 0 k q)) = _
  rw [V_v0]
  refine Eq.trans (congrArg _ (funext fun a => Fin.ext ?_)) (weight_cast _ _ _ _)
  have hi := index2 (tables m) (live_le m hR) (crd m hR t)
  have hw := congrArg BitVec.toNat (word_of m c (stretch m hR t))
  match a with
  | ⟨0, _⟩ => show cc0_transform_2 (tables m) (dynb0 (tables m)) (crd m hR t) 0 * 1 + 1 * 0 = _
              rw [hi]; exact (Nat.mul_one _).trans hw
  | ⟨1, _⟩ => show cc0_transform_2 (tables m) (dynb0 (tables m)) (crd m hR t) 1 * 4096 + 1 * k.val = k.val
              rw [hi]; show 0 * 4096 + 1 * k.val = _; omega
  | ⟨2, _⟩ => show cc0_transform_2 (tables m) (dynb0 (tables m)) (crd m hR t) 2 * 256 + 1 * q.val = 4096 + ((crd m hR t 1).val * 256 + q.val)
              rw [hi]; show (16 + (crd m hR t 1).val) * 256 + 1 * q.val = _; omega

theorem bias_at (c : Dev nD) (t : Fin (cfgA m hR).N) (q : Fin 8192) :
    (blockAt m hR c (3 : Fin 5) t : S1x1x8192.Idx → EReal) (ix3 0 0 q)
      = (m ((c : Thread nD τ).loc main_arg5) : S1x32x8192.Idx → EReal) (ix3 0 (expert m c (experts m hR c) (stretch m hR t)) q) := by
  show V m c main_v2 ((((cfgA m hR).win (3 : Fin 5)).blk t).view.emb (ix3 0 0 q)) = _
  rw [V_v2]
  refine Eq.trans (congrArg _ (funext fun a => Fin.ext ?_)) (bias_cast _ _ _)
  have hi := index3 (tables m) (live_le m hR) (crd m hR t)
  have hw := congrArg BitVec.toNat (word_of m c (stretch m hR t))
  match a with
  | ⟨0, _⟩ => show cc0_transform_3 (tables m) (dynb0 (tables m)) (crd m hR t) 0 * 1 + 1 * 0 = _
              rw [hi]; exact (Nat.mul_one _).trans hw
  | ⟨1, _⟩ => show cc0_transform_3 (tables m) (dynb0 (tables m)) (crd m hR t) 1 * 1 + 1 * 0 = 0
              rw [hi]; rfl
  | ⟨2, _⟩ => show cc0_transform_3 (tables m) (dynb0 (tables m)) (crd m hR t) 2 * 8192 + 1 * q.val = q.val
              rw [hi]; show 0 * 8192 + 1 * q.val = _; omega

/-- The result's entry at a row of a stretch. -/
def target (c : Dev nD) (hE : ∀ s, (m ((c : Thread nD τ).loc main_arg0) s : BitVec 32).toNat < 32) (s : Fin 56) (r : Fin 1536) (Q : Fin 4096) : EReal :=
  gated (entry (m ((c : Thread nD τ).loc main_arg3)) (m ((c : Thread nD τ).loc main_arg4)) (m ((c : Thread nD τ).loc main_arg5))
      (expert m c hE s) ⟨1536 * s.val + r.val, by omega⟩ ⟨Q.val, by omega⟩)
    (entry (m ((c : Thread nD τ).loc main_arg3)) (m ((c : Thread nD τ).loc main_arg4)) (m ((c : Thread nD τ).loc main_arg5))
      (expert m c hE s) ⟨1536 * s.val + r.val, by omega⟩ ⟨4096 + Q.val, by omega⟩)

/-- What a point leaves on its rows in use. -/
theorem left_at (c : Dev nD) (t : Fin (cfgA m hR).N) (X : S1536x256.Idx → EReal) (h : Left m hR c t X) (r : Fin 1536) (q : Fin 256)
    (hr : r.val < (m ((c : Thread nD τ).loc main_arg1) (ix1 (stretch m hR t)) : BitVec 32).toNat) :
    X (ix2 r q) = target m c (experts m hR c) (stretch m hR t) r ⟨(column m hR t).val * 256 + q.val, by omega⟩ := by
  rw [← count_of m hR c t] at hr
  refine (cell_of_tile (fixed m hR t) _ (count_le m hR _ _) _ _ _ _ X h r q hr).trans ?_
  unfold cell target half entry
  refine congrArg₂ gated (congrArg₂ (· + ·) (Finset.sum_congr rfl fun k _ => congrArg₂ (· * ·) (rows_at m hR c t r k) (first_at m hR c t k q)) ?_)
    (congrArg₂ (· + ·) (Finset.sum_congr rfl fun k _ => congrArg₂ (· * ·) (rows_at m hR c t r k) (second_at m hR c t k q)) ?_)
  · exact bias_at m hR c t ⟨(column m hR t).val * 256 + q.val, by omega⟩
  · refine Eq.trans (congrArg (blockAt m hR c (3 : Fin 5) t : S1x1x8192.Idx → EReal) ?_) (bias_at m hR c t ⟨4096 + ((column m hR t).val * 256 + q.val), by omega⟩)
    exact congrArg (fun z => (ix3 0 0 z : S1x1x8192.Idx)) (Fin.ext (Nat.add_assoc 4096 ((column m hR t).val * 256) q.val))

/-! ## The array -/

/-- The point of a stretch and a column. -/
theorem point (s : Fin 56) (hs : s.val < (tables m 0 (fun a => a.elim0) : BitVec 32).toNat) (j : Fin 16) :
    ∃ t : Fin (cfgA m hR).N, stretch m hR t = s ∧ column m hR t = j := by
  obtain ⟨t, ht⟩ := Pipeline.Grid.coords_surjective (cfgA m hR).grid (fun a => match a with | ⟨0, _⟩ => ⟨s.val, hs⟩ | ⟨1, _⟩ => ⟨j.val, j.isLt⟩)
  exact ⟨t, Fin.ext (congrArg (fun x => (x 0).val) ht), Fin.ext (congrArg (fun x => (x 1).val) ht)⟩

theorem out_emb (t : Fin (cfgA m hR).N) (r : Fin 1536) (q : Fin 256) :
    (((cfgA m hR).win (4 : Fin 5)).blk t).view.emb (ix2 r q) = (ix2 ⟨1536 * (stretch m hR t).val + r.val, by omega⟩ ⟨(column m hR t).val * 256 + q.val, by omega⟩ : S86016x4096.Idx) := by
  have hi := index4 (tables m) (live_le m hR) (crd m hR t)
  refine funext fun a => Fin.ext ?_
  match a with
  | ⟨0, _⟩ => show cc0_transform_4 (dynb0 (tables m)) (crd m hR t) 0 * 1536 + 1 * r.val = 1536 * (crd m hR t 0).val + r.val
              rw [hi]; show (crd m hR t 0).val * 1536 + 1 * r.val = _; omega
  | ⟨1, _⟩ => show cc0_transform_4 (dynb0 (tables m)) (crd m hR t) 1 * 256 + 1 * q.val = (crd m hR t 1).val * 256 + q.val
              rw [hi]; show (crd m hR t 1).val * 256 + 1 * q.val = _; omega

/-- The result on the rows in use. -/
theorem value (r : PUnit × MemSt nD τ sig (Elt Ideal)) (h : RDat.FramePost (cfgA m hR) (data m hR) (V m) r) (c : Dev nD) (s : Fin 56) (y : Fin 1536) (Q : Fin 4096)
    (hs : s.val < (m ((c : Thread nD τ).loc main_arg2) (ix1 0) : BitVec 32).toNat) (hy : y.val < (m ((c : Thread nD τ).loc main_arg1) (ix1 s) : BitVec 32).toNat) :
    (r.2.mem ((c : Thread nD τ).loc main_v4) : S86016x4096.Idx → EReal) (ix2 ⟨1536 * s.val + y.val, by omega⟩ Q)
      = target m c (experts m hR c) s y Q := by
  haveI : ∀ e, Nonempty (Elt Ideal e) := fun e => ⟨Classical.choice (by cases e <;> exact inferInstance)⟩
  obtain ⟨after, hL, hA⟩ := h.exists_exact c
  have hlive : s.val < (tables m 0 (fun a => a.elim0) : BitVec 32).toNat := by
    obtain rfl : c = 0 := Subsingleton.elim _ _
    rw [show tables m 0 = V m 0 main_v3 from rfl, V_v3]
    refine lt_of_lt_of_eq hs (congrArg BitVec.toNat ?_)
    exact congrArg _ (funext fun a => match a with | ⟨0, _⟩ => Subsingleton.elim (α := Fin 1) _ _)
  obtain ⟨t₀, h0, h1⟩ := point m hR s hlive ⟨Q.val / 256, by omega⟩
  obtain ⟨t, -, hf, hix⟩ := Window.exists_flush_same_index ((cfgA m hR).win (4 : Fin 5)) rfl t₀
  have hix := (index4 (tables m) (live_le m hR) (crd m hR t)).symm.trans (hix.trans (index4 (tables m) (live_le m hR) (crd m hR t₀)))
  have h0' : stretch m hR t = s := (Fin.ext (show (stretch m hR t).val = (stretch m hR t₀).val from congrFun hix 0)).trans h0
  have h1' : column m hR t = ⟨Q.val / 256, by omega⟩ := (Fin.ext (show (column m hR t).val = (column m hR t₀).val from congrFun hix 1)).trans h1
  have hmem : (ix2 ⟨1536 * s.val + y.val, by omega⟩ Q : S86016x4096.Idx) ∈ (((cfgA m hR).win (4 : Fin 5)).blk t).view.set := by
    have e : (ix2 ⟨1536 * s.val + y.val, by omega⟩ Q : S86016x4096.Idx) = (((cfgA m hR).win (4 : Fin 5)).blk t).view.emb (ix2 y ⟨Q.val % 256, by omega⟩) := by
      rw [out_emb]
      refine funext fun a => Fin.ext ?_
      have h0'' := congrArg Fin.val h0'
      have h1'' := congrArg Fin.val h1'
      match a with
      | ⟨0, _⟩ => show 1536 * s.val + y.val = 1536 * (stretch m hR t).val + y.val; rw [h0'']
      | ⟨1, _⟩ => show Q.val = (column m hR t).val * 256 + Q.val % 256; rw [h1'']; dsimp only; omega
    rw [e]
    exact View.emb_mem_set _ _
  refine (congrFun (hA (4 : Fin 5)) _).trans ?_
  refine Dat.arrAt_forall_of_flushed ((data m hR c).withAfter after) (4 : Fin 5)
    (fun i v => ∀ (s : Fin 56) (y : Fin 1536) (Q : Fin 4096), i = ix2 ⟨1536 * s.val + y.val, by omega⟩ Q →
      y.val < (m ((c : Thread nD τ).loc main_arg1) (ix1 s) : BitVec 32).toNat →
      v = target m c (experts m hR c) s y Q) ?_ (cfgA m hR).N t _ t.isLt hf hmem s y Q rfl hy
  intro u hu z s y Q hi hy
  obtain ⟨Y, -, hX⟩ := hL (4 : Fin 5) u hu
  have hX : Left m hR c u (after (4 : Fin 5) u) := hX
  obtain ⟨a, b, rfl⟩ : ∃ (a : Fin 1536) (b : Fin 256), z = ix2 a b := ⟨z 0, z 1, eq_ix2 z⟩
  rw [out_emb] at hi
  have e0 : 1536 * (stretch m hR u).val + a.val = 1536 * s.val + y.val := congrArg Fin.val (congrFun hi 0)
  have e1 : (column m hR u).val * 256 + b.val = Q.val := congrArg Fin.val (congrFun hi 1)
  obtain rfl : stretch m hR u = s := Fin.ext (by omega)
  obtain rfl : a = y := Fin.ext (by omega)
  have eQ : (⟨(column m hR u).val * 256 + b.val, by omega⟩ : Fin 4096) = Q := Fin.ext e1
  rw [← eQ]
  exact left_at m hR c u _ hX a b hy

end Cert.Proof.UpValue

end
-- ==== Proof.Experts.lean ====
/- The claims of the two expert products: the frames under the stated ranges of the tables, and agreement with the
   reference on the rows in use. -/
module

public import proofs.«01_k».proof.Defs
public import proofs.«01_k».proof.Proof.Same
public import proofs.«01_k».proof.Proof.Tables
public import proofs.«01_k».proof.Proof.DownValue
public import proofs.«01_k».proof.Proof.UpValue
public import proofs.«01_k».proof.Proof.Gen.DownIdeal
public import proofs.«01_k».proof.Proof.Gen.UpIdeal
public import proofs.«01_k».proof.Proof.Gen.DownRefIdeal.Run
public import proofs.«01_k».proof.Proof.Gen.DownRefIdeal.Read
public import proofs.«01_k».proof.Proof.Gen.UpRefIdeal.Run
public import proofs.«01_k».proof.Proof.Gen.UpRefIdeal.Read
public import proofs.«01_k».proof.Proof.Gen.Pre_ranges_down
public import proofs.«01_k».proof.Proof.Gen.Pre_ranges_up
public import proofs.«01_k».proof.Proof.Gen.On_used_down
public import proofs.«01_k».proof.Proof.Gen.On_used_up

@[expose] public section

set_option maxRecDepth 16384

noncomputable section

namespace Cert.Proof.Experts

open Idealize.ShloMosaic Idealize.SL.Sem

/-- Every index of the result is a row of a stretch and a column. -/
theorem split (i : (⟨2, ![86016, 4096]⟩ : Shape).Idx) : ∃ (s : Fin 56) (y : Fin 1536) (Q : Fin 4096), i = ix2 ⟨1536 * s.val + y.val, by omega⟩ Q := by
  have h : (i 0).val < 86016 := (i 0).isLt
  refine ⟨⟨(i 0).val / 1536, by omega⟩, ⟨(i 0).val % 1536, by omega⟩, i 1, funext fun a => ?_⟩
  match a with
  | ⟨0, _⟩ => exact Fin.ext (show (i 0).val = 1536 * ((i 0).val / 1536) + (i 0).val % 1536 by omega)
  | ⟨1, _⟩ => rfl

/-! ## Down -/

theorem ranges_Down (m : (ℓ : Loc Cert.Down.nD Cert.Down.τ Cert.Down.sig) → Buf (Elt Bits) ℓ) (h : Cert.Pre_Down m) : Cert.Proof.DownRun.Ranges m :=
  have e := Cert.Proof.Tables.ranges_down _ _ _ _ _ _ (h 0)
  ⟨e.1, e.2.1, e.2.2⟩

theorem ranges_DownIdeal (m : (ℓ : Loc Cert.Down.nD Cert.Down.τ Cert.Down.sig) → Buf (Elt Ideal) ℓ) (h : Cert.Pre_DownIdeal m) : Cert.Proof.DownRun.Ranges m :=
  have e := Cert.Proof.Tables.ranges_down _ _ _ _ _ _ (h 0)
  ⟨e.1, e.2.1, e.2.2⟩

theorem frame_Down : Cert.quiescent_Down := fun m ρ h => Cert.Proof.DownRun.frame m ρ (ranges_Down m h)

theorem frame_DownIdeal : Cert.quiescent_DownIdeal := fun m ρ h =>
  Cert.Proof.Same.Down.run _ _ (Cert.Proof.DownRun.frame (F := Ideal) m ρ (ranges_DownIdeal m h))

theorem frame_DownRefIdeal : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)

/-- On the rows in use both programs end with the reference's entries. -/
theorem same_Down : Cert.algebraic_DownIdeal_DownRefIdeal_on_used_down := by
  intro m ρ m' ρ' hm agree
  have hR := ranges_DownIdeal m hm
  refine ⟨fun c => Cert.DownRefIdeal.Read.val_main_v22 (F := Ideal) (m ((c.tc : Thread Cert.Down.nD Cert.Down.τ).loc Cert.Down.main_arg0)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)),
    Cert.Proof.Same.Down.run _ _ ((θ_run Cert.Down.defs _ _).mono (fun r h c => ⟨fun i hi => ?_, Cert.Proof.DownRun.args_of_post (F := Ideal) m hR r h.1 c⟩)
      (Cert.Proof.DownRun.run (F := Ideal) m ρ hR)),
    (θ_run Cert.DownRefIdeal.defs _ _).mono (fun r h c => ⟨fun i _ => ?_, (h c).2⟩) (Cert.DownRefIdeal.Value.run (F := Ideal) m' ρ')⟩
  · obtain rfl : c = 0 := Subsingleton.elim _ _
    obtain ⟨s, y, Q, rfl⟩ := split i
    have u := Cert.Proof.Tables.used_of _ _ (hR.rows (ix1 s)) (hR.live (ix1 0)) y s ((Cert.Proof.Tables.used_down _ _ _ _ _ _ s y Q).symm.trans hi)
    exact (Cert.Proof.DownValue.value m hR r h.1 0 s y Q u.2 u.1).trans (Cert.Proof.DownRef.value (m (((0 : Dev Cert.Down.nD).tc : Thread Cert.Down.nD Cert.Down.τ).loc Cert.Down.main_arg0)) hR.expert _ _ _ s y Q).symm
  · refine congrFun ((h c).1.trans ?_) i
    obtain ⟨h0, -, -, h3, h4, h5⟩ := agree c
    rw [h0, h3, h4, h5]; rfl

/-! ## Up -/

theorem ranges_Up (m : (ℓ : Loc Cert.Up.nD Cert.Up.τ Cert.Up.sig) → Buf (Elt Bits) ℓ) (h : Cert.Pre_Up m) : Cert.Proof.UpRun.Ranges m :=
  have e := Cert.Proof.Tables.ranges_up _ _ _ _ _ _ (h 0)
  ⟨e.1, e.2.1, e.2.2⟩

theorem ranges_UpIdeal (m : (ℓ : Loc Cert.Up.nD Cert.Up.τ Cert.Up.sig) → Buf (Elt Ideal) ℓ) (h : Cert.Pre_UpIdeal m) : Cert.Proof.UpRun.Ranges m :=
  have e := Cert.Proof.Tables.ranges_up _ _ _ _ _ _ (h 0)
  ⟨e.1, e.2.1, e.2.2⟩

theorem frame_Up : Cert.quiescent_Up := fun m ρ h => Cert.Proof.UpRun.frame m ρ (ranges_Up m h)

theorem frame_UpIdeal : Cert.quiescent_UpIdeal := fun m ρ h =>
  Cert.Proof.Same.Up.run _ _ (Cert.Proof.UpRun.frame (F := Ideal) m ρ (ranges_UpIdeal m h))

theorem frame_UpRefIdeal : Cert.quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)

/-- On the rows in use both programs end with the reference's entries. -/
theorem same_Up : Cert.algebraic_UpIdeal_UpRefIdeal_on_used_up := by
  intro m ρ m' ρ' hm agree
  have hR := ranges_UpIdeal m hm
  refine ⟨fun c => Cert.UpRefIdeal.Read.val_main_v40 (F := Ideal) (m ((c.tc : Thread Cert.Up.nD Cert.Up.τ).loc Cert.Up.main_arg0)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)),
    Cert.Proof.Same.Up.run _ _ ((θ_run Cert.Up.defs _ _).mono (fun r h c => ⟨fun i hi => ?_, Cert.Proof.UpRun.args_of_post (F := Ideal) m hR r h.1 c⟩)
      (Cert.Proof.UpRun.run (F := Ideal) m ρ hR)),
    (θ_run Cert.UpRefIdeal.defs _ _).mono (fun r h c => ⟨fun i _ => ?_, (h c).2⟩) (Cert.UpRefIdeal.Value.run (F := Ideal) m' ρ')⟩
  · obtain rfl : c = 0 := Subsingleton.elim _ _
    obtain ⟨s, y, Q, rfl⟩ := split i
    have u := Cert.Proof.Tables.used_of _ _ (hR.rows (ix1 s)) (hR.live (ix1 0)) y s ((Cert.Proof.Tables.used_up _ _ _ _ _ _ s y Q).symm.trans hi)
    exact (Cert.Proof.UpValue.value m hR r h.1 0 s y Q u.2 u.1).trans (Cert.Proof.UpRef.value (m (((0 : Dev Cert.Up.nD).tc : Thread Cert.Up.nD Cert.Up.τ).loc Cert.Up.main_arg0)) hR.expert _ _ _ s y Q).symm
  · refine congrFun ((h c).1.trans ?_) i
    obtain ⟨h0, -, -, h3, h4, h5⟩ := agree c
    rw [Cert.UpRefIdeal.Read.val_main_v40_eq, h0, h3, h4, h5]

end Cert.Proof.Experts

end
-- ==== Proof.lean ====
/- The proof of the certificate: the frames of all programs, and agreement with the references where it is claimed. -/
module

public import proofs.«01_k».proof.Defs
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.InIdeal.Value
public import proofs.«01_k».proof.Proof.Gen.InRefIdeal.Run
public import proofs.«01_k».proof.Proof.Gen.InRefIdeal.Read
public import proofs.«01_k».proof.Proof.Gen.KvIdeal.Value
public import proofs.«01_k».proof.Proof.Gen.KvRefIdeal.Run
public import proofs.«01_k».proof.Proof.Gen.KvRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.DownRefIdeal
public import proofs.«01_k».proof.Proof.Gen.DownRefIdeal.Run
public import proofs.«01_k».proof.Proof.Gen.DownRefIdeal.Read
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_ranges_down
public import proofs.«01_k».proof.Proof.Gen.Pre_ranges_up
public import proofs.«01_k».proof.Proof.Gen.On_used_down
public import proofs.«01_k».proof.Proof.Gen.On_used_up
public import proofs.«01_k».proof.Proof.InValue
public import proofs.«01_k».proof.Proof.KvValue
public import proofs.«01_k».proof.Proof.OutValue
public import proofs.«01_k».proof.Proof.CsValue
public import proofs.«01_k».proof.Proof.CpValue
public import proofs.«01_k».proof.Proof.MaValue
public import Idealize.ShloMosaic.Adequacy
public import Idealize.ShloMosaic.Init
public import proofs.«01_k».proof.Proof.Gen.Cp
public import proofs.«01_k».proof.Proof.Gen.Cp.Skeleton
public import proofs.«01_k».proof.Proof.Gen.Cp.Launch
public import proofs.«01_k».proof.Proof.Gen.Cp.Points
public import proofs.«01_k».proof.Proof.Gen.Cp.Frame
public import proofs.«01_k».proof.Proof.Gen.Cp.Value
public import proofs.«01_k».proof.Proof.Gen.CpIdeal
public import proofs.«01_k».proof.Proof.Gen.CpIdeal.Skeleton
public import proofs.«01_k».proof.Proof.Gen.CpIdeal.Launch
public import proofs.«01_k».proof.Proof.Gen.CpIdeal.Points
public import proofs.«01_k».proof.Proof.Gen.CpIdeal.Frame
public import proofs.«01_k».proof.Proof.Gen.CpIdeal.Value
public import proofs.«01_k».proof.Proof.Gen.CpRefIdeal
public import proofs.«01_k».proof.Proof.Gen.CpRefIdeal.Run
public import proofs.«01_k».proof.Proof.Gen.CpRefIdeal.Read
public import proofs.«01_k».proof.Proof.Gen.Cs
public import proofs.«01_k».proof.Proof.Gen.Cs.Skeleton
public import proofs.«01_k».proof.Proof.Gen.Cs.Launch
public import proofs.«01_k».proof.Proof.Gen.Cs.Points
public import proofs.«01_k».proof.Proof.Gen.Cs.Frame
public import proofs.«01_k».proof.Proof.Gen.Cs.Value
public import proofs.«01_k».proof.Proof.Gen.CsIdeal
public import proofs.«01_k».proof.Proof.Gen.CsIdeal.Skeleton
public import proofs.«01_k».proof.Proof.Gen.CsIdeal.Launch
public import proofs.«01_k».proof.Proof.Gen.CsIdeal.Points
public import proofs.«01_k».proof.Proof.Gen.CsIdeal.Frame
public import proofs.«01_k».proof.Proof.Gen.CsIdeal.Value
public import proofs.«01_k».proof.Proof.Gen.CsRefIdeal
public import proofs.«01_k».proof.Proof.Gen.CsRefIdeal.Run
public import proofs.«01_k».proof.Proof.Gen.CsRefIdeal.Read
public import proofs.«01_k».proof.Proof.Gen.Ma
public import proofs.«01_k».proof.Proof.Gen.Ma.Skeleton
public import proofs.«01_k».proof.Proof.Gen.Ma.Launch
public import proofs.«01_k».proof.Proof.Gen.Ma.Points
public import proofs.«01_k».proof.Proof.Gen.Ma.Frame
public import proofs.«01_k».proof.Proof.Gen.Ma.Value
public import proofs.«01_k».proof.Proof.Gen.MaIdeal
public import proofs.«01_k».proof.Proof.Gen.MaIdeal.Skeleton
public import proofs.«01_k».proof.Proof.Gen.MaIdeal.Launch
public import proofs.«01_k».proof.Proof.Gen.MaIdeal.Points
public import proofs.«01_k».proof.Proof.Gen.MaIdeal.Frame
public import proofs.«01_k».proof.Proof.Gen.MaIdeal.Value
public import proofs.«01_k».proof.Proof.Gen.MaRefIdeal
public import proofs.«01_k».proof.Proof.Gen.MaRefIdeal.Run
public import proofs.«01_k».proof.Proof.Gen.MaRefIdeal.Read
public import proofs.«01_k».proof.Proof.Gen.Pre_finite_ma
public import proofs.«01_k».proof.Proof.AttnFrame
public import proofs.«01_k».proof.Proof.AttnIdealFrame
public import proofs.«01_k».proof.Proof.Experts

@[expose] public section

noncomputable section

namespace Cert.Proof

open Idealize.ShloMosaic Idealize.SL.Sem

theorem frame_Kernel : Cert.quiescent_Kernel := fun m ρ _ => Cert.Proof.AttnFrame.frame m ρ
theorem frame_KernelIdeal : Cert.quiescent_KernelIdeal := fun m ρ _ => Cert.Proof.AttnIdealFrame.frame m ρ
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The mask's number is read as the constant named for it. -/
theorem mask_named : Cert.preserves_Kernel_KernelIdeal := IdealRules.named_const.statement _ _ _ _ _ rfl

theorem frame_In : Cert.quiescent_In := fun m ρ _ => Cert.In.Gen.frame m ρ
theorem frame_InIdeal : Cert.quiescent_InIdeal := fun m ρ _ => Cert.InIdeal.Gen.frame m ρ
theorem frame_InRefIdeal : Cert.quiescent_InRefIdeal := fun m ρ _ =>
  (θ_run Cert.InRefIdeal.defs _ _).mono (fun r h => ⟨fun c => (h c).2, Idealize.ShloMosaic.sem_eq_zero_of_no_sems (by decide) r.2⟩)
    (Cert.InRefIdeal.Value.run (F := Ideal) m ρ)

/-- Both programs end with the array `prod` of the arguments. -/
theorem same_In : Cert.algebraic_InIdeal_InRefIdeal := by
  intro m ρ m' ρ' _ agree
  refine ⟨fun c => Cert.InIdeal.Product.prod (m ((c.tc : Thread Cert.InIdeal.nD Cert.InIdeal.τ).loc Cert.InIdeal.main_arg0)) (m ((c.tc : Thread Cert.InIdeal.nD Cert.InIdeal.τ).loc Cert.InIdeal.main_arg1)),
    (θ_run Cert.InIdeal.defs _ _).mono (fun r h c => ⟨(h c).1.trans (Cert.InIdeal.Product.final m c), (h c).2⟩)
      (Cert.InIdeal.Value.run_blocks m ρ),
    (θ_run Cert.InRefIdeal.defs _ _).mono (fun r h c => ⟨(h c).1.trans ?_, (h c).2⟩) (Cert.InRefIdeal.Value.run (F := Ideal) m' ρ')⟩
  obtain ⟨h0, h1⟩ := agree c
  rw [h0, h1]
  exact (Cert.InRefIdeal.Read.val_main_v2_eq _ _ ).trans (Cert.InRefIdeal.Product.value _ _ )

theorem frame_Kv : Cert.quiescent_Kv := fun m ρ _ => Cert.Kv.Gen.frame m ρ
theorem frame_KvIdeal : Cert.quiescent_KvIdeal := fun m ρ _ => Cert.KvIdeal.Gen.frame m ρ
theorem frame_KvRefIdeal : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)

/-- Both programs end with the array `prod` of the arguments. -/
theorem same_Kv : Cert.algebraic_KvIdeal_KvRefIdeal := by
  intro m ρ m' ρ' _ agree
  refine ⟨fun c => Cert.KvIdeal.Product.prod (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)),
    (θ_run Cert.KvIdeal.defs _ _).mono (fun r h c => ⟨(h c).1.trans (Cert.KvIdeal.Product.final m c), (h c).2⟩)
      (Cert.KvIdeal.Value.run_blocks m ρ),
    (θ_run Cert.KvRefIdeal.defs _ _).mono (fun r h c => ⟨(h c).1.trans ?_, (h c).2⟩) (Cert.KvRefIdeal.Value.run (F := Ideal) m' ρ')⟩
  obtain ⟨h0, h1, h2⟩ := agree c
  rw [h0, h1, h2]
  exact (Cert.KvRefIdeal.Read.val_main_v5_eq _ _ _ ).trans (Cert.KvRefIdeal.Product.value _ _ _ )

theorem frame_Out : Cert.quiescent_Out := fun m ρ _ => Cert.Out.Gen.frame m ρ
theorem frame_OutIdeal : Cert.quiescent_OutIdeal := fun m ρ _ => Cert.OutIdeal.Gen.frame m ρ
theorem frame_OutRefIdeal : Cert.quiescent_OutRefIdeal := fun m ρ _ =>
  (θ_run Cert.OutRefIdeal.defs _ _).mono (fun r h => ⟨fun c => (h c).2, Idealize.ShloMosaic.sem_eq_zero_of_no_sems (by decide) r.2⟩)
    (Cert.OutRefIdeal.Value.run (F := Ideal) m ρ)

/-- Both programs end with the array `total` of the arguments. -/
theorem same_Out : Cert.algebraic_OutIdeal_OutRefIdeal := by
  intro m ρ m' ρ' _ agree
  refine ⟨fun c => Cert.OutIdeal.Product.total (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6)),
    (θ_run Cert.OutIdeal.defs _ _).mono (fun r h c => ⟨(h c).1.trans (Cert.OutIdeal.Product.final m c), (h c).2⟩)
      (Cert.OutIdeal.Value.run_blocks m ρ),
    (θ_run Cert.OutRefIdeal.defs _ _).mono (fun r h c => ⟨(h c).1.trans ?_, (h c).2⟩) (Cert.OutRefIdeal.Value.run (F := Ideal) m' ρ')⟩
  obtain ⟨h0, h1, h2, h3, h4, h5, h6⟩ := agree c
  rw [h0, h1, h2, h3, h4, h5, h6]
  exact (Cert.OutRefIdeal.Read.val_main_v14_eq _ _ _ _ _ _ _ ).trans (Cert.OutRefIdeal.Product.value _ _ _ _ _ _ _ )

theorem frame_Cs : Cert.quiescent_Cs := fun m ρ _ => Cert.Cs.Gen.frame m ρ
theorem frame_CsIdeal : Cert.quiescent_CsIdeal := fun m ρ _ => Cert.CsIdeal.Gen.frame m ρ
theorem frame_CsRefIdeal : Cert.quiescent_CsRefIdeal := fun m ρ _ =>
  (θ_run Cert.CsRefIdeal.defs _ _).mono (fun r h => ⟨fun c => (h c).2, Idealize.ShloMosaic.sem_eq_zero_of_no_sems (by decide) r.2⟩)
    (Cert.CsRefIdeal.Value.run (F := Ideal) m ρ)

/-- Both programs hand on the sample's last gated rows. -/
theorem same_Cs : Cert.algebraic_CsIdeal_CsRefIdeal := by
  intro m ρ m' ρ' _ agree
  refine ⟨fun c => Cert.CsIdeal.Rows.last (m ((c.tc : Thread Cert.CsIdeal.nD Cert.CsIdeal.τ).loc Cert.CsIdeal.main_arg0)),
    (θ_run Cert.CsIdeal.defs _ _).mono (fun r h c => ⟨(h c).2.1.trans (Cert.CsIdeal.Rows.final m c), (h c).2.2⟩)
      (Cert.CsIdeal.Value.run_blocks m ρ),
    (θ_run Cert.CsRefIdeal.defs _ _).mono (fun r h c => ⟨(h c).1.trans ?_, (h c).2⟩) (Cert.CsRefIdeal.Value.run (F := Ideal) m' ρ')⟩
  obtain ⟨h0, h1, h2, h3, h4, h5, h6⟩ := agree c
  rw [h0]
  exact (Cert.CsRefIdeal.Read.val_main_v12_eq _ _).trans (Cert.CsRefIdeal.Rows.value _ _)

theorem frame_Cp : Cert.quiescent_Cp := fun m ρ _ => Cert.Cp.Gen.frame m ρ
theorem frame_CpIdeal : Cert.quiescent_CpIdeal := fun m ρ _ => Cert.CpIdeal.Gen.frame m ρ
theorem frame_CpRefIdeal : Cert.quiescent_CpRefIdeal := fun m ρ _ =>
  (θ_run Cert.CpRefIdeal.defs _ _).mono (fun r h => ⟨fun c => (h c).2, Idealize.ShloMosaic.sem_eq_zero_of_no_sems (by decide) r.2⟩)
    (Cert.CpRefIdeal.Value.run (F := Ideal) m ρ)

/-- Both programs hand on the prompt's last gated rows. -/
theorem same_Cp : Cert.algebraic_CpIdeal_CpRefIdeal := by
  intro m ρ m' ρ' _ agree
  refine ⟨fun c => Cert.CpIdeal.Rows.last (m ((c.tc : Thread Cert.CpIdeal.nD Cert.CpIdeal.τ).loc Cert.CpIdeal.main_arg0)),
    (θ_run Cert.CpIdeal.defs _ _).mono (fun r h c => ⟨(h c).2.1.trans (Cert.CpIdeal.Rows.final m c), (h c).2.2⟩)
      (Cert.CpIdeal.Value.run_blocks m ρ),
    (θ_run Cert.CpRefIdeal.defs _ _).mono (fun r h c => ⟨(h c).1.trans ?_, (h c).2⟩) (Cert.CpRefIdeal.Value.run (F := Ideal) m' ρ')⟩
  obtain ⟨h0, h1, h2, h3, h4, h5⟩ := agree c
  rw [h0]
  exact (Cert.CpRefIdeal.Read.val_main_v12_eq _).trans (Cert.CpRefIdeal.Rows.value _)

theorem frame_Ma : Cert.quiescent_Ma := fun m ρ _ => Cert.Ma.Gen.frame m ρ
theorem frame_MaIdeal : Cert.quiescent_MaIdeal := fun m ρ _ => Cert.MaIdeal.Gen.frame m ρ
theorem frame_MaRefIdeal : Cert.quiescent_MaRefIdeal := fun m ρ _ =>
  (θ_run Cert.MaRefIdeal.defs _ _).mono (fun r h => ⟨fun c => (h c).2, Idealize.ShloMosaic.sem_eq_zero_of_no_sems (by decide) r.2⟩)
    (Cert.MaRefIdeal.Value.run (F := Ideal) m ρ)

/-- Both programs end with the attention of the prompt's rows over the memory. -/
theorem same_Ma : Cert.algebraic_MaIdeal_MaRefIdeal_pre_finite_ma := by
  intro m ρ m' ρ' pre agree
  refine ⟨fun c => Cert.MaIdeal.Memory.att (m ((c.tc : Thread Cert.MaIdeal.nD Cert.MaIdeal.τ).loc Cert.MaIdeal.main_arg0)) (m ((c.tc : Thread Cert.MaIdeal.nD Cert.MaIdeal.τ).loc Cert.MaIdeal.main_arg1)),
    (θ_run Cert.MaIdeal.defs _ _).mono (fun r h c => ⟨(h c).1.trans (Cert.MaIdeal.Memory.final m c), (h c).2⟩)
      (Cert.MaIdeal.Value.run_blocks m ρ),
    (θ_run Cert.MaRefIdeal.defs _ _).mono (fun r h c => ⟨(h c).1.trans ?_, (h c).2⟩) (Cert.MaRefIdeal.Value.run (F := Ideal) m' ρ')⟩
  obtain ⟨h0, h1⟩ := agree c
  rw [h0, h1]
  exact (Cert.MaRefIdeal.Read.val_main_v23_eq _ _).trans (Cert.MaRefIdeal.Memory.agrees _ _ (pre c))

theorem claim : Cert.Claim := ⟨Cert.Kernel.Gen.facts, Cert.KernelIdeal.Gen.facts, Cert.ReferenceIdeal.Gen.facts, Cert.In.Gen.facts, Cert.InIdeal.Gen.facts, Cert.InRefIdeal.Gen.facts, Cert.Kv.Gen.facts, Cert.KvIdeal.Gen.facts, Cert.KvRefIdeal.Gen.facts, Cert.Out.Gen.facts, Cert.OutIdeal.Gen.facts, Cert.OutRefIdeal.Gen.facts, Cert.Down.Gen.facts, Cert.DownIdeal.Gen.facts, Cert.DownRefIdeal.Gen.facts, Cert.Up.Gen.facts, Cert.UpIdeal.Gen.facts, Cert.UpRefIdeal.Gen.facts, Cert.Cs.Gen.facts, Cert.CsIdeal.Gen.facts, Cert.CsRefIdeal.Gen.facts, Cert.Cp.Gen.facts, Cert.CpIdeal.Gen.facts, Cert.CpRefIdeal.Gen.facts, Cert.Ma.Gen.facts, Cert.MaIdeal.Gen.facts, Cert.MaRefIdeal.Gen.facts, Cert.Pre_ranges_down.Gen.facts, Cert.Pre_ranges_up.Gen.facts, Cert.Pre_finite_ma.Gen.facts, Cert.On_used_down.Gen.facts, Cert.On_used_up.Gen.facts,
  frame_Kernel, frame_KernelIdeal, frame_ReferenceIdeal, frame_In, frame_InIdeal, frame_InRefIdeal, frame_Kv, frame_KvIdeal, frame_KvRefIdeal, frame_Out, frame_OutIdeal, frame_OutRefIdeal, Experts.frame_Down, Experts.frame_DownIdeal, Experts.frame_DownRefIdeal, Experts.frame_Up, Experts.frame_UpIdeal, Experts.frame_UpRefIdeal, frame_Cs, frame_CsIdeal, frame_CsRefIdeal, frame_Cp, frame_CpIdeal, frame_CpRefIdeal, frame_Ma, frame_MaIdeal, fun m ρ _ => frame_MaIdeal m ρ trivial, frame_MaRefIdeal, fun m ρ _ => frame_MaRefIdeal m ρ trivial,
  mask_named, trivial, same_In, trivial, same_Kv, trivial, same_Out, trivial, Experts.same_Down, trivial, Experts.same_Up, trivial, same_Cs, trivial, same_Cp, trivial, same_Ma⟩

end Cert.Proof

end
